-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "qscale" .f32 0x3E16C740#32 (((Real.log 2)⁻¹ * (Real.sqrt 96)⁻¹ : ℝ) : EReal)
  ∧ IdealRules.named_const.Statement Cert.Kernel3Ideal.κ "inv_dim" .f32 0x3C2AAAAB#32 ((96⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v76_0)) (v1 : (c : Dev Cert.Kernel3Ideal.nD) → Buf (Elt Ideal) ((c.tc : Thread Cert.Kernel3Ideal.nD Cert.Kernel3Ideal.τ).loc Cert.Kernel3Ideal.main_v76_1)) (v2 : (c : Dev Cert.Kernel3Ideal.nD) → Buf (Elt Ideal) ((c.tc : Thread Cert.Kernel3Ideal.nD Cert.Kernel3Ideal.τ).loc Cert.Kernel3Ideal.main_v76_2)) (v3 : (c : Dev Cert.Kernel3Ideal.nD) → Buf (Elt Ideal) ((c.tc : Thread Cert.Kernel3Ideal.nD Cert.Kernel3Ideal.τ).loc Cert.Kernel3Ideal.main_v76_3)) (v4 : (c : Dev Cert.Kernel3Ideal.nD) → Buf (Elt Ideal) ((c.tc : Thread Cert.Kernel3Ideal.nD Cert.Kernel3Ideal.τ).loc Cert.Kernel3Ideal.main_v76_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v76_0) = v0 c
          ∧ r.2.mem ((c.tc : Thread Cert.Kernel3Ideal.nD Cert.Kernel3Ideal.τ).loc Cert.Kernel3Ideal.main_v76_1) = v1 c
          ∧ r.2.mem ((c.tc : Thread Cert.Kernel3Ideal.nD Cert.Kernel3Ideal.τ).loc Cert.Kernel3Ideal.main_v76_2) = v2 c
          ∧ r.2.mem ((c.tc : Thread Cert.Kernel3Ideal.nD Cert.Kernel3Ideal.τ).loc Cert.Kernel3Ideal.main_v76_3) = v3 c
          ∧ r.2.mem ((c.tc : Thread Cert.Kernel3Ideal.nD Cert.Kernel3Ideal.τ).loc Cert.Kernel3Ideal.main_v76_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v160) = v0 c
          ∧ r.2.mem ((c.tc : Thread Cert.Reference3Ideal.nD Cert.Reference3Ideal.τ).loc Cert.Reference3Ideal.main_v161) = v1 c
          ∧ r.2.mem ((c.tc : Thread Cert.Reference3Ideal.nD Cert.Reference3Ideal.τ).loc Cert.Reference3Ideal.main_v163) = v2 c
          ∧ r.2.mem ((c.tc : Thread Cert.Reference3Ideal.nD Cert.Reference3Ideal.τ).loc Cert.Reference3Ideal.main_v165) = v3 c
          ∧ r.2.mem ((c.tc : Thread Cert.Reference3Ideal.nD Cert.Reference3Ideal.τ).loc Cert.Reference3Ideal.main_v167) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v36)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)

variable [Facts]

def fn {F : FTy → Type} [FloatOps F] (main_arg0 : FVec F S8x4096x8x96 .f32) (main_arg1 : FVec F S8x4096x8x96 .f32) (main_arg2 : FVec F S8x4096x8x64 .f32) : IVec S8x4096x8x96 1 × IVec S8x4096x8x96 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_v3 : FVec F S8x4096x8x96 .f32 := Host.absf main_arg1
  let main_cst_0 : FVec F S_ .f32 := constant S_ .f32 0x7F800000#32
  let main_v4 : FVec F S8x4096x8x96 .f32 := broadcastInDim S8x4096x8x96 ![] bcast_S_S8x4096x8x96 main_cst_0
  let main_v5 : IVec S8x4096x8x96 1 := cmpf .olt main_v3 main_v4
  (main_v2, main_v5)
-- ==== Kernel.lean ====
abbrev S8x4096x8x96 : Shape := ⟨4, ![8, 4096, 8, 96]⟩
abbrev S8x4096x8x64 : Shape := ⟨4, ![8, 4096, 8, 64]⟩
abbrev S_ : Shape := ⟨0, ![]⟩
abbrev S8x8x96x4096 : Shape := ⟨4, ![8, 8, 96, 4096]⟩
abbrev S8x8x4096x96 : Shape := ⟨4, ![8, 8, 4096, 96]⟩
abbrev S8x8x64x4096 : Shape := ⟨4, ![8, 8, 64, 4096]⟩
abbrev S8x8x1x4096 : Shape := ⟨4, ![8, 8, 1, 4096]⟩
abbrev S8x8x15x4096 : Shape := ⟨4, ![8, 8, 15, 4096]⟩
abbrev S8x8x80x4096 : Shape := ⟨4, ![8, 8, 80, 4096]⟩
abbrev S8x512x4096 : Shape := ⟨3, ![8, 512, 4096]⟩
abbrev S1x2x96x2048 : Shape := ⟨4, ![1, 2, 96, 2048]⟩
abbrev S1x2x4096x96 : Shape := ⟨4, ![1, 2, 4096, 96]⟩
abbrev S1x2x80x4096 : Shape := ⟨4, ![1, 2, 80, 4096]⟩
abbrev S1x128x2048 : Shape := ⟨3, ![1, 128, 2048]⟩
abbrev S1x1x256x96 : Shape := ⟨4, ![1, 1, 256, 96]⟩
abbrev S256x96 : Shape := ⟨2, ![256, 96]⟩
abbrev S1x1x96x256 : Shape := ⟨4, ![1, 1, 96, 256]⟩
abbrev S96x256 : Shape := ⟨2, ![96, 256]⟩
abbrev S256x256 : Shape := ⟨2, ![256, 256]⟩
abbrev S256 : Shape := ⟨1, ![256]⟩
abbrev S1x256 : Shape := ⟨2, ![1, 256]⟩
abbrev S1x1x80x256 : Shape := ⟨4, ![1, 1, 80, 256]⟩
abbrev S80x256 : Shape := ⟨2, ![80, 256]⟩
abbrev S64x256 : Shape := ⟨2, ![64, 256]⟩
abbrev S1x64x256 : Shape := ⟨3, ![1, 64, 256]⟩

abbrev nBuf : Space → Nat
  | .hbm => 22
  | .vmem => 8
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096x8x96, .f32⟩
  | .hbm, ⟨9, _⟩ => ⟨S8x4096x8x96, .f32⟩
  | .hbm, ⟨10, _⟩ => ⟨S8x8x96x4096, .f32⟩
  | .hbm, ⟨11, _⟩ => ⟨S8x8x96x4096, .bf16⟩
  | .hbm, ⟨12, _⟩ => ⟨S8x8x4096x96, .f32⟩
  | .hbm, ⟨13, _⟩ => ⟨S8x8x4096x96, .bf16⟩
  | .hbm, ⟨14, _⟩ => ⟨S8x8x64x4096, .f32⟩
  | .hbm, ⟨15, _⟩ => ⟨S_, .f32⟩
  | .hbm, ⟨16, _⟩ => ⟨S8x8x1x4096, .f32⟩
  | .hbm, ⟨17, _⟩ => ⟨S_, .f32⟩
  | .hbm, ⟨18, _⟩ => ⟨S8x8x15x4096, .f32⟩
  | .hbm, ⟨19, _⟩ => ⟨S8x8x80x4096, .f32⟩
  | .hbm, ⟨20, _⟩ => ⟨S8x8x80x4096, .bf16⟩
  | .hbm, ⟨21, _⟩ => ⟨S8x512x4096, .bf16⟩
  | .local _ .vmem, ⟨0, _⟩ => ⟨S1x2x96x2048, .bf16⟩
  | .local _ .vmem, ⟨1, _⟩ => ⟨S1x2x96x2048, .bf16⟩
  | .local _ .vmem, ⟨2, _⟩ => ⟨S1x2x4096x96, .bf16⟩
  | .local _ .vmem, ⟨3, _⟩ => ⟨S1x2x4096x96, .bf16⟩
  | .local _ .vmem, ⟨4, _⟩ => ⟨S1x2x80x4096, .bf16⟩
  | .local _ .vmem, ⟨5, _⟩ => ⟨S1x2x80x4096, .bf16⟩
  | .local _ .vmem, ⟨6, _⟩ => ⟨S1x128x2048, .bf16⟩
  | .local _ .vmem, ⟨7, _⟩ => ⟨S1x128x2048, .bf16⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2x96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x96 : Shape := ⟨4, ![8, 4096, 8, 96]⟩
abbrev S8x4096x8x64 : Shape := ⟨4, ![8, 4096, 8, 64]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩
abbrev S8x512x4096 : Shape := ⟨3, ![8, 512, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x8x4096x4096, .f32⟩
  | .hbm, ⟨4, _⟩ => ⟨S_, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S_, .f32⟩
  | .hbm, ⟨9, _⟩ => ⟨S8x8x4096, .f32⟩
  | .hbm, ⟨10, _⟩ => ⟨S_, .f32⟩
  | .hbm, ⟨11, _⟩ => ⟨S8x8x4096, .f32⟩
  | .hbm, ⟨12, _⟩ => ⟨S8x8x4096, .f32⟩
  | .hbm, ⟨13, _⟩ => ⟨S8x8x4096x1, .f32⟩
  | .hbm, ⟨14, _⟩ => ⟨S8x8x4096x4096, .f32⟩
  | .hbm, ⟨15, _⟩ => ⟨S8x8x4096x4096, .f32⟩
  | .hbm, ⟨16, _⟩ => ⟨S8x8x4096x4096, .f32⟩
  | .hbm, ⟨17, _⟩ => ⟨S_, .f32⟩
  | .hbm, ⟨18, _⟩ => ⟨S8x8x4096, .f32⟩
  | .hbm, ⟨19, _⟩ => ⟨S8x8x4096x1, .f32⟩
  | .hbm, ⟨20, _⟩ => ⟨S8x8x4096x4096, .f32⟩
  | .hbm, ⟨21, _⟩ => ⟨S8x8x4096x4096, .f32⟩
  | .hbm, ⟨22, _⟩ => ⟨S8x8x64x4096, .f32⟩
  | .hbm, ⟨23, _⟩ => ⟨S8x4096x8x64, .f32⟩
  | .hbm, ⟨24, _⟩ => ⟨S8x4096x512, .f32⟩
  | .hbm, ⟨25, _⟩ => ⟨S8x512x4096, .f32⟩
  | .hbm, ⟨26, _⟩ => ⟨S8x512x4096, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S1x1024 : Shape := ⟨2, ![1, 1024]⟩
abbrev S1x1024x5280 : Shape := ⟨3, ![1, 1024, 5280]⟩
abbrev S1x2048 : Shape := ⟨2, ![1, 2048]⟩
abbrev S1x512x1024 : Shape := ⟨3, ![1, 512, 1024]⟩
abbrev S1x1024x1024 : Shape := ⟨3, ![1, 1024, 1024]⟩
abbrev S1024x5280 : Shape := ⟨2, ![1024, 5280]⟩
abbrev S5280x1024 : Shape := ⟨2, ![5280, 1024]⟩
abbrev S3232x1024 : Shape := ⟨2, ![3232, 1024]⟩
abbrev S1024x3232 : Shape := ⟨2, ![1024, 3232]⟩
abbrev S1024x2048 : Shape := ⟨2, ![1024, 2048]⟩
abbrev S1024 : Shape := ⟨1, ![1024]⟩
abbrev S2048 : Shape := ⟨1, ![2048]⟩
abbrev S512x1024 : Shape := ⟨2, ![512, 1024]⟩
abbrev S1024x1024 : Shape := ⟨2, ![1024, 1024]⟩
abbrev S1x1024x512 : Shape := ⟨3, ![1, 1024, 512]⟩
abbrev S512 : Shape := ⟨1, ![512]⟩
abbrev S512x1 : Shape := ⟨2, ![512, 1]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 27
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512x4096, .bf16⟩
  | .hbm, ⟨3, _⟩ => ⟨S8x4096x512, .bf16⟩
  | .hbm, ⟨4, _⟩ => ⟨S1x1024, .f32⟩
  | .hbm, ⟨5, _⟩ => ⟨S1x1024x5280, .f32⟩
  | .hbm, ⟨6, _⟩ => ⟨S1x2048, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024x5280, .f32⟩
  | .hbm, ⟨11, _⟩ => ⟨S5280x1024, .f32⟩
  | .hbm, ⟨12, _⟩ => ⟨S5280x1024, .bf16⟩
  | .hbm, ⟨13, _⟩ => ⟨S3232x1024, .bf16⟩
  | .hbm, ⟨14, _⟩ => ⟨S1024x3232, .bf16⟩
  | .hbm, ⟨15, _⟩ => ⟨S1024x2048, .bf16⟩
  | .hbm, ⟨16, _⟩ => ⟨S1024, .f32⟩
  | .hbm, ⟨17, _⟩ => ⟨S1x1024, .f32⟩
  | .hbm, ⟨18, _⟩ => ⟨S2048, .f32⟩
  | .hbm, ⟨19, _⟩ => ⟨S1x2048, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S8x512x4096 : Shape := ⟨3, ![8, 512, 4096]⟩
abbrev S8x4096x512 : Shape := ⟨3, ![8, 4096, 512]⟩
abbrev S1x1024 : Shape := ⟨2, ![1, 1024]⟩
abbrev S1x1024x5280 : Shape := ⟨3, ![1, 1024, 5280]⟩
abbrev S1x2048 : Shape := ⟨2, ![1, 2048]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5280 : Shape := ⟨2, ![1024, 5280]⟩
abbrev S8x4096x5280 : Shape := ⟨3, ![8, 4096, 5280]⟩
abbrev S8x4096x2048 : Shape := ⟨3, ![8, 4096, 2048]⟩
abbrev S512x1024 : Shape := ⟨2, ![512, 1024]⟩
abbrev S2048 : Shape := ⟨1, ![2048]⟩
abbrev S1x1x2048 : Shape := ⟨3, ![1, 1, 2048]⟩
abbrev S1024x1024 : Shape := ⟨2, ![1024, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512x4096, .bf16⟩
  | .hbm, ⟨3, _⟩ => ⟨S8x4096x512, .bf16⟩
  | .hbm, ⟨4, _⟩ => ⟨S1x1024, .f32⟩
  | .hbm, ⟨5, _⟩ => ⟨S1x1024x5280, .f32⟩
  | .hbm, ⟨6, _⟩ => ⟨S1x2048, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S8x4096x512, .f32⟩
  | .hbm, ⟨11, _⟩ => ⟨S8x512x4096, .f32⟩
  | .hbm, ⟨12, _⟩ => ⟨S8x4096x512, .f32⟩
  | .hbm, ⟨13, _⟩ => ⟨S8x4096x512, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1024x5280, .f32⟩
  | .hbm, ⟨32, _⟩ => ⟨S8x4096x5280, .f32⟩
  | .hbm, ⟨33, _⟩ => ⟨S8x4096x2048, .f32⟩
  | .hbm, ⟨34, _⟩ => ⟨S512x1024, .f32⟩
  | .hbm, ⟨35, _⟩ => ⟨S8x4096x1024, .f32⟩
  | .hbm, ⟨36, _⟩ => ⟨S8x4096x512, .f32⟩
  | .hbm, ⟨37, _⟩ => ⟨S8x4096x512, .f32⟩
  | .hbm, ⟨38, _⟩ => ⟨S_, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S512x1024, .f32⟩
  | .hbm, ⟨47, _⟩ => ⟨S8x4096x1024, .f32⟩
  | .hbm, ⟨48, _⟩ => ⟨S2048, .f32⟩
  | .hbm, ⟨49, _⟩ => ⟨S1x1x2048, .f32⟩
  | .hbm, ⟨50, _⟩ => ⟨S8x4096x2048, .f32⟩
  | .hbm, ⟨51, _⟩ => ⟨S8x4096x2048, .f32⟩
  | .hbm, ⟨52, _⟩ => ⟨S8x4096x2048, .f32⟩
  | .hbm, ⟨53, _⟩ => ⟨S8x4096x2048, .f32⟩
  | .hbm, ⟨54, _⟩ => ⟨S_, .f32⟩
  | .hbm, ⟨55, _⟩ => ⟨S8x4096x2048, .f32⟩
  | .hbm, ⟨56, _⟩ => ⟨S8x4096x2048, .f32⟩
  | .hbm, ⟨57, _⟩ => ⟨S_, .f32⟩
  | .hbm, ⟨58, _⟩ => ⟨S8x4096x2048, .f32⟩
  | .hbm, ⟨59, _⟩ => ⟨S8x4096x2048, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S1024x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x5280 : Shape := ⟨3, ![1, 1024, 5280]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x96 : Shape := ⟨2, ![1, 96]⟩
abbrev S96 : Shape := ⟨1, ![96]⟩
abbrev S640x1 : Shape := ⟨2, ![640, 1]⟩
abbrev S1024x5280 : Shape := ⟨2, ![1024, 5280]⟩
abbrev S384x768 : Shape := ⟨2, ![384, 768]⟩
abbrev S256x1024 : Shape := ⟨2, ![256, 1024]⟩
abbrev S5280x1024 : Shape := ⟨2, ![5280, 1024]⟩
abbrev S2048x1024 : Shape := ⟨2, ![2048, 1024]⟩
abbrev S3232x1024 : Shape := ⟨2, ![3232, 1024]⟩
abbrev S1024x3232 : Shape := ⟨2, ![1024, 3232]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x256 : Shape := ⟨2, ![1024, 256]⟩
abbrev S768x384 : Shape := ⟨2, ![768, 384]⟩
abbrev S256x8x128 : Shape := ⟨3, ![256, 8, 128]⟩
abbrev S256x8x64 : Shape := ⟨3, ![256, 8, 64]⟩
abbrev S256x8x80 : Shape := ⟨3, ![256, 8, 80]⟩
abbrev S256x640 : Shape := ⟨2, ![256, 640]⟩
abbrev S640x256 : Shape := ⟨2, ![640, 256]⟩
abbrev S96x1 : Shape := ⟨2, ![96, 1]⟩
abbrev S1x128 : Shape := ⟨2, ![1, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x96 : Shape := ⟨2, ![4096, 96]⟩
abbrev S1024 : Shape := ⟨1, ![1024]⟩
abbrev S384 : Shape := ⟨1, ![384]⟩
abbrev S256 : Shape := ⟨1, ![256]⟩
abbrev S4096x128 : Shape := ⟨2, ![4096, 128]⟩
abbrev S96x4096 : Shape := ⟨2, ![96, 4096]⟩
abbrev S8x2048x4096 : Shape := ⟨3, ![8, 2048, 4096]⟩
abbrev S8x4096x512 : Shape := ⟨3, ![8, 4096, 512]⟩
abbrev S8x8x96x4096 : Shape := ⟨4, ![8, 8, 96, 4096]⟩
abbrev S8x8x4096x96 : Shape := ⟨4, ![8, 8, 4096, 96]⟩
abbrev S8x8x80x4096 : Shape := ⟨4, ![8, 8, 80, 4096]⟩
abbrev S1x1024x1024 : Shape := ⟨3, ![1, 1024, 1024]⟩
abbrev S1024x128 : Shape := ⟨2, ![1024, 128]⟩
abbrev S96x1024 : Shape := ⟨2, ![96, 1024]⟩
abbrev S1x2048x1024 : Shape := ⟨3, ![1, 2048, 1024]⟩
abbrev S1x1024x512 : Shape := ⟨3, ![1, 1024, 512]⟩
abbrev S1x8x96x1024 : Shape := ⟨4, ![1, 8, 96, 1024]⟩
abbrev S1x8x1024x96 : Shape := ⟨4, ![1, 8, 1024, 96]⟩
abbrev S1x8x80x1024 : Shape := ⟨4, ![1, 8, 80, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S768x512 : Shape := ⟨2, ![768, 512]⟩
abbrev S640x512 : Shape := ⟨2, ![640, 512]⟩
abbrev S2048x512 : Shape := ⟨2, ![2048, 512]⟩
abbrev S1x2048x512 : Shape := ⟨3, ![1, 2048, 512]⟩
abbrev S1x512x512 : Shape := ⟨3, ![1, 512, 512]⟩
abbrev S96x512 : Shape := ⟨2, ![96, 512]⟩
abbrev S64x512 : Shape := ⟨2, ![64, 512]⟩
abbrev S16x512 : Shape := ⟨2, ![16, 512]⟩
abbrev S1x512 : Shape := ⟨2, ![1, 512]⟩
abbrev S1x1x96x512 : Shape := ⟨4, ![1, 1, 96, 512]⟩
abbrev S512x96 : Shape := ⟨2, ![512, 96]⟩
abbrev S1x1x512x96 : Shape := ⟨4, ![1, 1, 512, 96]⟩
abbrev S80x512 : Shape := ⟨2, ![80, 512]⟩
abbrev S1x1x80x512 : Shape := ⟨4, ![1, 1, 80, 512]⟩

abbrev nBuf : Space → Nat
  | .hbm => 116
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5280, .f32⟩
  | .hbm, ⟨3, _⟩ => ⟨S1x384, .f32⟩
  | .hbm, ⟨4, _⟩ => ⟨S1x384x768, .f32⟩
  | .hbm, ⟨5, _⟩ => ⟨S1x256, .f32⟩
  | .hbm, ⟨6, _⟩ => ⟨S1x256x1024, .f32⟩
  | .hbm, ⟨7, _⟩ => ⟨S1x96, .f32⟩
  | .hbm, ⟨8, _⟩ => ⟨S1x96, .f32⟩
  | .hbm, ⟨9, _⟩ => ⟨S96, .i32⟩
  | .hbm, ⟨10, _⟩ => ⟨S96, .i1⟩
  | .hbm, ⟨11, _⟩ => ⟨S96, .i1⟩
  | .hbm, ⟨12, _⟩ => ⟨S640x1, .f32⟩
  | .hbm, ⟨13, _⟩ => ⟨S1024x5280, .f32⟩
  | .hbm, ⟨14, _⟩ => ⟨S384x768, .f32⟩
  | .hbm, ⟨15, _⟩ => ⟨S256x1024, .f32⟩
  | .hbm, ⟨16, _⟩ => ⟨S5280x1024, .f32⟩
  | .hbm, ⟨17, _⟩ => ⟨S5280x1024, .bf16⟩
  | .hbm, ⟨18, _⟩ => ⟨S2048x1024, .bf16⟩
  | .hbm, ⟨19, _⟩ => ⟨S3232x1024, .bf16⟩
  | .hbm, ⟨20, _⟩ => ⟨S1024x3232, .bf16⟩
  | .hbm, ⟨21, _⟩ => ⟨S1024x384, .bf16⟩
  | .hbm, ⟨22, _⟩ => ⟨S_, .bf16⟩
  | .hbm, ⟨23, _⟩ => ⟨S1024x64, .bf16⟩
  | .hbm, ⟨24, _⟩ => ⟨S1024x32, .bf16⟩
  | .hbm, ⟨25, _⟩ => ⟨S_, .bf16⟩
  | .hbm, ⟨26, _⟩ => ⟨S1024x32, .bf16⟩
  | .hbm, ⟨27, _⟩ => ⟨S1024x512, .bf16⟩
  | .hbm, ⟨28, _⟩ => ⟨S1024x256, .bf16⟩
  | .hbm, ⟨29, _⟩ => ⟨S1024x512, .bf16⟩
  | .hbm, ⟨30, _⟩ => ⟨S768x384, .f32⟩
  | .hbm, ⟨31, _⟩ => ⟨S768x384, .bf16⟩
  | .hbm, ⟨32, _⟩ => ⟨S256x8x128, .f32⟩
  | .hbm, ⟨33, _⟩ => ⟨S256x8x64, .f32⟩
  | .hbm, ⟨34, _⟩ => ⟨S_, .i32⟩
  | .hbm, ⟨35, _⟩ => ⟨S_, .f32⟩
  | .hbm, ⟨36, _⟩ => ⟨S256x8x128, .f32⟩
  | .hbm, ⟨37, _⟩ => ⟨S256x1024, .f32⟩
  | .hbm, ⟨38, _⟩ => ⟨S256x1024, .bf16⟩
  | .hbm, ⟨39, _⟩ => ⟨S256x8x64, .f32⟩
  | .hbm, ⟨40, _⟩ => ⟨S_, .i32⟩
  | .hbm, ⟨41, _⟩ => ⟨S_, .f32⟩
  | .hbm, ⟨42, _⟩ => ⟨S256x8x80, .f32⟩
  | .hbm, ⟨43, _⟩ => ⟨S256x640, .f32⟩
  | .hbm, ⟨44, _⟩ => ⟨S640x256, .f32⟩
  | .hbm, ⟨45, _⟩ => ⟨S640x256, .bf16⟩
  | .hbm, ⟨46, _⟩ => ⟨S96, .f32⟩
  | .hbm, ⟨47, _⟩ => ⟨S96x1, .f32⟩
  | .hbm, ⟨48, _⟩ => ⟨S_, .i32⟩
  | .hbm, ⟨49, _⟩ => ⟨S96, .i32⟩
  | .hbm, ⟨50, _⟩ => ⟨S96, .i32⟩
  | .hbm, ⟨51, _⟩ => ⟨S96, .i32⟩
  | .hbm, ⟨52, _⟩ => ⟨S96x1, .i32⟩
  | .hbm, ⟨53, _⟩ => ⟨S96x1, .f32⟩
  | .hbm, ⟨54, _⟩ => ⟨S96, .f32⟩
  | .hbm, ⟨55, _⟩ => ⟨S1x96, .f32⟩
  | .hbm, ⟨56, _⟩ => ⟨S_, .i32⟩
  | .hbm, ⟨57, _⟩ => ⟨S96, .i32⟩
  | .hbm, ⟨58, _⟩ => ⟨S96, .i32⟩
  | .hbm, ⟨59, _⟩ => ⟨S96, .i32⟩
  | .hbm, ⟨60, _⟩ => ⟨S96x1, .i32⟩
  | .hbm, ⟨61, _⟩ => ⟨S1x96, .f32⟩
  | .hbm, ⟨62, _⟩ => ⟨S_, .i32⟩
  | .hbm, ⟨63, _⟩ => ⟨S_, .f32⟩
  | .hbm, ⟨64, _⟩ => ⟨S1x128, .f32⟩
  | .hbm, ⟨65, _⟩ => ⟨S_, .i32⟩
  | .hbm, ⟨66, _⟩ => ⟨S_, .f32⟩
  | .hbm, ⟨67, _⟩ => ⟨S1x128, .f32⟩
  | .hbm, ⟨68, _⟩ => ⟨S4096, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S4096x1, .f32⟩
  | .hbm, ⟨84, _⟩ => ⟨S1x16, .f32⟩
  | .hbm, ⟨85, _⟩ => ⟨S4096x16, .f32⟩
  | .hbm, ⟨86, _⟩ => ⟨S4096x16, .f32⟩
  | .hbm, ⟨87, _⟩ => ⟨S4096x16, .f32⟩
  | .hbm, ⟨88, _⟩ => ⟨S4096x16, .f32⟩
  | .hbm, ⟨89, _⟩ => ⟨S4096x16, .f32⟩
  | .hbm, ⟨90, _⟩ => ⟨S_, .f32⟩
  | .hbm, ⟨91, _⟩ => ⟨S4096x64, .f32⟩
  | .hbm, ⟨92, _⟩ => ⟨S4096x96, .f32⟩
  | .hbm, ⟨93, _⟩ => ⟨S_, .f32⟩
  | .hbm, ⟨94, _⟩ => ⟨S4096x64, .f32⟩
  | .hbm, ⟨95, _⟩ => ⟨S4096x16, .f32⟩
  | .hbm, ⟨96, _⟩ => ⟨S4096x96, .f32⟩
  | .hbm, ⟨97, _⟩ => ⟨S1024, .f32⟩
  | .hbm, ⟨98, _⟩ => ⟨S1x1024, .f32⟩
  | .hbm, ⟨99, _⟩ => ⟨S384, .f32⟩
  | .hbm, ⟨100, _⟩ => ⟨S1x384, .f32⟩
  | .hbm, ⟨101, _⟩ => ⟨S256, .f32⟩
  | .hbm, ⟨102, _⟩ => ⟨S1x256, .f32⟩
  | .hbm, ⟨103, _⟩ => ⟨S_, .i32⟩
  | .hbm, ⟨104, _⟩ => ⟨S_, .f32⟩
  | .hbm, ⟨105, _⟩ => ⟨S4096x128, .f32⟩
  | .hbm, ⟨106, _⟩ => ⟨S_, .i32⟩
  | .hbm, ⟨107, _⟩ => ⟨S_, .f32⟩
  | .hbm, ⟨108, _⟩ => ⟨S4096x128, .f32⟩
  | .hbm, ⟨109, _⟩ => ⟨S96x4096, .f32⟩
  | .hbm, ⟨110, _⟩ => ⟨S96x4096, .f32⟩
  | .hbm, ⟨111, _⟩ => ⟨S8x2048x4096, .bf16⟩
  | .hbm, ⟨112, _⟩ => ⟨S8x4096x512, .bf16⟩
  | .hbm, ⟨113, _⟩ => ⟨S8x8x96x4096, .bf16⟩
  | .hbm, ⟨114, _⟩ => ⟨S8x8x4096x96, .bf16⟩
  | .hbm, ⟨115, _⟩ => ⟨S8x8x80x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2048x1024, .bf16⟩
  | .local _ .vmem, ⟨4, _⟩ => ⟨S1024x512, .bf16⟩
  | .local _ .vmem, ⟨5, _⟩ => ⟨S1024x256, .bf16⟩
  | .local _ .vmem, ⟨6, _⟩ => ⟨S1024x512, .bf16⟩
  | .local _ .vmem, ⟨7, _⟩ => ⟨S1x384, .f32⟩
  | .local _ .vmem, ⟨8, _⟩ => ⟨S1x256, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S96x1024, .f32⟩
  | .local _ .vmem, ⟨14, _⟩ => ⟨S96x1024, .f32⟩
  | .local _ .vmem, ⟨15, _⟩ => ⟨S96x1024, .f32⟩
  | .local _ .vmem, ⟨16, _⟩ => ⟨S96x1024, .f32⟩
  | .local _ .vmem, ⟨17, _⟩ => ⟨S768x384, .bf16⟩
  | .local _ .vmem, ⟨18, _⟩ => ⟨S256x1024, .bf16⟩
  | .local _ .vmem, ⟨19, _⟩ => ⟨S640x256, .bf16⟩
  | .local _ .vmem, ⟨20, _⟩ => ⟨S96x1, .f32⟩
  | .local _ .vmem, ⟨21, _⟩ => ⟨S96x1, .f32⟩
  | .local _ .vmem, ⟨22, _⟩ => ⟨S1x128, .f32⟩
  | .local _ .vmem, ⟨23, _⟩ => ⟨S1x128, .f32⟩
  | .local _ .vmem, ⟨24, _⟩ => ⟨S640x1, .f32⟩
  | .local _ .vmem, ⟨25, _⟩ => ⟨S1x2048x1024, .bf16⟩
  | .local _ .vmem, ⟨26, _⟩ => ⟨S1x2048x1024, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x8x96x1024, .bf16⟩
  | .local _ .vmem, ⟨30, _⟩ => ⟨S1x8x96x1024, .bf16⟩
  | .local _ .vmem, ⟨31, _⟩ => ⟨S1x8x1024x96, .bf16⟩
  | .local _ .vmem, ⟨32, _⟩ => ⟨S1x8x1024x96, .bf16⟩
  | .local _ .vmem, ⟨33, _⟩ => ⟨S1x8x80x1024, .bf16⟩
  | .local _ .vmem, ⟨34, _⟩ => ⟨S1x8x80x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_call2_v0 : Ref sig .tc := ⟨.hbm, 63, rfl⟩
abbrev main_v41 : Ref sig .tc := ⟨.hbm, 64, rfl⟩
abbrev main_c_9 : Ref sig .tc := ⟨.hbm, 65, rfl⟩
abbrev main_call3_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_call4_v0 : Ref sig .tc := ⟨.hbm, 104, rfl⟩
abbrev main_v72 : Ref sig .tc := ⟨.hbm, 105, rfl⟩
abbrev main_c_17 : Ref sig .tc := ⟨.hbm, 106, rfl⟩
abbrev main_call5_v0 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76_0 : Ref sig .tc := ⟨.hbm, 111, rfl⟩
abbrev main_v76_1 : Ref sig .tc := ⟨.hbm, 112, rfl⟩
abbrev main_v76_2 : Ref sig .tc := ⟨.hbm, 113, rfl⟩
abbrev main_v76_3 : Ref sig .tc := ⟨.hbm, 114, rfl⟩
abbrev main_v76_4 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S96x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S96x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S768x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S640x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S96x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S96x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S640x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x2048x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x96x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x1024x96 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x80x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Kernel3Ideal.lean ====
variable {F : FTy → Type} [FloatOps F] [Named F]
def κ : String → Option EReal := fun
  | "inv_dim" => some ((96⁻¹ : ℝ) : EReal)
  | "qscale" => some (((Real.log 2)⁻¹ * (Real.sqrt 96)⁻¹ : ℝ) : EReal)
  | _ => none
-- ==== Reference3Ideal.lean ====
abbrev S8x4096x1024 : Shape := ⟨3, ![8, 4096, 1024]⟩
abbrev S1x1024 : Shape := ⟨2, ![1, 1024]⟩
abbrev S1x1024x5280 : Shape := ⟨3, ![1, 1024, 5280]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x96 : Shape := ⟨2, ![1, 96]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x5280 : Shape := ⟨2, ![1024, 5280]⟩
abbrev S8x4096x5280 : Shape := ⟨3, ![8, 4096, 5280]⟩
abbrev S8x4096x2048 : Shape := ⟨3, ![8, 4096, 2048]⟩
abbrev S8x4096x384 : Shape := ⟨3, ![8, 4096, 384]⟩
abbrev S8x4096x256 : Shape := ⟨3, ![8, 4096, 256]⟩
abbrev S8x4096x32 : Shape := ⟨3, ![8, 4096, 32]⟩
abbrev S8x4096x512 : Shape := ⟨3, ![8, 4096, 512]⟩
abbrev S384 : Shape := ⟨1, ![384]⟩
abbrev S1x1x384 : Shape := ⟨3, ![1, 1, 384]⟩
abbrev S384x768 : Shape := ⟨2, ![384, 768]⟩
abbrev S8x4096x768 : Shape := ⟨3, ![8, 4096, 768]⟩
abbrev S8x4096x8x96 : Shape := ⟨4, ![8, 4096, 8, 96]⟩
abbrev S256 : Shape := ⟨1, ![256]⟩
abbrev S1x1x256 : Shape := ⟨3, ![1, 1, 256]⟩
abbrev S256x1024 : Shape := ⟨2, ![256, 1024]⟩
abbrev S8x4096x8x128 : Shape := ⟨4, ![8, 4096, 8, 128]⟩
abbrev S8x4096x8x64 : Shape := ⟨4, ![8, 4096, 8, 64]⟩
abbrev S8x4096x1x32 : Shape := ⟨4, ![8, 4096, 1, 32]⟩
abbrev S8x4096x8x32 : Shape := ⟨4, ![8, 4096, 8, 32]⟩
abbrev S96 : Shape := ⟨1, ![96]⟩
abbrev S8x4096x8 : Shape := ⟨3, ![8, 4096, 8]⟩
abbrev S8x4096x8x1 : Shape := ⟨4, ![8, 4096, 8, 1]⟩
abbrev S1x1x1x96 : Shape := ⟨4, ![1, 1, 1, 96]⟩
abbrev S8x4096x8x16 : Shape := ⟨4, ![8, 4096, 8, 16]⟩
abbrev S4096x1x16 : Shape := ⟨3, ![4096, 1, 16]⟩
abbrev S1x4096x1x16 : Shape := ⟨4, ![1, 4096, 1, 16]⟩
abbrev S8x4096x8x15 : Shape := ⟨4, ![8, 4096, 8, 15]⟩
abbrev S8x4096x8x80 : Shape := ⟨4, ![8, 4096, 8, 80]⟩
abbrev S8x2048x4096 : Shape := ⟨3, ![8, 2048, 4096]⟩
abbrev S8x8x96x4096 : Shape := ⟨4, ![8, 8, 96, 4096]⟩
abbrev S8x8x4096x96 : Shape := ⟨4, ![8, 8, 4096, 96]⟩
abbrev S8x8x80x4096 : Shape := ⟨4, ![8, 8, 80, 4096]⟩

abbrev nBuf : Space → Nat
  | .hbm => 200
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5280, .f32⟩
  | 3 => ⟨S1x384, .f32⟩
  | 4 => ⟨S1x384x768, .f32⟩
  | 5 => ⟨S1x256, .f32⟩
  | 6 => ⟨S1x256x1024, .f32⟩
  | 7 => ⟨S1x96, .f32⟩
  | 8 => ⟨S1x96, .f32⟩
  | 9 => ⟨S4096, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x16, .f32⟩
  | 30 => ⟨S4096x16, .f32⟩
  | 31 => ⟨S1024, .f32⟩
  | 32 => ⟨S8x4096x1024, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x1024, .f32⟩
  | 44 => ⟨S8x4096x1024, .f32⟩
  | 45 => ⟨S1x1x1024, .f32⟩
  | 46 => ⟨S8x4096x1024, .f32⟩
  | 47 => ⟨S8x4096x1024, .f32⟩
  | 48 => ⟨S1024x5280, .f32⟩
  | 49 => ⟨S8x4096x5280, .f32⟩
  | 50 => ⟨S8x4096x2048, .f32⟩
  | 51 => ⟨S8x4096x384, .f32⟩
  | 52 => ⟨S8x4096x256, .f32⟩
  | 53 => ⟨S8x4096x32, .f32⟩
  | 54 => ⟨S8x4096x512, .f32⟩
  | 55 => ⟨S8x4096x2048, .f32⟩
  | 56 => ⟨S384, .f32⟩
  | 57 => ⟨S8x4096x384, .f32⟩
  | 58 => ⟨S_, .f32⟩
  | 59 => ⟨S8x4096, .f32⟩
  | 60 => ⟨S8x4096x1, .f32⟩
  | 61 => ⟨S_, .f32⟩
  | 62 => ⟨S8x4096x1, .f32⟩
  | 63 => ⟨S8x4096x1, .f32⟩
  | 64 => ⟨S_, .f32⟩
  | 65 => ⟨S8x4096x1, .f32⟩
  | 66 => ⟨S8x4096x1, .f32⟩
  | 67 => ⟨S8x4096x1, .f32⟩
  | 68 => ⟨S8x4096x384, .f32⟩
  | 69 => ⟨S8x4096x384, .f32⟩
  | 70 => ⟨S1x1x384, .f32⟩
  | 71 => ⟨S8x4096x384, .f32⟩
  | 72 => ⟨S8x4096x384, .f32⟩
  | 73 => ⟨S384x768, .f32⟩
  | 74 => ⟨S8x4096x768, .f32⟩
  | 75 => ⟨S8x4096x8x96, .f32⟩
  | 76 => ⟨S256, .f32⟩
  | 77 => ⟨S8x4096x256, .f32⟩
  | 78 => ⟨S_, .f32⟩
  | 79 => ⟨S8x4096, .f32⟩
  | 80 => ⟨S8x4096x1, .f32⟩
  | 81 => ⟨S_, .f32⟩
  | 82 => ⟨S8x4096x1, .f32⟩
  | 83 => ⟨S8x4096x1, .f32⟩
  | 84 => ⟨S_, .f32⟩
  | 85 => ⟨S8x4096x1, .f32⟩
  | 86 => ⟨S8x4096x1, .f32⟩
  | 87 => ⟨S8x4096x1, .f32⟩
  | 88 => ⟨S8x4096x256, .f32⟩
  | 89 => ⟨S8x4096x256, .f32⟩
  | 90 => ⟨S1x1x256, .f32⟩
  | 91 => ⟨S8x4096x256, .f32⟩
  | 92 => ⟨S8x4096x256, .f32⟩
  | 93 => ⟨S256x1024, .f32⟩
  | 94 => ⟨S8x4096x1024, .f32⟩
  | 95 => ⟨S8x4096x8x128, .f32⟩
  | 96 => ⟨S8x4096x8x64, .f32⟩
  | 97 => ⟨S8x4096x8x64, .f32⟩
  | 98 => ⟨S8x4096x1x32, .f32⟩
  | 99 => ⟨S8x4096x8x32, .f32⟩
  | 100 => ⟨S8x4096x8x96, .f32⟩
  | 101 => ⟨S96, .f32⟩
  | 102 => ⟨S8x4096x8x96, .f32⟩
  | 103 => ⟨S_, .f32⟩
  | 104 => ⟨S8x4096x8, .f32⟩
  | 105 => ⟨S8x4096x8x1, .f32⟩
  | 106 => ⟨S_, .f32⟩
  | 107 => ⟨S8x4096x8x1, .f32⟩
  | 108 => ⟨S8x4096x8x1, .f32⟩
  | 109 => ⟨S_, .f32⟩
  | 110 => ⟨S8x4096x8x1, .f32⟩
  | 111 => ⟨S8x4096x8x1, .f32⟩
  | 112 => ⟨S8x4096x8x1, .f32⟩
  | 113 => ⟨S8x4096x8x96, .f32⟩
  | 114 => ⟨S8x4096x8x96, .f32⟩
  | 115 => ⟨S1x1x1x96, .f32⟩
  | 116 => ⟨S8x4096x8x96, .f32⟩
  | 117 => ⟨S8x4096x8x96, .f32⟩
  | 118 => ⟨S96, .f32⟩
  | 119 => ⟨S8x4096x8x96, .f32⟩
  | 120 => ⟨S_, .f32⟩
  | 121 => ⟨S8x4096x8, .f32⟩
  | 122 => ⟨S8x4096x8x1, .f32⟩
  | 123 => ⟨S_, .f32⟩
  | 124 => ⟨S8x4096x8x1, .f32⟩
  | 125 => ⟨S8x4096x8x1, .f32⟩
  | 126 => ⟨S_, .f32⟩
  | 127 => ⟨S8x4096x8x1, .f32⟩
  | _ => ⟨S8x4096x1024, .f32⟩

abbrev hbmTy0_1 (i : Nat) : BufTy := match i % 128 with
  | 0 => ⟨S8x4096x8x1, .f32⟩
  | 1 => ⟨S8x4096x8x1, .f32⟩
  | 2 => ⟨S8x4096x8x96, .f32⟩
  | 3 => ⟨S8x4096x8x96, .f32⟩
  | 4 => ⟨S1x1x1x96, .f32⟩
  | 5 => ⟨S8x4096x8x96, .f32⟩
  | 6 => ⟨S8x4096x8x96, .f32⟩
  | 7 => ⟨S8x4096x8x64, .f32⟩
  | 8 => ⟨S8x4096x8x32, .f32⟩
  | 9 => ⟨S8x4096x8x16, .f32⟩
  | 10 => ⟨S8x4096x8x16, .f32⟩
  | 11 => ⟨S4096x1x16, .f32⟩
  | 12 => ⟨S4096x1x16, .f32⟩
  | 13 => ⟨S1x4096x1x16, .f32⟩
  | 14 => ⟨S8x4096x8x16, .f32⟩
  | 15 => ⟨S8x4096x8x16, .f32⟩
  | 16 => ⟨S1x4096x1x16, .f32⟩
  | 17 => ⟨S8x4096x8x16, .f32⟩
  | 18 => ⟨S8x4096x8x16, .f32⟩
  | 19 => ⟨S8x4096x8x16, .f32⟩
  | 20 => ⟨S1x4096x1x16, .f32⟩
  | 21 => ⟨S8x4096x8x16, .f32⟩
  | 22 => ⟨S8x4096x8x16, .f32⟩
  | 23 => ⟨S1x4096x1x16, .f32⟩
  | 24 => ⟨S8x4096x8x16, .f32⟩
  | 25 => ⟨S8x4096x8x16, .f32⟩
  | 26 => ⟨S8x4096x8x16, .f32⟩
  | 27 => ⟨S8x4096x8x32, .f32⟩
  | 28 => ⟨S8x4096x8x96, .f32⟩
  | 29 => ⟨S8x4096x8x64, .f32⟩
  | 30 => ⟨S8x4096x8x32, .f32⟩
  | 31 => ⟨S8x4096x8x16, .f32⟩
  | 32 => ⟨S8x4096x8x16, .f32⟩
  | 33 => ⟨S4096x1x16, .f32⟩
  | 34 => ⟨S4096x1x16, .f32⟩
  | 35 => ⟨S1x4096x1x16, .f32⟩
  | 36 => ⟨S8x4096x8x16, .f32⟩
  | 37 => ⟨S8x4096x8x16, .f32⟩
  | 38 => ⟨S1x4096x1x16, .f32⟩
  | 39 => ⟨S8x4096x8x16, .f32⟩
  | 40 => ⟨S8x4096x8x16, .f32⟩
  | 41 => ⟨S8x4096x8x16, .f32⟩
  | 42 => ⟨S1x4096x1x16, .f32⟩
  | 43 => ⟨S8x4096x8x16, .f32⟩
  | 44 => ⟨S8x4096x8x16, .f32⟩
  | 45 => ⟨S1x4096x1x16, .f32⟩
  | 46 => ⟨S8x4096x8x16, .f32⟩
  | 47 => ⟨S8x4096x8x16, .f32⟩
  | 48 => ⟨S8x4096x8x16, .f32⟩
  | 49 => ⟨S8x4096x8x32, .f32⟩
  | 50 => ⟨S8x4096x8x96, .f32⟩
  | 51 => ⟨S_, .f32⟩
  | 52 => ⟨S_, .f32⟩
  | 53 => ⟨S_, .f32⟩
  | 54 => ⟨S_, .f32⟩
  | 55 => ⟨S_, .f32⟩
  | 56 => ⟨S8x4096x8x96, .f32⟩
  | 57 => ⟨S8x4096x8x96, .f32⟩
  | 58 => ⟨S_, .f32⟩
  | 59 => ⟨S8x4096x8x1, .f32⟩
  | 60 => ⟨S_, .f32⟩
  | 61 => ⟨S8x4096x8x15, .f32⟩
  | 62 => ⟨S8x4096x8x80, .f32⟩
  | 63 => ⟨S8x2048x4096, .f32⟩
  | 64 => ⟨S8x2048x4096, .bf16⟩
  | 65 => ⟨S8x4096x512, .bf16⟩
  | 66 => ⟨S8x8x96x4096, .f32⟩
  | 67 => ⟨S8x8x96x4096, .bf16⟩
  | 68 => ⟨S8x8x4096x96, .f32⟩
  | 69 => ⟨S8x8x4096x96, .bf16⟩
  | 70 => ⟨S8x8x80x4096, .f32⟩
  | 71 => ⟨S8x8x80x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_cst_16 : Ref sig .tc := ⟨.hbm, 123, rfl⟩
abbrev main_v97 : Ref sig .tc := ⟨.hbm, 124, rfl⟩
abbrev main_v98 : Ref sig .tc := ⟨.hbm, 125, rfl⟩
abbrev main_cst_17 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_cst_18 : Ref sig .tc := ⟨.hbm, 179, rfl⟩
abbrev main_v151 : Ref sig .tc := ⟨.hbm, 180, rfl⟩
abbrev main_cst_19 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_20 : Ref sig .tc := ⟨.hbm, 186, rfl⟩
abbrev main_v156 : Ref sig .tc := ⟨.hbm, 187, rfl⟩
abbrev main_cst_21 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]
-- ==== Kernel4.lean ====
abbrev S1x33x64 : Shape := ⟨3, ![1, 33, 64]⟩
abbrev S1x64 : Shape := ⟨2, ![1, 64]⟩
abbrev S1x64x64 : Shape := ⟨3, ![1, 64, 64]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x128 : Shape := ⟨2, ![4096, 128]⟩
abbrev S33x64 : Shape := ⟨2, ![33, 64]⟩
abbrev S95x64 : Shape := ⟨2, ![95, 64]⟩
abbrev S128x64 : Shape := ⟨2, ![128, 64]⟩
abbrev S128x4096 : Shape := ⟨2, ![128, 4096]⟩
abbrev S1x128x4096 : Shape := ⟨3, ![1, 128, 4096]⟩
abbrev S2x128x4096 : Shape := ⟨3, ![2, 128, 4096]⟩
abbrev S64x128 : Shape := ⟨2, ![64, 128]⟩
abbrev S64 : Shape := ⟨1, ![64]⟩
abbrev S64x1 : Shape := ⟨2, ![64, 1]⟩
abbrev S64x64 : Shape := ⟨2, ![64, 64]⟩
abbrev S2x64x4096 : Shape := ⟨3, ![2, 64, 4096]⟩
abbrev S1x64x4096 : Shape := ⟨3, ![1, 64, 4096]⟩
abbrev S64x4096 : Shape := ⟨2, ![64, 4096]⟩

abbrev nBuf : Space → Nat
  | .hbm => 91
  | .vmem => 10
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4095, .f32⟩
  | .hbm, ⟨14, _⟩ => ⟨S_, .f32⟩
  | .hbm, ⟨15, _⟩ => ⟨S4095, .f32⟩
  | .hbm, ⟨16, _⟩ => ⟨S4095, .f32⟩
  | .hbm, ⟨17, _⟩ => ⟨S1, .f32⟩
  | .hbm, ⟨18, _⟩ => ⟨S_, .f32⟩
  | .hbm, ⟨19, _⟩ => ⟨S4095, .f32⟩
  | .hbm, ⟨20, _⟩ => ⟨S4095, .f32⟩
  | .hbm, ⟨21, _⟩ => ⟨S4095, .f32⟩
  | .hbm, ⟨22, _⟩ => ⟨S4095, .f32⟩
  | .hbm, ⟨23, _⟩ => ⟨S1, .f32⟩
  | .hbm, ⟨24, _⟩ => ⟨S4095, .f32⟩
  | .hbm, ⟨25, _⟩ => ⟨S4095, .f32⟩
  | .hbm, ⟨26, _⟩ => ⟨S4095, .f32⟩
  | .hbm, ⟨27, _⟩ => ⟨S1, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S15, .f32⟩
  | .hbm, ⟨38, _⟩ => ⟨S_, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S_, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S1, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S1, .f32⟩
  | .hbm, ⟨52, _⟩ => ⟨S16, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x33, .f32⟩
  | .hbm, ⟨66, _⟩ => ⟨S_, .i32⟩
  | .hbm, ⟨67, _⟩ => ⟨S_, .f32⟩
  | .hbm, ⟨68, _⟩ => ⟨S4096x128, .f32⟩
  | .hbm, ⟨69, _⟩ => ⟨S33x64, .f32⟩
  | .hbm, ⟨70, _⟩ => ⟨S_, .f32⟩
  | .hbm, ⟨71, _⟩ => ⟨S95x64, .f32⟩
  | .hbm, ⟨72, _⟩ => ⟨S128x64, .f32⟩
  | .hbm, ⟨73, _⟩ => ⟨S128x4096, .f32⟩
  | .hbm, ⟨74, _⟩ => ⟨S4096x128, .f32⟩
  | .hbm, ⟨75, _⟩ => ⟨S128x4096, .f32⟩
  | .hbm, ⟨76, _⟩ => ⟨S1x128x4096, .f32⟩
  | .hbm, ⟨77, _⟩ => ⟨S1x128x4096, .f32⟩
  | .hbm, ⟨78, _⟩ => ⟨S2x128x4096, .f32⟩
  | .hbm, ⟨79, _⟩ => ⟨S64x128, .f32⟩
  | .hbm, ⟨80, _⟩ => ⟨S64, .f32⟩
  | .hbm, ⟨81, _⟩ => ⟨S64x1, .f32⟩
  | .hbm, ⟨82, _⟩ => ⟨S64, .f32⟩
  | .hbm, ⟨83, _⟩ => ⟨S64x1, .f32⟩
  | .hbm, ⟨84, _⟩ => ⟨S64x64, .f32⟩
  | .hbm, ⟨85, _⟩ => ⟨S64x64, .f32⟩
  | .hbm, ⟨86, _⟩ => ⟨S64, .f32⟩
  | .hbm, ⟨87, _⟩ => ⟨S64x1, .f32⟩
  | .hbm, ⟨88, _⟩ => ⟨S64, .f32⟩
  | .hbm, ⟨89, _⟩ => ⟨S64x1, .f32⟩
  | .hbm, ⟨90, _⟩ => ⟨S2x64x4096, .f32⟩
  | .local _ .vmem, ⟨0, _⟩ => ⟨S1x128x4096, .f32⟩
  | .local _ .vmem, ⟨1, _⟩ => ⟨S1x128x4096, .f32⟩
  | .local _ .vmem, ⟨2, _⟩ => ⟨S64x128, .f32⟩
  | .local _ .vmem, ⟨3, _⟩ => ⟨S64x1, .f32⟩
  | .local _ .vmem, ⟨4, _⟩ => ⟨S64x1, .f32⟩
  | .local _ .vmem, ⟨5, _⟩ => ⟨S64x64, .f32⟩
  | .local _ .vmem, ⟨6, _⟩ => ⟨S64x1, .f32⟩
  | .local _ .vmem, ⟨7, _⟩ => ⟨S64x1, .f32⟩
  | .local _ .vmem, ⟨8, _⟩ => ⟨S1x64x4096, .f32⟩
  | .local _ .vmem, ⟨9, _⟩ => ⟨S1x64x4096, .f32⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_cst_1 : Ref sig .tc := ⟨.hbm, 30, rfl⟩
abbrev main_c : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_2 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_c_3 : Ref sig .tc := ⟨.hbm, 66, rfl⟩
abbrev main_call2_v0 : Ref sig .tc := ⟨.hbm, 67, rfl⟩
abbrev main_v15 : Ref sig .tc := ⟨.hbm, 68, rfl⟩
abbrev main_v16 : Ref sig .tc := ⟨.hbm, 69, rfl⟩
abbrev main_cst_4 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1x33x64 : Shape := ⟨3, ![1, 33, 64]⟩
abbrev S1x64 : Shape := ⟨2, ![1, 64]⟩
abbrev S1x64x64 : Shape := ⟨3, ![1, 64, 64]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S64 : Shape := ⟨1, ![64]⟩
abbrev S33x64 : Shape := ⟨2, ![33, 64]⟩
abbrev S4096x64 : Shape := ⟨2, ![4096, 64]⟩
abbrev S64x64 : Shape := ⟨2, ![64, 64]⟩
abbrev S1x4096x64 : Shape := ⟨3, ![1, 4096, 64]⟩
abbrev S2x4096x64 : Shape := ⟨3, ![2, 4096, 64]⟩
abbrev S2x64x4096 : Shape := ⟨3, ![2, 64, 4096]⟩

abbrev nBuf : Space → Nat
  | .hbm => 93
  | .vmem => 0
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4095, .f32⟩
  | .hbm, ⟨14, _⟩ => ⟨S_, .f32⟩
  | .hbm, ⟨15, _⟩ => ⟨S4095, .f32⟩
  | .hbm, ⟨16, _⟩ => ⟨S4095, .f32⟩
  | .hbm, ⟨17, _⟩ => ⟨S1, .f32⟩
  | .hbm, ⟨18, _⟩ => ⟨S_, .f32⟩
  | .hbm, ⟨19, _⟩ => ⟨S4095, .f32⟩
  | .hbm, ⟨20, _⟩ => ⟨S4095, .f32⟩
  | .hbm, ⟨21, _⟩ => ⟨S4095, .f32⟩
  | .hbm, ⟨22, _⟩ => ⟨S4095, .f32⟩
  | .hbm, ⟨23, _⟩ => ⟨S1, .f32⟩
  | .hbm, ⟨24, _⟩ => ⟨S4095, .f32⟩
  | .hbm, ⟨25, _⟩ => ⟨S4095, .f32⟩
  | .hbm, ⟨26, _⟩ => ⟨S4095, .f32⟩
  | .hbm, ⟨27, _⟩ => ⟨S1, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S15, .f32⟩
  | .hbm, ⟨38, _⟩ => ⟨S_, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S_, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S1, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S1, .f32⟩
  | .hbm, ⟨52, _⟩ => ⟨S16, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x33, .f32⟩
  | .hbm, ⟨66, _⟩ => ⟨S64, .f32⟩
  | .hbm, ⟨67, _⟩ => ⟨S33x64, .f32⟩
  | .hbm, ⟨68, _⟩ => ⟨S4096x64, .f32⟩
  | .hbm, ⟨69, _⟩ => ⟨S64, .f32⟩
  | .hbm, ⟨70, _⟩ => ⟨S1x64, .f32⟩
  | .hbm, ⟨71, _⟩ => ⟨S4096x64, .f32⟩
  | .hbm, ⟨72, _⟩ => ⟨S4096x64, .f32⟩
  | .hbm, ⟨73, _⟩ => ⟨S1x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S64, .f32⟩
  | .hbm, ⟨78, _⟩ => ⟨S64x64, .f32⟩
  | .hbm, ⟨79, _⟩ => ⟨S4096x64, .f32⟩
  | .hbm, ⟨80, _⟩ => ⟨S64, .f32⟩
  | .hbm, ⟨81, _⟩ => ⟨S1x64, .f32⟩
  | .hbm, ⟨82, _⟩ => ⟨S4096x64, .f32⟩
  | .hbm, ⟨83, _⟩ => ⟨S4096x64, .f32⟩
  | .hbm, ⟨84, _⟩ => ⟨S1x64, .f32⟩
  | .hbm, ⟨85, _⟩ => ⟨S4096x64, .f32⟩
  | .hbm, ⟨86, _⟩ => ⟨S4096x64, .f32⟩
  | .hbm, ⟨87, _⟩ => ⟨S4096x64, .f32⟩
  | .hbm, ⟨88, _⟩ => ⟨S4096x64, .f32⟩
  | .hbm, ⟨89, _⟩ => ⟨S1x4096x64, .f32⟩
  | .hbm, ⟨90, _⟩ => ⟨S1x4096x64, .f32⟩
  | .hbm, ⟨91, _⟩ => ⟨S2x4096x64, .f32⟩
  | .hbm, ⟨92, _⟩ => ⟨S2x64x4096, .f32⟩
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_cst_1 : Ref sig .tc := ⟨.hbm, 30, rfl⟩
abbrev main_c : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_2 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩

abbrev nD : Nat := 1
abbrev τ : Topo := Topo.v7x

variable {F : FTy → Type} [FloatOps F]
-- ==== Proof.AttendFlash.lean ====
/-
  The attention kernel's body as a recurrence: for a tile of queries, the running maximum of the scores (`mx`) and the
  accumulated rows (`acc`) over the chunks of keys seen so far, at vectors. Each block the body stores is `finish` of the
  last accumulated rows (`out_eq`).
-/
module

public import proofs.«01_k».proof.Proof.Gen.KernelIdeal.Value

@[expose] public section

set_option maxRecDepth 16384

noncomputable section

namespace Cert.KernelIdeal.Attend

open Cert.KernelIdeal Cert.KernelIdeal.Gen Idealize.ShloMosaic Idealize.ShloMosaic.TcCoe Idealize.SL.Sem

variable {F : FTy → Type} [FloatOps F]

/-! ### One chunk -/

/-- The scores of a chunk of keys (rows) against a tile of queries (columns). -/
def scores (k : Vec F S1x1x256x96 .bf16) (q : Vec F S1x1x96x256 .bf16) : FVec F S256x256 .f32 :=
  matmul dot_S256x96_S96x256_S256x256_1_0_0_1_n_n none (shapeCast S256x96 k shapeCasts_S1x1x256x96_S256x96)
    (shapeCast S96x256 q shapeCasts_S1x1x96x256_S96x256) (constant S256x256 .f32 0x00000000#32)

/-- The largest score of each query. -/
def colMax (s : FVec F S256x256 .f32) : FVec F S1x256 .f32 :=
  shapeCast S1x256 (multiReduction .maximumf [0] S256 s 0xFF800000#32 reduces_S256x256_S256 (.inl rfl) rfl) shapeCasts_S256_S1x256

/-- The chunk's rows of values, weighted by the powers of two of the scores less `m`. -/
def weighted (v : Vec F S1x1x80x256 .bf16) (s : FVec F S256x256 .f32) (m : FVec F S1x256 .f32) : FVec F S80x256 .f32 :=
  matmul dot_S80x256_S256x256_S80x256_1_0_0_1_n_n none (shapeCast S80x256 v shapeCasts_S1x1x80x256_S80x256)
    (truncf .bf16 (exp2 (subf s (broadcastTo S256x256 m broadcasts_S1x256_S256x256))) bitsLt_bf16_f32) (constant S80x256 .f32 0x00000000#32)

/-- The accumulated rows brought from the maximum `m` to the maximum `m'`, and the chunk's rows added. -/
def fold (m m' : FVec F S1x256 .f32) (a : FVec F S80x256 .f32) (w : FVec F S80x256 .f32) : FVec F S80x256 .f32 :=
  addf (mulf (broadcastTo S80x256 (exp2 (subf m m')) broadcasts_S1x256_S80x256) a) w

/-- The block stored: the rows of values over the row of weights. -/
def finish (a : FVec F S80x256 .f32) : FVec F S1x64x256 .bf16 :=
  shapeCast S1x64x256 (truncf .bf16 (divf (extractStridedSlice S64x256 ![0, 0] a slices_S80x256_o0_0_S64x256)
    (broadcastTo S64x256 (extractStridedSlice S1x256 ![64, 0] a slices_S80x256_o64_0_S1x256) broadcasts_S1x256_S64x256)) bitsLt_bf16_f32) shapeCasts_S64x256_S1x64x256

/-! ### The recurrence over chunks -/

/-- The running maximum after chunks `0` to `n` of scores `s`. -/
def mx (s : ℕ → FVec F S256x256 .f32) : ℕ → FVec F S1x256 .f32
  | 0 => colMax (s 0)
  | n + 1 => maximumf (mx s n) (colMax (s (n + 1)))

/-- The accumulated rows after chunks `0` to `n`. -/
def acc (s : ℕ → FVec F S256x256 .f32) (v : ℕ → Vec F S1x1x80x256 .bf16) : ℕ → FVec F S80x256 .f32
  | 0 => weighted (v 0) (s 0) (mx s 0)
  | n + 1 => fold (mx s n) (mx s (n + 1)) (acc s v n) (weighted (v (n + 1)) (s (n + 1)) (mx s (n + 1)))

/-! ### The loads and the stores -/

/-- Chunk `i` of the keys of head `j` of the pair. -/
def keys (x1 : Vec F S1x2x4096x96 .bf16) (j : Fin 2) (i : ℕ) : Vec F S1x1x256x96 .bf16 :=
  View.ld x1 (Rect.unit (s := S1x2x4096x96) ![0, j, 256 * (i % 16), 0] S1x1x256x96.size (by intro a; fin_cases a <;> simp [S1x1x256x96, S1x2x4096x96] <;> omega))

/-- Tile `u` of the queries of head `j` of the pair. -/
def queries (x0 : Vec F S1x2x96x2048 .bf16) (j : Fin 2) (u : Fin 8) : Vec F S1x1x96x256 .bf16 :=
  View.ld x0 (Rect.unit (s := S1x2x96x2048) ![0, j, 0, 256 * u] S1x1x96x256.size (by intro a; fin_cases a <;> simp [S1x1x96x256, S1x2x96x2048] <;> omega))

/-- Chunk `i` of the values of head `j` of the pair. -/
def values (x2 : Vec F S1x2x80x4096 .bf16) (j : Fin 2) (i : ℕ) : Vec F S1x1x80x256 .bf16 :=
  View.ld x2 (Rect.unit (s := S1x2x80x4096) ![0, j, 0, 256 * (i % 16)] S1x1x80x256.size (by intro a; fin_cases a <;> simp [S1x1x80x256, S1x2x80x4096] <;> omega))

/-- What the body stores for tile `u` of head `j`. -/
def piece (x0 : Vec F S1x2x96x2048 .bf16) (x1 : Vec F S1x2x4096x96 .bf16) (x2 : Vec F S1x2x80x4096 .bf16) (j : Fin 2) (u : Fin 8) : FVec F S1x64x256 .bf16 :=
  finish (acc (fun i => scores (keys x1 j i) (queries x0 j u)) (values x2 j) 15)

/-- Where the body stores tile `u` of head `j`. -/
def place (j : Fin 2) (u : Fin 8) : Rect S1x128x2048 :=
  Rect.unit (s := S1x128x2048) ![0, 64 * j, 256 * u] S1x64x256.size (by intro a; fin_cases a <;> simp [S1x64x256, S1x128x2048] <;> omega)

/-- The order of the stores, the last first. -/
def order : List (Fin 2 × Fin 8) :=
  [(1, 7), (0, 7), (1, 6), (0, 6), (1, 5), (0, 5), (1, 4), (0, 4), (1, 3), (0, 3), (1, 2), (0, 2), (1, 1), (0, 1), (1, 0), (0, 0)]

/-- The pieces the body stores, the last first. -/
def pieces (x0 : Vec F S1x2x96x2048 .bf16) (x1 : Vec F S1x2x4096x96 .bf16) (x2 : Vec F S1x2x80x4096 .bf16) : List (View.Piece (Elt F) S1x128x2048 .bf16) :=
  order.map fun p => ⟨place p.1 p.2, piece x0 x1 x2 p.1 p.2⟩

set_option maxHeartbeats 2000000 in
/-- The block the body leaves is the recurrence's pieces. -/
theorem out_eq (x0 : Vec F S1x2x96x2048 .bf16) (x1 : Vec F S1x2x4096x96 .bf16) (x2 : Vec F S1x2x80x4096 .bf16) :
    out0_3 x0 x1 x2 = View.canon (pieces x0 x1 x2) := rfl

end Cert.KernelIdeal.Attend

end
-- ==== Proof.AttendSoftmax.lean ====
/-
  The attention, one channel of one query: the plain softmax formula (`cell`), and the lemmas on extended reals by which
  sums weighted by powers of two, accumulated chunk by chunk under a running maximum, come to the same number. Queries
  and keys are finite there, so the scores and their maxima are real; the values may be anything.
-/
module

public import Idealize.ShloMosaic.Lib.Pointwise

@[expose] public section

noncomputable section

namespace Cert.Attend

open Idealize.ShloMosaic

/-! ### The formula -/

/-- The score of a key for a query: the inner product over the root of 96. -/
def score (q k : Fin 96 → EReal) : EReal :=
  Ideal.div (∑ e, q e * k e) (Ideal.sqrt (Ideal.ofBits .f32 0x42C00000#32))

/-- The exponential of a key's score less the largest score. -/
def weight (q : Fin 96 → EReal) (k : Fin 4096 → Fin 96 → EReal) (i : Fin 4096) : EReal :=
  Ideal.exp (score q (k i) - max (Ideal.ofBits .f32 0xFF800000#32)
    (Finset.univ.fold max (Ideal.ofBits .f32 0xFF800000#32) fun j => score q (k j)))

/-- One channel of the attention's result: the values weighted by the softmax of the scores. -/
def cell (q : Fin 96 → EReal) (k : Fin 4096 → Fin 96 → EReal) (v : Fin 4096 → EReal) : EReal :=
  ∑ i, v i * Ideal.div (weight q k i) (∑ j, weight q k j)

/-! ### Real numbers inside the extended reals -/

/-- The largest of finitely many real numbers is real. -/
theorem fold_max_real {ι : Type} [Fintype ι] [Nonempty ι] (f : ι → EReal) (h : ∀ i, ∃ r : ℝ, f i = r) :
    ∃ r : ℝ, Finset.univ.fold max (Ideal.ofBits .f32 0xFF800000#32) f = r := by
  have hb : Ideal.ofBits .f32 0xFF800000#32 = ⊥ := by simp [Ideal.ofBits, Ideal.ieee]
  have h1 : Finset.univ.fold max (Ideal.ofBits .f32 0xFF800000#32) f ≠ ⊤ := by
    refine ne_of_lt ((Finset.fold_max_lt _).mpr ⟨by rw [hb]; exact bot_lt_top, fun i _ => ?_⟩)
    obtain ⟨r, hr⟩ := h i
    rw [hr]; exact EReal.coe_lt_top r
  have h2 : Finset.univ.fold max (Ideal.ofBits .f32 0xFF800000#32) f ≠ ⊥ := by
    obtain ⟨i⟩ := ‹Nonempty ι›
    obtain ⟨r, hr⟩ := h i
    exact ne_of_gt ((Finset.lt_fold_max _).mpr (.inr ⟨i, Finset.mem_univ i, by rw [hr]; exact EReal.bot_lt_coe r⟩))
  exact ⟨_, (EReal.coe_toReal h1 h2).symm⟩

/-- A sum of real numbers is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real factor that isn't negative goes into a sum. -/
theorem mul_sum_real {ι : Type} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- Division by a positive real number. -/
theorem div_real (x : EReal) {c : ℝ} (hc : 0 < c) : Ideal.div x c = (c⁻¹ : ℝ) * x := by
  unfold Ideal.div
  rw [if_neg (by exact_mod_cast hc.ne'), mul_comm, EReal.coe_inv]

/-- Powers of two, real. -/
theorem exp2_real (x y : ℝ) : Ideal.exp2 ((x : EReal) - (y : EReal)) = ((2 : ℝ) ^ (x - y) : ℝ) := by
  rw [← EReal.coe_sub]; rfl

/-! ### The running sum -/

/-- A sum kept chunk by chunk, brought from one offset of the exponents to the next before each addition, is the sum of
    all chunks at the last offset. -/
theorem running {ι : Type} [Fintype ι] (σ : ℕ → ι → ℝ) (μ : ℕ → ℝ) (v : ℕ → ι → EReal) (a : ℕ → EReal)
    (h0 : a 0 = ∑ i, v 0 i * ((2 : ℝ) ^ (σ 0 i - μ 0) : ℝ))
    (hs : ∀ n, a (n + 1) = ((2 : ℝ) ^ (μ n - μ (n + 1)) : ℝ) * a n + ∑ i, v (n + 1) i * ((2 : ℝ) ^ (σ (n + 1) i - μ (n + 1)) : ℝ)) (n : ℕ) :
    a n = ∑ j ∈ Finset.range (n + 1), ∑ i, v j i * ((2 : ℝ) ^ (σ j i - μ n) : ℝ) := by
  induction n with
  | zero => rw [h0, Finset.sum_range_one]
  | succ n ih =>
    rw [hs, ih, Finset.sum_range_succ _ (n + 1), mul_sum_real _ _ (by positivity)]
    refine congrArg (· + _) (Finset.sum_congr rfl fun j _ => ?_)
    rw [mul_sum_real _ _ (by positivity)]
    refine Finset.sum_congr rfl fun i _ => ?_
    rw [mul_left_comm, ← EReal.coe_mul, ← Real.rpow_add two_pos]
    exact congrArg (fun x : ℝ => v j i * (((2 : ℝ) ^ x : ℝ) : EReal)) (by ring)

/-! ### The quotient -/

/-- The values weighted by real weights that add up to one. -/
def mean {ι : Type} [Fintype ι] (w : ι → ℝ) (v : ι → EReal) : EReal := ∑ i, v i * ((w i / ∑ j, w j : ℝ) : EReal)

/-- The weighted sum over the sum of weights; a factor common to all weights drops out. -/
theorem quotient {ι : Type} [Fintype ι] [Nonempty ι] (σ : ι → ℝ) (μ : ℝ) (v : ι → EReal) :
    Ideal.div (∑ i, v i * ((2 : ℝ) ^ (σ i - μ) : ℝ)) (∑ i, 1 * (((2 : ℝ) ^ (σ i - μ) : ℝ) : EReal)) = mean (fun i => (2 : ℝ) ^ σ i) v := by
  have hp : 0 < ∑ i, (2 : ℝ) ^ (σ i - μ) := Finset.sum_pos (fun i _ => by positivity) Finset.univ_nonempty
  simp only [one_mul]
  rw [coe_sum, div_real _ hp, mul_sum_real _ _ (inv_nonneg.mpr hp.le)]
  refine Finset.sum_congr rfl fun i _ => ?_
  rw [mul_left_comm, ← EReal.coe_mul]
  congr 2
  have h2 : (0 : ℝ) < 2 ^ μ := by positivity
  simp only [Real.rpow_sub two_pos, ← Finset.sum_div]
  field_simp

/-! ### The two forms of the scores -/

theorem ofBits_96 : Ideal.ofBits .f32 0x42C00000#32 = ((96 : ℝ) : EReal) := by
  simp [Ideal.ofBits, Ideal.ieee, ← EReal.coe_mul]; norm_num

theorem ofBits_2 : Ideal.ofBits .f32 0x40000000#32 = ((2 : ℝ) : EReal) := by
  simp [Ideal.ofBits, Ideal.ieee, ← EReal.coe_mul]; norm_num

theorem sqrt_96 : Ideal.sqrt (Ideal.ofBits .f32 0x42C00000#32) = (Real.sqrt 96 : EReal) := by
  rw [ofBits_96]; exact if_neg (by norm_num)

theorem log_2 : Ideal.log (Ideal.ofBits .f32 0x40000000#32) = (Real.log 2 : EReal) := by
  rw [ofBits_2]; exact if_neg (by norm_num)

/-- The inner product of the finite query and key, real. -/
def dot (q k : Fin 96 → ℝ) : ℝ := ∑ e, q e * k e

theorem score_real (q k : Fin 96 → ℝ) : score (fun e => q e) (fun e => k e) = ((dot q k / Real.sqrt 96 : ℝ) : EReal) := by
  have h : 0 < Real.sqrt 96 := by positivity
  unfold score
  rw [sqrt_96, div_real _ h]
  simp only [← EReal.coe_mul]
  rw [coe_sum, ← EReal.coe_mul, dot, div_eq_inv_mul]

/-- With the queries divided beforehand by the root of 96 and the logarithm of 2, the inner product is the score over
    the logarithm of 2. -/
theorem scaled_real (q k : Fin 96 → ℝ) :
    (∑ e, (k e : EReal) * Ideal.div (q e : EReal) (Ideal.log (Ideal.ofBits .f32 0x40000000#32) * Ideal.sqrt (Ideal.ofBits .f32 0x42C00000#32)))
      = ((dot q k / Real.sqrt 96 / Real.log 2 : ℝ) : EReal) := by
  have hl : 0 < Real.log 2 := Real.log_pos one_lt_two
  have h : 0 < Real.log 2 * Real.sqrt 96 := by positivity
  rw [sqrt_96, log_2, ← EReal.coe_mul]
  simp only [div_real _ h, ← EReal.coe_mul]
  rw [coe_sum, dot, Finset.sum_div, Finset.sum_div]
  refine congrArg _ (Finset.sum_congr rfl fun e _ => ?_)
  field_simp

theorem pow_score (x : ℝ) : (2 : ℝ) ^ (x / Real.log 2) = Real.exp x := by
  have hl : 0 < Real.log 2 := Real.log_pos one_lt_two
  rw [Real.rpow_def_of_pos two_pos]; congr 1; field_simp

/-- Of finite queries and keys, the formula is the mean of the values weighted by the exponentials of the scores. -/
theorem cell_real (q : Fin 96 → ℝ) (k : Fin 4096 → Fin 96 → ℝ) (v : Fin 4096 → EReal) :
    cell (fun e => q e) (fun i e => k i e) v = mean (fun i => (2 : ℝ) ^ (dot q (k i) / Real.sqrt 96 / Real.log 2)) v := by
  obtain ⟨μ, hμ⟩ := fold_max_real (fun i => score (fun e => (q e : EReal)) (fun e => (k i e : EReal))) fun i => ⟨_, score_real q (k i)⟩
  have hb : Ideal.ofBits .f32 0xFF800000#32 = ⊥ := by simp [Ideal.ofBits, Ideal.ieee]
  have hw : ∀ i, weight (fun e => (q e : EReal)) (fun i e => (k i e : EReal)) i = ((Real.exp (dot q (k i) / Real.sqrt 96 - μ) : ℝ) : EReal) := by
    intro i
    unfold weight
    rw [hμ, score_real, hb, max_eq_right bot_le, ← EReal.coe_sub]; rfl
  have hp : 0 < ∑ i, Real.exp (dot q (k i) / Real.sqrt 96 - μ) := Finset.sum_pos (fun i _ => Real.exp_pos _) Finset.univ_nonempty
  unfold cell mean
  simp only [hw, pow_score]
  rw [coe_sum]
  refine Finset.sum_congr rfl fun i _ => congrArg _ ?_
  rw [div_real _ hp, ← EReal.coe_mul]
  congr 1
  have h2 : 0 < Real.exp μ := Real.exp_pos μ
  simp only [Real.exp_sub, ← Finset.sum_div]
  field_simp

end Cert.Attend

end
-- ==== Proof.AttendKernel.lean ====
/-
  The attention kernel read at an index: the recurrence of AttendFlash.lean at one query and one channel is the mean of
  the values weighted by powers of two of the scores (`piece_apply`); with the operands the host prepares and the blocks
  read at their places in the arguments, that is the formula of AttendSoftmax.lean when queries and keys are finite
  (`final`).
-/
module

public import proofs.«01_k».proof.Proof.AttendFlash
public import proofs.«01_k».proof.Proof.AttendSoftmax
public import Idealize.ShloMosaic.Lib.StableHlo.Run

@[expose] public section

set_option maxRecDepth 16384

noncomputable section

namespace Cert.KernelIdeal.Attend

open Cert.KernelIdeal Cert.KernelIdeal.Gen Idealize.ShloMosaic Idealize.ShloMosaic.TcCoe Idealize.SL.Sem

/-! ### One chunk, at an index -/

theorem scores_apply (k : Vec Ideal S1x1x256x96 .bf16) (q : Vec Ideal S1x1x96x256 .bf16) (i t : Fin 256) :
    scores k q (ix2 i t) = ∑ e, k (ix4 0 0 i e) * q (ix4 0 0 e t) := by
  pointwise [scores]

theorem colMax_apply (s : FVec Ideal S256x256 .f32) (t : Fin 256) :
    colMax s (ix2 0 t) = Finset.univ.fold max (Ideal.ofBits .f32 0xFF800000#32) fun i => s (ix2 i t) := by
  pointwise [colMax]

theorem weighted_apply (v : Vec Ideal S1x1x80x256 .bf16) (s : FVec Ideal S256x256 .f32) (m : FVec Ideal S1x256 .f32) (r : Fin 80) (t : Fin 256) :
    weighted v s m (ix2 r t) = ∑ i, v (ix4 0 0 r i) * Ideal.exp2 (s (ix2 i t) - m (ix2 0 t)) := by
  pointwise [weighted]
  rfl

theorem fold_apply (m m' : FVec Ideal S1x256 .f32) (a w : FVec Ideal S80x256 .f32) (r : Fin 80) (t : Fin 256) :
    fold m m' a w (ix2 r t) = Ideal.exp2 (m (ix2 0 t) - m' (ix2 0 t)) * a (ix2 r t) + w (ix2 r t) := by
  pointwise [fold]
  rfl

theorem finish_apply (a : FVec Ideal S80x256 .f32) (r : Fin 64) (t : Fin 256) :
    finish a (ix3 0 r t) = Ideal.div (a (ix2 ⟨r, by omega⟩ t)) (a (ix2 64 t)) := by
  pointwise [finish]

/-! ### The recurrence, at an index -/

/-- Of real scores the running maximum is real. -/
theorem mx_real (s : ℕ → FVec Ideal S256x256 .f32) (t : Fin 256) (σ : ℕ → Fin 256 → ℝ) (hσ : ∀ n i, s n (ix2 i t) = σ n i) (n : ℕ) :
    ∃ μ : ℝ, mx s n (ix2 0 t) = μ := by
  have hc : ∀ n, ∃ μ : ℝ, colMax (s n) (ix2 0 t) = μ := fun n => by
    rw [colMax_apply]; exact Cert.Attend.fold_max_real _ fun i => ⟨_, hσ n i⟩
  induction n with
  | zero => exact hc 0
  | succ n ih =>
    obtain ⟨a, ha⟩ := ih
    obtain ⟨b, hb⟩ := hc (n + 1)
    refine ⟨max a b, ?_⟩
    show max (mx s n (ix2 0 t)) (colMax (s (n + 1)) (ix2 0 t)) = _
    rw [ha, hb]; exact (EReal.coe_strictMono.monotone.map_max).symm

/-- The accumulated rows: the values of all chunks so far, each weighted by the power of two of its score less a real
    number common to all. -/
theorem acc_apply (s : ℕ → FVec Ideal S256x256 .f32) (v : ℕ → Vec Ideal S1x1x80x256 .bf16) (t : Fin 256) (σ : ℕ → Fin 256 → ℝ)
    (hσ : ∀ n i, s n (ix2 i t) = σ n i) (n : ℕ) :
    ∃ μ : ℝ, ∀ r : Fin 80, acc s v n (ix2 r t) = ∑ j ∈ Finset.range (n + 1), ∑ i, v j (ix4 0 0 r i) * (((2 : ℝ) ^ (σ j i - μ) : ℝ) : EReal) := by
  choose μ hμ using mx_real s t σ hσ
  refine ⟨μ n, fun r => Cert.Attend.running σ μ (fun j i => v j (ix4 0 0 r i)) (fun n => acc s v n (ix2 r t)) ?_ (fun n => ?_) n⟩
  · show weighted (v 0) (s 0) (mx s 0) (ix2 r t) = _
    rw [weighted_apply]
    simp only [hμ, hσ, Cert.Attend.exp2_real]
  · show fold (mx s n) (mx s (n + 1)) (acc s v n) (weighted (v (n + 1)) (s (n + 1)) (mx s (n + 1))) (ix2 r t) = _
    rw [fold_apply, weighted_apply]
    simp only [hμ, hσ, Cert.Attend.exp2_real]

/-! ### The loads, at an index -/

/-- Key or value `r` of chunk `n`. -/
def at16 (n : ℕ) (r : Fin 256) : Fin 4096 := ⟨n % 16 * 256 + r, by omega⟩

theorem keys_apply (x1 : Vec Ideal S1x2x4096x96 .bf16) (j : Fin 2) (n : ℕ) (r : Fin 256) (e : Fin 96) :
    keys x1 j n (ix4 0 0 r e) = x1 (ix4 0 j (at16 n r) e) := by
  pointwise [keys]
  exact congrArg x1 (by unfold at16; idx_ext)

theorem queries_apply (x0 : Vec Ideal S1x2x96x2048 .bf16) (j : Fin 2) (u : Fin 8) (e : Fin 96) (t : Fin 256) :
    queries x0 j u (ix4 0 0 e t) = x0 (ix4 0 j e ⟨256 * u + t, by omega⟩) := by
  pointwise [queries]

theorem values_apply (x2 : Vec Ideal S1x2x80x4096 .bf16) (j : Fin 2) (n : ℕ) (r : Fin 80) (c : Fin 256) :
    values x2 j n (ix4 0 0 r c) = x2 (ix4 0 j r (at16 n c)) := by
  pointwise [values]
  exact congrArg x2 (by unfold at16; idx_ext)

/-- The sum over the chunks and in each over its keys is the sum over all keys. -/
theorem sum_chunks (f : Fin 4096 → EReal) : ∑ n ∈ Finset.range 16, ∑ r, f (at16 n r) = ∑ k, f k := by
  rw [Fin.sum_univ_tiles 16 256 rfl f, Finset.sum_range]
  refine Finset.sum_congr rfl fun n _ => Finset.sum_congr rfl fun r _ => congrArg f (Fin.ext ?_)
  show n.val % 16 * 256 + r.val = n.val * 256 + r.val
  rw [Nat.mod_eq_of_lt n.isLt]

/-- A stored piece at an index: of real scores, and with the row of ones below the values, the mean of the values. -/
theorem piece_apply (x0 : Vec Ideal S1x2x96x2048 .bf16) (x1 : Vec Ideal S1x2x4096x96 .bf16) (x2 : Vec Ideal S1x2x80x4096 .bf16)
    (j : Fin 2) (u : Fin 8) (r : Fin 64) (t : Fin 256) (σ : Fin 4096 → ℝ)
    (hσ : ∀ k, ∑ e, x1 (ix4 0 j k e) * x0 (ix4 0 j e ⟨256 * u + t, by omega⟩) = (σ k : EReal)) (h1 : ∀ k, x2 (ix4 0 j 64 k) = 1) :
    piece x0 x1 x2 j u (ix3 0 r t) = Cert.Attend.mean (fun k => (2 : ℝ) ^ σ k) (fun k => x2 (ix4 0 j ⟨r, by omega⟩ k)) := by
  obtain ⟨μ, hμ⟩ := acc_apply (fun i => scores (keys x1 j i) (queries x0 j u)) (values x2 j) t (fun n i => σ (at16 n i)) (fun n i => by
    rw [scores_apply]; simp only [keys_apply, queries_apply]; exact hσ _) 15
  unfold piece
  rw [finish_apply, hμ, hμ]
  simp only [values_apply]
  rw [sum_chunks fun k => x2 (ix4 0 j ⟨r, by omega⟩ k) * (((2 : ℝ) ^ (σ k - μ) : ℝ) : EReal),
    sum_chunks fun k => x2 (ix4 0 j 64 k) * (((2 : ℝ) ^ (σ k - μ) : ℝ) : EReal)]
  simp only [h1]
  exact Cert.Attend.quotient σ μ _

/-! ### The block of results -/

/-- Every index of the block lies in the piece of its head and tile. -/
theorem cover_pieces (x0 : Vec Ideal S1x2x96x2048 .bf16) (x1 : Vec Ideal S1x2x4096x96 .bf16) (x2 : Vec Ideal S1x2x80x4096 .bf16) (y : S1x128x2048.Idx) :
    ∃ p ∈ pieces x0 x1 x2, y ∈ p.1.set := by
  have h0 : (y 0 : Nat) < 1 := (y 0).isLt
  have h1 : (y 1 : Nat) < 128 := (y 1).isLt
  have h2 : (y 2 : Nat) < 2048 := (y 2).isLt
  have ho : ∀ (j : Fin 2) (u : Fin 8), (j, u) ∈ order := by decide
  refine ⟨_, List.mem_map.mpr ⟨_, ho ⟨y 1 / 64, by omega⟩ ⟨y 2 / 256, by omega⟩, rfl⟩, ?_⟩
  show y ∈ (place _ _).set
  unfold place
  rw [Rect.mem_set_unit]
  intro a
  match a with
  | ⟨0, _⟩ => exact ⟨Nat.zero_le _, h0⟩
  | ⟨1, _⟩ =>
    show 64 * ((y 1 : Nat) / 64) ≤ (y 1 : Nat) ∧ (y 1 : Nat) < 64 * ((y 1 : Nat) / 64) + 64
    omega
  | ⟨2, _⟩ =>
    show 256 * ((y 2 : Nat) / 256) ≤ (y 2 : Nat) ∧ (y 2 : Nat) < 256 * ((y 2 : Nat) / 256) + 256
    omega

/-- The block of results, from the real scores of its heads, queries and keys and the block of values: at each channel
    of each query the mean of the channel's values. -/
def block (σ : Fin 2 → Fin 2048 → Fin 4096 → ℝ) (x2 : Vec Ideal S1x2x80x4096 .bf16) : Vec Ideal S1x128x2048 .bf16 := fun (y : S1x128x2048.Idx) =>
  have h : (y 1 : Nat) < 128 := (y 1).isLt
  Cert.Attend.mean (fun k => (2 : ℝ) ^ σ ⟨y 1 / 64, by omega⟩ (y 2) k) (fun k => x2 (ix4 0 ⟨y 1 / 64, by omega⟩ ⟨y 1 % 64, by omega⟩ k))

theorem block_apply (σ : Fin 2 → Fin 2048 → Fin 4096 → ℝ) (x2 : Vec Ideal S1x2x80x4096 .bf16) (j : Fin 2) (r : Fin 64) (t : Fin 2048) :
    block σ x2 (ix3 0 ⟨64 * j + r, by omega⟩ t) = Cert.Attend.mean (fun k => (2 : ℝ) ^ σ j t k) (fun k => x2 (ix4 0 j ⟨r, by omega⟩ k)) := by
  have hj : (⟨(64 * j.val + r.val) / 64, by omega⟩ : Fin 2) = j := Fin.ext (by show (64 * j.val + r.val) / 64 = j.val; omega)
  have hr : (⟨(64 * j.val + r.val) % 64, by omega⟩ : Fin 80) = ⟨r, by omega⟩ := Fin.ext (by show (64 * j.val + r.val) % 64 = r.val; omega)
  show Cert.Attend.mean (fun k => (2 : ℝ) ^ σ ⟨(64 * j.val + r.val) / 64, _⟩ t k) (fun k => x2 (ix4 0 ⟨(64 * j.val + r.val) / 64, _⟩ ⟨(64 * j.val + r.val) % 64, _⟩ k)) = _
  rw [hj, hr]

/-- The block the body leaves, if the block's scores are real and the row of ones is there. -/
theorem out_block (x0 : Vec Ideal S1x2x96x2048 .bf16) (x1 : Vec Ideal S1x2x4096x96 .bf16) (x2 : Vec Ideal S1x2x80x4096 .bf16)
    (σ : Fin 2 → Fin 2048 → Fin 4096 → ℝ) (hσ : ∀ j t k, ∑ e, x1 (ix4 0 j k e) * x0 (ix4 0 j e t) = (σ j t k : EReal))
    (h1 : ∀ j k, x2 (ix4 0 j 64 k) = (1 : EReal)) : out0_3 x0 x1 x2 = block σ x2 := by
  rw [out_eq]
  funext y
  refine View.canon_apply_of_pieces (Val := Elt Ideal) (block σ x2) _ ?_ y (cover_pieces x0 x1 x2 y)
  intro p hp x
  obtain ⟨⟨j, u⟩, -, rfl⟩ := List.mem_map.mp hp
  obtain ⟨a, r, t, rfl⟩ : ∃ (a : Fin 1) (r : Fin 64) (t : Fin 256), x = ix3 a r t := ⟨x 0, x 1, x 2, by idx_ext⟩
  rw [Subsingleton.elim a 0]
  dsimp only
  have he : (place j u).emb (ix3 0 r t) = (ix3 0 ⟨64 * j + r, by omega⟩ ⟨256 * u + t, by omega⟩ : S1x128x2048.Idx) := by unfold place; idx_ext
  rw [he, block_apply, piece_apply x0 x1 x2 j u r t _ (fun k => hσ j ⟨256 * u + t, by omega⟩ k) (h1 j)]

variable (m : (ℓ : Loc nD τ sig) → Buf (Elt Ideal) ℓ) (ρ : Dev nD → PrngReg)

/-! ### The arrays the host prepares, at an index -/

/-- The queries, divided by the root of 96 and the logarithm of 2. -/
theorem qt_apply (c : Dev nD) (b h : Fin 8) (e : Fin 96) (t : Fin 4096) :
    V m c main_v6 (ix4 b h e t) = Ideal.div (m ((c : Thread nD τ).loc main_arg0) (ix4 b t h e)) (Ideal.log (Ideal.ofBits .f32 0x40000000#32) * Ideal.sqrt (Ideal.ofBits .f32 0x42C00000#32)) := by
  show StableHlo.after hostOps0 (fun b => m (c, b)) main_v6 _ = _
  simp only [hostOps0, StableHlo.TRef.binary, StableHlo.TRef.nullary, StableHlo.TRef.unary, StableHlo.TRef.toBuf, StableHlo.TRef.ofBuf, cast_eq]
  after_results_simp
  pointwise

/-- The keys. -/
theorem kk_apply (c : Dev nD) (b h : Fin 8) (k : Fin 4096) (e : Fin 96) :
    V m c main_v8 (ix4 b h k e) = m ((c : Thread nD τ).loc main_arg1) (ix4 b k h e) := by
  show StableHlo.after hostOps0 (fun b => m (c, b)) main_v8 _ = _
  simp only [hostOps0, StableHlo.TRef.binary, StableHlo.TRef.nullary, StableHlo.TRef.unary, StableHlo.TRef.toBuf, StableHlo.TRef.ofBuf, cast_eq]
  after_results_simp
  pointwise

/-- The values, above the row of ones. -/
theorem vt_apply (c : Dev nD) (b h : Fin 8) (r : Fin 64) (k : Fin 4096) :
    V m c main_v13 (ix4 b h ⟨r, by omega⟩ k) = m ((c : Thread nD τ).loc main_arg2) (ix4 b k h r) := by
  show StableHlo.after hostOps0 (fun b => m (c, b)) main_v13 _ = _
  simp only [hostOps0, StableHlo.TRef.binary, StableHlo.TRef.nullary, StableHlo.TRef.unary, StableHlo.TRef.toBuf, StableHlo.TRef.ofBuf, cast_eq]
  after_results_simp
  pointwise
  after_results_simp
  pointwise

/-- The row of ones. -/
theorem vt_one (c : Dev nD) (b h : Fin 8) (k : Fin 4096) : V m c main_v13 (ix4 b h 64 k) = (1 : EReal) := by
  show StableHlo.after hostOps0 (fun b => m (c, b)) main_v13 _ = _
  simp only [hostOps0, StableHlo.TRef.binary, StableHlo.TRef.nullary, StableHlo.TRef.unary, StableHlo.TRef.toBuf, StableHlo.TRef.ofBuf, cast_eq]
  after_results_simp
  pointwise
  after_results_simp
  pointwise

/-! ### The blocks a grid point is given, at an index -/

/-- The batch of a grid point. -/
def bt (t : Fin cfg0.N) : Fin 8 := ⟨t.val / 8, by have h : t.val < 64 := t.isLt; omega⟩
/-- The head of a grid point's pair. -/
def hd (t : Fin cfg0.N) (j : Fin 2) : Fin 8 := ⟨t.val / 2 % 4 * 2 + j.val, by omega⟩
/-- The position of a query of a grid point's tile. -/
def pos (t : Fin cfg0.N) (r : Fin 2048) : Fin 4096 := ⟨t.val % 2 * 2048 + r.val, by omega⟩

/-- The tile of queries. -/
theorem blk0 (c : Dev nD) (t : Fin cfg0.N) (j : Fin 2) (e : Fin 96) (r : Fin 2048) :
    iblk m c 0 t (ix4 0 j e r) = V m c main_v6 (ix4 (bt t) (hd t j) e (pos t r)) := by
  have ho : ∀ (t : Fin cfg0.N) (a : Fin 4), win0_0.index t a * win0_0.size a = ![t.val / 8, t.val / 2 % 4 * 2, 0, t.val % 2 * 2048] a :=
    (by decide +kernel : ∀ (t : Fin grid0.N) (a : Fin 4), win0_0.index t a * win0_0.size a = ![t.val / 8, t.val / 2 % 4 * 2, 0, t.val % 2 * 2048] a)
  show V m c main_v6 ((win0_0.rect t).emb (ix4 0 j e r)) = _
  refine congrArg _ (funext fun a => Fin.ext ((Pipeline.Window.rect_emb_val win0_0 t (ix4 0 j e r) a).trans ?_))
  rw [ho t a]
  fin_cases a <;> first | rfl | exact Nat.zero_add _

/-- The pair's keys. -/
theorem blk1 (c : Dev nD) (t : Fin cfg0.N) (j : Fin 2) (k : Fin 4096) (e : Fin 96) :
    iblk m c 1 t (ix4 0 j k e) = V m c main_v8 (ix4 (bt t) (hd t j) k e) := by
  have ho : ∀ (t : Fin cfg0.N) (a : Fin 4), win0_1.index t a * win0_1.size a = ![t.val / 8, t.val / 2 % 4 * 2, 0, 0] a :=
    (by decide +kernel : ∀ (t : Fin grid0.N) (a : Fin 4), win0_1.index t a * win0_1.size a = ![t.val / 8, t.val / 2 % 4 * 2, 0, 0] a)
  show V m c main_v8 ((win0_1.rect t).emb (ix4 0 j k e)) = _
  refine congrArg _ (funext fun a => Fin.ext ((Pipeline.Window.rect_emb_val win0_1 t (ix4 0 j k e) a).trans ?_))
  rw [ho t a]
  fin_cases a <;> first | rfl | exact Nat.zero_add _

/-- The pair's values, with the rows below them. -/
theorem blk2 (c : Dev nD) (t : Fin cfg0.N) (j : Fin 2) (r : Fin 80) (k : Fin 4096) :
    iblk m c 2 t (ix4 0 j r k) = V m c main_v13 (ix4 (bt t) (hd t j) r k) := by
  have ho : ∀ (t : Fin cfg0.N) (a : Fin 4), win0_2.index t a * win0_2.size a = ![t.val / 8, t.val / 2 % 4 * 2, 0, 0] a :=
    (by decide +kernel : ∀ (t : Fin grid0.N) (a : Fin 4), win0_2.index t a * win0_2.size a = ![t.val / 8, t.val / 2 % 4 * 2, 0, 0] a)
  show V m c main_v13 ((win0_2.rect t).emb (ix4 0 j r k)) = _
  refine congrArg _ (funext fun a => Fin.ext ((Pipeline.Window.rect_emb_val win0_2 t (ix4 0 j r k) a).trans ?_))
  rw [ho t a]
  fin_cases a <;> first | rfl | exact Nat.zero_add _

/-! ### The call's result -/

/-- The result the call leaves, from its arguments: at each channel of each position the attention's formula. -/
def result (c : Dev nD) : Buf (Elt Ideal) ((c : Thread nD τ).loc main_v14) := fun (i : S8x512x4096.Idx) =>
  have h : (i 1 : Nat) < 512 := (i 1).isLt
  Cert.Attend.cell (fun e => m ((c : Thread nD τ).loc main_arg0) (ix4 (i 0) (i 2) ⟨i 1 / 64, by omega⟩ e))
    (fun k e => m ((c : Thread nD τ).loc main_arg1) (ix4 (i 0) k ⟨i 1 / 64, by omega⟩ e))
    (fun k => m ((c : Thread nD τ).loc main_arg2) (ix4 (i 0) k ⟨i 1 / 64, by omega⟩ ⟨i 1 % 64, by omega⟩))

theorem result_apply (c : Dev nD) (b h : Fin 8) (d : Fin 64) (t : Fin 4096) :
    result m c (ix3 b ⟨64 * h + d, by omega⟩ t) = Cert.Attend.cell (fun e => m ((c : Thread nD τ).loc main_arg0) (ix4 b t h e))
      (fun k e => m ((c : Thread nD τ).loc main_arg1) (ix4 b k h e)) (fun k => m ((c : Thread nD τ).loc main_arg2) (ix4 b k h d)) := by
  have hj : (⟨(64 * h.val + d.val) / 64, by omega⟩ : Fin 8) = h := Fin.ext (by show (64 * h.val + d.val) / 64 = h.val; omega)
  have hr : (⟨(64 * h.val + d.val) % 64, by omega⟩ : Fin 64) = d := Fin.ext (by show (64 * h.val + d.val) % 64 = d.val; omega)
  show Cert.Attend.cell (fun e => m ((c : Thread nD τ).loc main_arg0) (ix4 b t ⟨(64 * h.val + d.val) / 64, _⟩ e))
    (fun k e => m ((c : Thread nD τ).loc main_arg1) (ix4 b k ⟨(64 * h.val + d.val) / 64, _⟩ e))
    (fun k => m ((c : Thread nD τ).loc main_arg2) (ix4 b k ⟨(64 * h.val + d.val) / 64, _⟩ ⟨(64 * h.val + d.val) % 64, _⟩)) = _
  rw [hj, hr]

/-- Every query and every key of a device is a real number. -/
def Finite (c : Dev nD) : Prop :=
  (∀ i : S8x4096x8x96.Idx, ∃ r : ℝ, m ((c : Thread nD τ).loc main_arg0) i = (r : EReal))
    ∧ ∀ i : S8x4096x8x96.Idx, ∃ r : ℝ, m ((c : Thread nD τ).loc main_arg1) i = (r : EReal)

/-- Where a grid point's block of the result begins. -/
theorem off3 : ∀ (t : Fin cfg0.N) (a : Fin 3), win0_3.index t a * win0_3.size a = ![t.val / 8, t.val / 2 % 4 * 128, t.val % 2 * 2048] a :=
  (by decide +kernel : ∀ (t : Fin grid0.N) (a : Fin 3), win0_3.index t a * win0_3.size a = ![t.val / 8, t.val / 2 % 4 * 128, t.val % 2 * 2048] a)

/-- Where an index of a grid point's block lies in the result. -/
theorem emb3 (t : Fin cfg0.N) (j : Fin 2) (d : Fin 64) (r : Fin 2048) :
    (win0_3.rect t).emb (ix3 0 ⟨64 * j + d, by omega⟩ r) = (ix3 (bt t) ⟨64 * hd t j + d, by omega⟩ (pos t r) : S8x512x4096.Idx) := by
  refine funext fun a => Fin.ext ((Pipeline.Window.rect_emb_val win0_3 t (ix3 0 ⟨64 * j + d, by omega⟩ r) a).trans ?_)
  rw [off3 t a]
  match a with
  | ⟨0, _⟩ => rfl
  | ⟨1, _⟩ =>
    show t.val / 2 % 4 * 128 + (64 * j.val + d.val) = 64 * (t.val / 2 % 4 * 2 + j.val) + d.val
    omega
  | ⟨2, _⟩ => rfl

/-- Blocks of results are equal if they are at each head, channel and query. -/
theorem ext_block {α : Type} (f g : S1x128x2048.Idx → α)
    (h : ∀ (j : Fin 2) (d : Fin 64) (r : Fin 2048), f (ix3 0 ⟨64 * j + d, by omega⟩ r) = g (ix3 0 ⟨64 * j + d, by omega⟩ r)) : f = g := by
  funext y
  obtain ⟨a, n, r, rfl⟩ : ∃ (a : Fin 1) (n : Fin 128) (r : Fin 2048), y = ix3 a n r := ⟨y 0, y 1, y 2, by idx_ext⟩
  have e : n = ⟨64 * (n.val / 64) + n.val % 64, by omega⟩ := Fin.ext (by show n.val = 64 * (n.val / 64) + n.val % 64; omega)
  rw [Subsingleton.elim a 0, e]
  exact h ⟨n.val / 64, by omega⟩ ⟨n.val % 64, by omega⟩ r

/-- What a grid point writes back is its block of the result, of finite queries and keys. -/
theorem flushed_eq (c : Dev nD) (hf : Finite m c) (t : Fin cfg0.N) :
    (dats m 0 c).flushed 3 t = (win0_3.blk t).view.read (Elt Ideal) (result m c) := by
  choose Q hQ using hf.1
  choose K hK using hf.2
  rw [Value.flushed3, out_block (iblk m c 0 t) (iblk m c 1 t) (iblk m c 2 t)
    (fun j r k => Cert.Attend.dot (fun e => Q (ix4 (bt t) (pos t r) (hd t j) e)) (fun e => K (ix4 (bt t) k (hd t j) e)) / Real.sqrt 96 / Real.log 2)
    (fun j r k => ?_) (fun j k => (blk2 m c t j 64 k).trans (vt_one m c _ _ k))]
  · refine ext_block _ _ fun j d r => (block_apply _ _ j d r).trans ?_
    refine Eq.trans ?_ (congrArg (result m c) (emb3 t j d r).symm)
    rw [result_apply]
    simp only [hQ, hK]
    rw [Cert.Attend.cell_real]
    refine congrArg _ (funext fun k => ?_)
    exact (blk2 m c t j ⟨d, by omega⟩ k).trans (vt_apply m c _ _ d k)
  · refine (Finset.sum_congr rfl fun e _ => ?_).trans (Cert.Attend.scaled_real (fun e => Q (ix4 (bt t) (pos t r) (hd t j) e)) (fun e => K (ix4 (bt t) k (hd t j) e)))
    rw [blk0, blk1, qt_apply, kk_apply, hQ, hK]

/-- Every index of the result lies in the block of its batch, pair of heads and tile. -/
theorem cover (i : S8x512x4096.Idx) :
    ∃ t : Fin cfg0.N, (cfg0.win 3).flush t = true ∧ i ∈ ((cfg0.win 3).blk t).view.set := by
  have h0 : (i 0 : Nat) < 8 := (i 0).isLt
  have h1 : (i 1 : Nat) < 512 := (i 1).isLt
  have h2 : (i 2 : Nat) < 4096 := (i 2).isLt
  have hN : cfg0.N = 64 := rfl
  let t : Fin cfg0.N := ⟨8 * (i 0 : Nat) + 2 * ((i 1 : Nat) / 128) + (i 2 : Nat) / 2048, by omega⟩
  refine ⟨t, flush0_3 _, ?_⟩
  show i ∈ ((View.whole main_v14).slice (win0_3.rect t)).set
  rw [View.set_slice_whole, Rect.mem_set_unit]
  intro a
  have ho := off3 t a
  match a with
  | ⟨0, _⟩ =>
    show win0_3.index t 0 * win0_3.size 0 ≤ (i 0 : Nat) ∧ (i 0 : Nat) < win0_3.index t 0 * win0_3.size 0 + 1
    rw [show win0_3.index t 0 * win0_3.size 0 = (8 * (i 0 : Nat) + 2 * ((i 1 : Nat) / 128) + (i 2 : Nat) / 2048) / 8 from ho]; omega
  | ⟨1, _⟩ =>
    show win0_3.index t 1 * win0_3.size 1 ≤ (i 1 : Nat) ∧ (i 1 : Nat) < win0_3.index t 1 * win0_3.size 1 + 128
    rw [show win0_3.index t 1 * win0_3.size 1 = (8 * (i 0 : Nat) + 2 * ((i 1 : Nat) / 128) + (i 2 : Nat) / 2048) / 2 % 4 * 128 from ho]; omega
  | ⟨2, _⟩ =>
    show win0_3.index t 2 * win0_3.size 2 ≤ (i 2 : Nat) ∧ (i 2 : Nat) < win0_3.index t 2 * win0_3.size 2 + 2048
    rw [show win0_3.index t 2 * win0_3.size 2 = (8 * (i 0 : Nat) + 2 * ((i 1 : Nat) / 128) + (i 2 : Nat) / 2048) % 2 * 2048 from ho]; omega

/-- The result's array after the run, of finite queries and keys. -/
theorem final (c : Dev nD) (hf : Finite m c) : (dats m 0 c).arrAt 3 cfg0.N = result m c :=
  (dats m 0 c).arrAt_eq_of_cover 3 (result m c) (fun t _ => flushed_eq m c hf t) cover

/-- The run: the result's array at the result. -/
theorem run_result (hf : ∀ c, Finite m c) : θ_run defs (onTc (τ := τ) (main (F := Ideal))) ⟨m, fun _ => 0, ρ⟩ fun r => ∀ c : Dev nD,
    r.2.mem ((c : Thread nD τ).loc main_v14) = result m c ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c (hf c)), (h c).2⟩) (Value.run_blocks m ρ)

end Cert.KernelIdeal.Attend

end
-- ==== Proof.AttendReference.lean ====
/-
  The attention's plain program read at an index: its composed value, cut at the scores, the weights and the products
  with the values, is the formula of AttendSoftmax.lean.
-/
module

public import proofs.«01_k».proof.Proof.AttendSoftmax
public import proofs.«01_k».proof.Proof.Gen.ReferenceIdeal.Run

@[expose] public section

set_option maxRecDepth 16384

noncomputable section

namespace Cert.ReferenceIdeal.Attend

open Cert.ReferenceIdeal Cert.ReferenceIdeal.Gen Idealize.ShloMosaic Idealize.ShloMosaic.TcCoe Idealize.SL.Sem

/-- The plain program's scores. -/
def sV (q k : FVec Ideal S8x4096x8x96 .f32) : FVec Ideal S8x8x4096x4096 .f32 :=
  Host.divf (Host.dotGeneral dot_S8x4096x8x96_S8x4096x8x96_S8x8x4096x4096_3_3_1_1_02_02 none q k) (broadcastInDim S8x8x4096x4096 ![] bcast_S_S8x8x4096x4096 (Host.sqrt (constant S_ .f32 0x42C00000#32)))

theorem sV_apply (q k : FVec Ideal S8x4096x8x96 .f32) (b h : Fin 8) (t i : Fin 4096) :
    sV q k (ix4 b h t i) = Cert.Attend.score (fun e => q (ix4 b t h e)) (fun e => k (ix4 b i h e)) := by
  pointwise [sV, Cert.Attend.score]

/-- The largest score of each query. -/
def xV (s : FVec Ideal S8x8x4096x4096 .f32) : FVec Ideal S8x8x4096 .f32 :=
  Host.reduce FloatOps.maximumf s (constant S_ .f32 0xFF800000#32) reducesTo_S8x8x4096x4096_S8x8x4096_d3 h_S_

theorem xV_apply (s : FVec Ideal S8x8x4096x4096 .f32) (b h : Fin 8) (t : Fin 4096) :
    xV s (ix3 b h t) = Finset.univ.fold max (Ideal.ofBits .f32 0xFF800000#32) fun j => s (ix4 b h t j) := by
  unfold xV
  simp only [pointwise]

/-- The exponentials of the scores less the largest of each query. -/
def eV (s : FVec Ideal S8x8x4096x4096 .f32) (x : FVec Ideal S8x8x4096 .f32) : FVec Ideal S8x8x4096x4096 .f32 :=
  Host.exp (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) x))))

theorem eV_apply (s : FVec Ideal S8x8x4096x4096 .f32) (x : FVec Ideal S8x8x4096 .f32) (b h : Fin 8) (t i : Fin 4096) :
    eV s x (ix4 b h t i) = Ideal.exp (s (ix4 b h t i) - max (Ideal.ofBits .f32 0xFF800000#32) (x (ix3 b h t))) := by
  pointwise [eV]

/-- The weights: the exponentials over their sum. -/
def pV (x : FVec Ideal S8x8x4096x4096 .f32) : FVec Ideal S8x8x4096x4096 .f32 :=
  Host.divf x (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd x (constant S_ .f32 0x00000000#32) reducesTo_S8x8x4096x4096_S8x8x4096_d3 h_S_)))

theorem pV_apply (x : FVec Ideal S8x8x4096x4096 .f32) (b h : Fin 8) (t i : Fin 4096) :
    pV x (ix4 b h t i) = Ideal.div (x (ix4 b h t i)) (∑ j, x (ix4 b h t j)) := by
  pointwise [pV]

/-- The products with the values, laid out as the result. -/
def oV (v : FVec Ideal S8x4096x8x64 .f32) (p : FVec Ideal S8x8x4096x4096 .f32) : FVec Ideal S8x512x4096 .bf16 :=
  truncf .bf16 (transpose S8x512x4096 [0, 2, 1] (shapeCast _ (transpose S8x4096x8x64 [0, 3, 1, 2] (Host.dotGeneral dot_S8x4096x8x64_S8x8x4096x4096_S8x8x64x4096_1_3_3_2_02_01 none v p) transposes_S8x8x64x4096_S8x4096x8x64_0_3_1_2) shapeCasts_S8x4096x8x64_S8x4096x512) transposes_S8x4096x512_S8x512x4096_0_2_1) bitsLt_bf16_f32

theorem oV_apply (v : FVec Ideal S8x4096x8x64 .f32) (p : FVec Ideal S8x8x4096x4096 .f32) (b h : Fin 8) (d : Fin 64) (t : Fin 4096) :
    oV v p (ix3 b ⟨64 * h + d, by omega⟩ t) = ∑ i, v (ix4 b i h d) * p (ix4 b h t i) := by
  pointwise [oV]

variable (m : (ℓ : Loc nD τ sig) → Buf (Elt Ideal) ℓ)

/-- The program's composed value, its stages one after another. -/
def res (c : Dev nD) : FVec Ideal S8x512x4096 .bf16 :=
  oV (m ((c : Thread nD τ).loc main_arg2)) (pV (eV (sV (m ((c : Thread nD τ).loc main_arg0)) (m ((c : Thread nD τ).loc main_arg1))) (xV (sV (m ((c : Thread nD τ).loc main_arg0)) (m ((c : Thread nD τ).loc main_arg1))))))

/-- The plain program's result at an index: the attention's formula. -/
theorem res_apply (c : Dev nD) (b h : Fin 8) (d : Fin 64) (t : Fin 4096) :
    res m c (ix3 b ⟨64 * h + d, by omega⟩ t) = Cert.Attend.cell (fun e => m ((c : Thread nD τ).loc main_arg0) (ix4 b t h e))
      (fun k e => m ((c : Thread nD τ).loc main_arg1) (ix4 b k h e)) (fun k => m ((c : Thread nD τ).loc main_arg2) (ix4 b k h d)) := by
  unfold res
  rw [oV_apply]
  simp only [pV_apply, eV_apply, xV_apply, sV_apply]
  rfl

end Cert.ReferenceIdeal.Attend

end
-- ==== Proof.AttendClaims.lean ====
/-
  The claims about the attention call: of finite queries and keys, the kernel's result and the plain program's are one
  function of the arguments.
-/
module

public import proofs.«01_k».proof.Defs
public import proofs.«01_k».proof.Proof.Gen.Pre_finite_qk
public import proofs.«01_k».proof.Proof.AttendKernel
public import proofs.«01_k».proof.Proof.AttendReference
public import Idealize.ShloMosaic.Lib.Quiescent

@[expose] public section

set_option maxRecDepth 16384

noncomputable section

namespace Cert.Proof.Attend

open Idealize.ShloMosaic Idealize.ShloMosaic.TcCoe Idealize.SL.Sem

/-- The plain program leaves its arguments as they were and has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- A number whose magnitude is below the positive infinity is real. -/
theorem real_of_lt (x : EReal) (h : FloatOps.cmpf (F := Ideal) (φ := .f32) .olt (FloatOps.absf (F := Ideal) (φ := .f32) x) (FloatOps.ofBits .f32 0x7F800000#32) = 1#1) :
    ∃ r : ℝ, x = r := by
  have ht : Ideal.ofBits .f32 0x7F800000#32 = ⊤ := by simp [Ideal.ofBits, Ideal.ieee]
  have hc : Ideal.cmp .olt (max x (-x)) (Ideal.ofBits .f32 0x7F800000#32) = 1#1 := h
  rw [ht] at hc
  induction x with
  | coe r => exact ⟨r, rfl⟩
  | bot => simp [Ideal.cmp] at hc
  | top => simp [Ideal.cmp] at hc

/-- The precondition's meaning: every query and every key is a real number. -/
theorem finite_of_pre (m : (ℓ : Loc Cert.KernelIdeal.nD Cert.KernelIdeal.τ Cert.KernelIdeal.sig) → Buf (Elt Ideal) ℓ)
    (h : Cert.Pre_KernelIdeal_finite_qk m) (c : Dev Cert.KernelIdeal.nD) : Cert.KernelIdeal.Attend.Finite m c :=
  ⟨fun i => real_of_lt _ (congrFun (h c).1 i), fun i => real_of_lt _ (congrFun (h c).2 i)⟩

/-- From arguments that agree, with finite queries and keys, both programs end with the same result. -/
theorem algebraic : Cert.algebraic_KernelIdeal_ReferenceIdeal_pre_finite_qk := by
  intro m ρ m' ρ' hpre hagree
  refine ⟨fun c => Cert.KernelIdeal.Attend.result m c, ?_, ?_⟩
  · exact Cert.KernelIdeal.Attend.run_result m ρ (finite_of_pre m hpre)
  · refine (θ_run Cert.ReferenceIdeal.defs _ _).mono (fun _ h c => ⟨(h c).1.trans ?_, (h c).2⟩) (Cert.ReferenceIdeal.Value.run (F := Ideal) m' ρ')
    obtain ⟨h0, h1, h2⟩ := hagree c
    show Cert.ReferenceIdeal.Attend.res m' c = Cert.KernelIdeal.Attend.result m c
    funext i
    obtain ⟨b, n, t, rfl⟩ : ∃ (b : Fin 8) (n : Fin 512) (t : Fin 4096), i = ix3 b n t := ⟨i 0, i 1, i 2, by idx_ext⟩
    obtain ⟨h, d, e⟩ : ∃ (h : Fin 8) (d : Fin 64), n = ⟨64 * h + d, by omega⟩ :=
      ⟨⟨n / 64, by omega⟩, ⟨n % 64, by omega⟩, Fin.ext (by show n.val = 64 * (n.val / 64) + n.val % 64; omega)⟩
    rw [e]
    refine (Cert.ReferenceIdeal.Attend.res_apply m' c b h d t).trans ?_
    rw [h0, h1, h2]
    exact (Cert.KernelIdeal.Attend.result_apply m c b h d t).symm

end Cert.Proof.Attend

end
-- ==== Proof.MergeRow.lean ====
/-
  The merging call, row by row: one token's row of the layer's result as a function of its row of the input, its
  channels of the two mixers' results and of the attention gate, and the weights. Both the kernel's stored blocks and
  the plain program's result are shown to be this function.
-/
module

public import Idealize.ShloMosaic.Lib.Pointwise

@[expose] public section

noncomputable section

namespace Cert.Merge

open Idealize.ShloMosaic

/-- A row divided by the root of its mean square (with the small constant under the root), times the weight. -/
def normRow (x g : Fin 1024 → EReal) (k : Fin 1024) : EReal :=
  x k * Ideal.rsqrt (Ideal.div (∑ i, x i * x i) (Ideal.ofBits .f32 0x44800000#32) + Ideal.ofBits .f32 0x358637BD#32) * g k

/-- Channel `n` of a token's gates. -/
def gate (x g : Fin 1024 → EReal) (wg : Fin 1024 → Fin 2048 → EReal) (bg : Fin 2048 → EReal) (n : Fin 2048) : EReal :=
  Ideal.logistic ((∑ k, normRow x g k * wg k n) + bg n)

/-- Channel `n` of the merged row: the first half of the gates on the convolution mixer's row, the second half on the
    attention's, which is gated by `z * logistic z` first. -/
def merged (x g : Fin 1024 → EReal) (wg : Fin 1024 → Fin 2048 → EReal) (bg : Fin 2048 → EReal) (y a z : Fin 512 → EReal)
    (why wat : Fin 512 → Fin 1024 → EReal) (n : Fin 1024) : EReal :=
  gate x g wg bg ⟨n, by omega⟩ * (∑ d, y d * why d n)
    + gate x g wg bg ⟨1024 + n, by omega⟩ * (∑ d, a d * (z d * Ideal.logistic (z d)) * wat d n)

/-- Channel `e` of the token's row of the result. -/
def outRow (x g : Fin 1024 → EReal) (wg : Fin 1024 → Fin 2048 → EReal) (bg : Fin 2048 → EReal) (y a z : Fin 512 → EReal)
    (why wat : Fin 512 → Fin 1024 → EReal) (wo : Fin 1024 → Fin 1024 → EReal) (e : Fin 1024) : EReal :=
  x e + ∑ n, merged x g wg bg y a z why wat n * wo n e

/-- The row depends on its inputs only by their entries. -/
theorem outRow_congr {x x' g g' : Fin 1024 → EReal} {wg wg' : Fin 1024 → Fin 2048 → EReal} {bg bg' : Fin 2048 → EReal}
    {y y' a a' z z' : Fin 512 → EReal} {why why' wat wat' : Fin 512 → Fin 1024 → EReal} {wo wo' : Fin 1024 → Fin 1024 → EReal} (e : Fin 1024)
    (hx : ∀ k, x k = x' k) (hg : ∀ k, g k = g' k) (hwg : ∀ k n, wg k n = wg' k n) (hbg : ∀ n, bg n = bg' n)
    (hy : ∀ d, y d = y' d) (ha : ∀ d, a d = a' d) (hz : ∀ d, z d = z' d) (hwhy : ∀ d n, why d n = why' d n)
    (hwat : ∀ d n, wat d n = wat' d n) (hwo : ∀ n e, wo n e = wo' n e) :
    outRow x g wg bg y a z why wat wo e = outRow x' g' wg' bg' y' a' z' why' wat' wo' e := by
  obtain rfl := funext hx; obtain rfl := funext hg; obtain rfl := funext fun k => funext (hwg k); obtain rfl := funext hbg
  obtain rfl := funext hy; obtain rfl := funext ha; obtain rfl := funext hz; obtain rfl := funext fun d => funext (hwhy d)
  obtain rfl := funext fun d => funext (hwat d); obtain rfl := funext fun n => funext (hwo n)
  rfl

end Cert.Merge
-- ==== Proof.MergeKernel.lean ====
/-
  The merging call's kernel read at an index: each of its two stored halves of a tile is, token by token, the row of
  MergeRow.lean (`piece0`, `piece1`); so is the tile (`out_eq`), and with the tiles read at their places in the arguments
  the result's array (`final`).
-/
module

public import proofs.«01_k».proof.Proof.MergeRow
public import proofs.«01_k».proof.Proof.Gen.Kernel2Ideal.Value
public import Idealize.ShloMosaic.Lib.StableHlo.Run

@[expose] public section

set_option maxRecDepth 16384

noncomputable section

namespace Cert.Kernel2Ideal.Merge

open Cert.Kernel2Ideal Cert.Kernel2Ideal.Gen Idealize.ShloMosaic Idealize.ShloMosaic.TcCoe Idealize.SL.Sem

/-- The first half of a tile: the stored block at an index is the token's row. -/
theorem piece0 (x : Vec Ideal S1x512x1024 .f32) (g : Vec Ideal S1x1024 .f32) (wg : Vec Ideal S1024x2048 .bf16) (bg : Vec Ideal S1x2048 .f32)
   (y : Vec Ideal S1x512x512 .f32) (why : Vec Ideal S512x1024 .bf16) (z : Vec Ideal S1x512x512 .bf16) (a : Vec Ideal S1x512x512 .bf16) (wat : Vec Ideal S512x1024 .bf16)
   (wo : Vec Ideal S1024x1024 .bf16) (r : Fin 512) (e : Fin 1024) :
   k0_pay6 (k0_pay2 x) (k0_pay3 x g wg bg) (k0_pay4 y why) (k0_pay5 z) a wat wo (ix3 0 r e)
    = Cert.Merge.outRow (fun k => x (ix3 0 r k)) (fun k => g (ix2 0 k)) (fun k n => wg (ix2 k n)) (fun n => bg (ix2 0 n))
       (fun d => y (ix3 0 d r)) (fun d => a (ix3 0 d r)) (fun d => z (ix3 0 r d)) (fun d n => why (ix2 d n)) (fun d n => wat (ix2 d n)) (fun n e => wo (ix2 n e)) e := by
  pointwise [k0_pay6, k0_pay2, k0_pay3, k0_pay4, k0_pay5, Cert.Merge.outRow, Cert.Merge.merged, Cert.Merge.gate, Cert.Merge.normRow]

/-- The second half's block is the same expression of its loads. -/
theorem piece1 (x : Vec Ideal S1x512x1024 .f32) (g : Vec Ideal S1x1024 .f32) (wg : Vec Ideal S1024x2048 .bf16) (bg : Vec Ideal S1x2048 .f32)
   (y : Vec Ideal S1x512x512 .f32) (why : Vec Ideal S512x1024 .bf16) (z : Vec Ideal S1x512x512 .bf16) (a : Vec Ideal S1x512x512 .bf16) (wat : Vec Ideal S512x1024 .bf16)
   (wo : Vec Ideal S1024x1024 .bf16)  :
   k0_pay1 (k0_pay7 x) (k0_pay9 (k0_pay8 x g) wg bg y why z a wat) (k0_pay10 wo) = k0_pay6 (k0_pay2 x) (k0_pay3 x g wg bg) (k0_pay4 y why) (k0_pay5 z) a wat wo := rfl

/-- The block of results, from the blocks the body is given: each token's row of the call. -/
def blockOut (x0 : Vec Ideal S1x1024x1024 .f32) (x1 : Vec Ideal S1x512x1024 .f32) (x2 : Vec Ideal S1x512x1024 .bf16) (x3 : Vec Ideal S1x1024x512 .bf16) (x4 : Vec Ideal S1x1024 .f32) (x5 : Vec Ideal S1024x2048 .bf16) (x6 : Vec Ideal S1x2048 .f32) (x7 : Vec Ideal S512x1024 .bf16) (x8 : Vec Ideal S512x1024 .bf16) (x9 : Vec Ideal S1024x1024 .bf16) : Vec Ideal S1x1024x1024 .f32 := fun y =>
  Cert.Merge.outRow (fun k => x0 (ix3 0 (y 1) k)) (fun k => x4 (ix2 0 k)) (fun k n => x5 (ix2 k n)) (fun n => x6 (ix2 0 n))
    (fun d => x1 (ix3 0 d (y 1))) (fun d => x2 (ix3 0 d (y 1))) (fun d => x3 (ix3 0 (y 1) d)) (fun d n => x7 (ix2 d n)) (fun d n => x8 (ix2 d n)) (fun n e => x9 (ix2 n e)) (y 2)

/-- The block the body leaves is the block of results. -/
theorem out_eq (x0 : Vec Ideal S1x1024x1024 .f32) (x1 : Vec Ideal S1x512x1024 .f32) (x2 : Vec Ideal S1x512x1024 .bf16) (x3 : Vec Ideal S1x1024x512 .bf16) (x4 : Vec Ideal S1x1024 .f32) (x5 : Vec Ideal S1024x2048 .bf16) (x6 : Vec Ideal S1x2048 .f32) (x7 : Vec Ideal S512x1024 .bf16) (x8 : Vec Ideal S512x1024 .bf16) (x9 : Vec Ideal S1024x1024 .bf16) :
    out0_10 x0 x1 x2 x3 x4 x5 x6 x7 x8 x9 = blockOut x0 x1 x2 x3 x4 x5 x6 x7 x8 x9 := by
  funext y
  unfold out0_10
  refine View.canon_apply_of_pieces (Val := Elt Ideal) (blockOut x0 x1 x2 x3 x4 x5 x6 x7 x8 x9) _ ?_ y (cover0_10 _ _ y)
  intro p hp x
  simp only [List.mem_cons, List.not_mem_nil, or_false] at hp
  rcases hp with rfl | rfl
  · obtain ⟨a, r, e, rfl⟩ : ∃ (a : Fin 1) (r : Fin 512) (e : Fin 1024), x = ix3 a r e := ⟨x 0, x 1, x 2, by idx_ext⟩
    rw [piece1, Subsingleton.elim a 0]; dsimp only; rw [piece0]
    have he : r0_8.emb (ix3 0 r e) = (ix3 0 ⟨512 + r.val, by omega⟩ e : S1x1024x1024.Idx) := by idx_ext
    rw [he]
    pointwise [blockOut]
  · obtain ⟨a, r, e, rfl⟩ : ∃ (a : Fin 1) (r : Fin 512) (e : Fin 1024), x = ix3 a r e := ⟨x 0, x 1, x 2, by idx_ext⟩
    rw [Subsingleton.elim a 0]; dsimp only; rw [piece0]
    have he : r0_0.emb (ix3 0 r e) = (ix3 0 ⟨r.val, by omega⟩ e : S1x1024x1024.Idx) := by idx_ext
    rw [he]
    pointwise [blockOut]

variable (m : (ℓ : Loc nD τ sig) → Buf (Elt Ideal) ℓ) (ρ : Dev nD → PrngReg)

/-! ### The arrays the host prepares, at an index -/

/-- The gates' weights: the last 2048 columns of the input projection. -/
theorem wg_apply (c : Dev nD) (k : Fin 1024) (n : Fin 2048) :
    V m c main_v5 (ix2 k n) = m ((c : Thread nD τ).loc main_arg5) (ix3 0 k ⟨3232 + n.val, by omega⟩) := by
  show StableHlo.after hostOps0 (fun b => m (c, b)) main_v5 _ = _
  simp only [hostOps0, StableHlo.TRef.binary, StableHlo.TRef.nullary, StableHlo.TRef.unary, StableHlo.TRef.toBuf, StableHlo.TRef.ofBuf, cast_eq]
  after_results_simp
  pointwise
  exact congrArg (m ((c : Thread nD τ).loc main_arg5)) (by idx_ext)

/-- The normalisation's weights. -/
theorem gn_apply (c : Dev nD) (k : Fin 1024) :
    V m c main_v7 (ix2 0 k) = m ((c : Thread nD τ).loc main_arg4) (ix2 0 k) := by
  show StableHlo.after hostOps0 (fun b => m (c, b)) main_v7 _ = _
  simp only [hostOps0, StableHlo.TRef.binary, StableHlo.TRef.nullary, StableHlo.TRef.unary, StableHlo.TRef.toBuf, StableHlo.TRef.ofBuf, cast_eq]
  after_results_simp
  pointwise

/-- The gates' biases. -/
theorem bg_apply (c : Dev nD) (k : Fin 2048) :
    V m c main_v9 (ix2 0 k) = m ((c : Thread nD τ).loc main_arg6) (ix2 0 k) := by
  show StableHlo.after hostOps0 (fun b => m (c, b)) main_v9 _ = _
  simp only [hostOps0, StableHlo.TRef.binary, StableHlo.TRef.nullary, StableHlo.TRef.unary, StableHlo.TRef.toBuf, StableHlo.TRef.ofBuf, cast_eq]
  after_results_simp
  pointwise

/-- The weights of the convolution branch's output. -/
theorem why_apply (c : Dev nD) (k : Fin 512) (n : Fin 1024) :
    V m c main_v11 (ix2 k n) = m ((c : Thread nD τ).loc main_arg7) (ix3 0 k n) := by
  show StableHlo.after hostOps0 (fun b => m (c, b)) main_v11 _ = _
  simp only [hostOps0, StableHlo.TRef.binary, StableHlo.TRef.nullary, StableHlo.TRef.unary, StableHlo.TRef.toBuf, StableHlo.TRef.ofBuf, cast_eq]
  after_results_simp
  pointwise

/-- The weights of the attention branch's output. -/
theorem wat_apply (c : Dev nD) (k : Fin 512) (n : Fin 1024) :
    V m c main_v13 (ix2 k n) = m ((c : Thread nD τ).loc main_arg8) (ix3 0 k n) := by
  show StableHlo.after hostOps0 (fun b => m (c, b)) main_v13 _ = _
  simp only [hostOps0, StableHlo.TRef.binary, StableHlo.TRef.nullary, StableHlo.TRef.unary, StableHlo.TRef.toBuf, StableHlo.TRef.ofBuf, cast_eq]
  after_results_simp
  pointwise

/-- The weights of the layer's output. -/
theorem wout_apply (c : Dev nD) (k : Fin 1024) (n : Fin 1024) :
    V m c main_v15 (ix2 k n) = m ((c : Thread nD τ).loc main_arg9) (ix3 0 k n) := by
  show StableHlo.after hostOps0 (fun b => m (c, b)) main_v15 _ = _
  simp only [hostOps0, StableHlo.TRef.binary, StableHlo.TRef.nullary, StableHlo.TRef.unary, StableHlo.TRef.toBuf, StableHlo.TRef.ofBuf, cast_eq]
  after_results_simp
  pointwise

/-! ### The blocks a grid point is given, at an index -/

/-- The batch of a grid point. -/
def bt (t : Fin cfg0.N) : Fin 8 := ⟨t.val / 4, by have h : t.val < 32 := t.isLt; omega⟩
/-- The token of a tile's row. -/
def row (t : Fin cfg0.N) (r : Fin 1024) : Fin 4096 := ⟨t.val % 4 * 1024 + r.val, by omega⟩

/-- The tile of the input. -/
theorem blk0 (c : Dev nD) (t : Fin cfg0.N) (r k : Fin 1024) :
    iblk m c 0 t (ix3 0 r k) = m ((c : Thread nD τ).loc main_arg0) (ix3 (bt t) (row t r) k) := by
  have ho : ∀ (t : Fin cfg0.N) (a : Fin 3), win0_0.index t a * win0_0.size a = ![t.val / 4, t.val % 4 * 1024, 0] a :=
    (by decide +kernel : ∀ (t : Fin grid0.N) (a : Fin 3), win0_0.index t a * win0_0.size a = ![t.val / 4, t.val % 4 * 1024, 0] a)
  show V m c main_arg0 ((win0_0.rect t).emb (ix3 0 r k)) = _
  rw [V_main_arg0]
  refine congrArg _ (funext fun a => Fin.ext ((Pipeline.Window.rect_emb_val win0_0 t (ix3 0 r k) a).trans ?_))
  rw [ho t a]
  fin_cases a <;> first | rfl | exact Nat.zero_add _

/-- The tile of the convolution mixer's result. -/
theorem blk1 (c : Dev nD) (t : Fin cfg0.N) (d : Fin 512) (r : Fin 1024) :
    iblk m c 1 t (ix3 0 d r) = m ((c : Thread nD τ).loc main_arg1) (ix3 (bt t) d (row t r)) := by
  have ho : ∀ (t : Fin cfg0.N) (a : Fin 3), win0_1.index t a * win0_1.size a = ![t.val / 4, 0, t.val % 4 * 1024] a :=
    (by decide +kernel : ∀ (t : Fin grid0.N) (a : Fin 3), win0_1.index t a * win0_1.size a = ![t.val / 4, 0, t.val % 4 * 1024] a)
  show V m c main_arg1 ((win0_1.rect t).emb (ix3 0 d r)) = _
  rw [V_main_arg1]
  refine congrArg _ (funext fun a => Fin.ext ((Pipeline.Window.rect_emb_val win0_1 t (ix3 0 d r) a).trans ?_))
  rw [ho t a]
  fin_cases a <;> first | rfl | exact Nat.zero_add _

/-- The tile of the attention's result. -/
theorem blk2 (c : Dev nD) (t : Fin cfg0.N) (d : Fin 512) (r : Fin 1024) :
    iblk m c 2 t (ix3 0 d r) = m ((c : Thread nD τ).loc main_arg2) (ix3 (bt t) d (row t r)) := by
  have ho : ∀ (t : Fin cfg0.N) (a : Fin 3), win0_2.index t a * win0_2.size a = ![t.val / 4, 0, t.val % 4 * 1024] a :=
    (by decide +kernel : ∀ (t : Fin grid0.N) (a : Fin 3), win0_2.index t a * win0_2.size a = ![t.val / 4, 0, t.val % 4 * 1024] a)
  show V m c main_arg2 ((win0_2.rect t).emb (ix3 0 d r)) = _
  rw [V_main_arg2]
  refine congrArg _ (funext fun a => Fin.ext ((Pipeline.Window.rect_emb_val win0_2 t (ix3 0 d r) a).trans ?_))
  rw [ho t a]
  fin_cases a <;> first | rfl | exact Nat.zero_add _

/-- The tile of the attention's gate. -/
theorem blk3 (c : Dev nD) (t : Fin cfg0.N) (r : Fin 1024) (d : Fin 512) :
    iblk m c 3 t (ix3 0 r d) = m ((c : Thread nD τ).loc main_arg3) (ix3 (bt t) (row t r) d) := by
  have ho : ∀ (t : Fin cfg0.N) (a : Fin 3), win0_3.index t a * win0_3.size a = ![t.val / 4, t.val % 4 * 1024, 0] a :=
    (by decide +kernel : ∀ (t : Fin grid0.N) (a : Fin 3), win0_3.index t a * win0_3.size a = ![t.val / 4, t.val % 4 * 1024, 0] a)
  show V m c main_arg3 ((win0_3.rect t).emb (ix3 0 r d)) = _
  rw [V_main_arg3]
  refine congrArg _ (funext fun a => Fin.ext ((Pipeline.Window.rect_emb_val win0_3 t (ix3 0 r d) a).trans ?_))
  rw [ho t a]
  fin_cases a <;> first | rfl | exact Nat.zero_add _

/-- Window 4 holds its whole array. -/
theorem blk4 (c : Dev nD) (t : Fin cfg0.N) : iblk m c 4 t = V m c main_v7 :=
  have h0 : ∀ (t : Fin cfg0.N) (a : Fin 2), win0_4.index t a = 0 := (by decide +kernel : ∀ (t : Fin grid0.N) (a : Fin 2), win0_4.index t a = 0)
  funext fun y => congrArg (V m c main_v7) (funext fun a => Fin.ext (Pipeline.Window.rect_emb_val_of_index_zero win0_4 t a (h0 t a) y))

/-- Window 5 holds its whole array. -/
theorem blk5 (c : Dev nD) (t : Fin cfg0.N) : iblk m c 5 t = V m c main_v5 :=
  have h0 : ∀ (t : Fin cfg0.N) (a : Fin 2), win0_5.index t a = 0 := (by decide +kernel : ∀ (t : Fin grid0.N) (a : Fin 2), win0_5.index t a = 0)
  funext fun y => congrArg (V m c main_v5) (funext fun a => Fin.ext (Pipeline.Window.rect_emb_val_of_index_zero win0_5 t a (h0 t a) y))

/-- Window 6 holds its whole array. -/
theorem blk6 (c : Dev nD) (t : Fin cfg0.N) : iblk m c 6 t = V m c main_v9 :=
  have h0 : ∀ (t : Fin cfg0.N) (a : Fin 2), win0_6.index t a = 0 := (by decide +kernel : ∀ (t : Fin grid0.N) (a : Fin 2), win0_6.index t a = 0)
  funext fun y => congrArg (V m c main_v9) (funext fun a => Fin.ext (Pipeline.Window.rect_emb_val_of_index_zero win0_6 t a (h0 t a) y))

/-- Window 7 holds its whole array. -/
theorem blk7 (c : Dev nD) (t : Fin cfg0.N) : iblk m c 7 t = V m c main_v11 :=
  have h0 : ∀ (t : Fin cfg0.N) (a : Fin 2), win0_7.index t a = 0 := (by decide +kernel : ∀ (t : Fin grid0.N) (a : Fin 2), win0_7.index t a = 0)
  funext fun y => congrArg (V m c main_v11) (funext fun a => Fin.ext (Pipeline.Window.rect_emb_val_of_index_zero win0_7 t a (h0 t a) y))

/-- Window 8 holds its whole array. -/
theorem blk8 (c : Dev nD) (t : Fin cfg0.N) : iblk m c 8 t = V m c main_v13 :=
  have h0 : ∀ (t : Fin cfg0.N) (a : Fin 2), win0_8.index t a = 0 := (by decide +kernel : ∀ (t : Fin grid0.N) (a : Fin 2), win0_8.index t a = 0)
  funext fun y => congrArg (V m c main_v13) (funext fun a => Fin.ext (Pipeline.Window.rect_emb_val_of_index_zero win0_8 t a (h0 t a) y))

/-- Window 9 holds its whole array. -/
theorem blk9 (c : Dev nD) (t : Fin cfg0.N) : iblk m c 9 t = V m c main_v15 :=
  have h0 : ∀ (t : Fin cfg0.N) (a : Fin 2), win0_9.index t a = 0 := (by decide +kernel : ∀ (t : Fin grid0.N) (a : Fin 2), win0_9.index t a = 0)
  funext fun y => congrArg (V m c main_v15) (funext fun a => Fin.ext (Pipeline.Window.rect_emb_val_of_index_zero win0_9 t a (h0 t a) y))

/-! ### The call's result -/

/-- The result the call leaves, from its arguments: each token's row. -/
def result (c : Dev nD) : Buf (Elt Ideal) ((c : Thread nD τ).loc main_v16) := fun (i : S8x4096x1024.Idx) =>
  Cert.Merge.outRow (fun k => m ((c : Thread nD τ).loc main_arg0) (ix3 (i 0) (i 1) k))
    (fun k => m ((c : Thread nD τ).loc main_arg4) (ix2 0 k))
    (fun k n => m ((c : Thread nD τ).loc main_arg5) (ix3 0 k ⟨3232 + n.val, by omega⟩))
    (fun n => m ((c : Thread nD τ).loc main_arg6) (ix2 0 n))
    (fun d => m ((c : Thread nD τ).loc main_arg1) (ix3 (i 0) d (i 1)))
    (fun d => m ((c : Thread nD τ).loc main_arg2) (ix3 (i 0) d (i 1)))
    (fun d => m ((c : Thread nD τ).loc main_arg3) (ix3 (i 0) (i 1) d))
    (fun d n => m ((c : Thread nD τ).loc main_arg7) (ix3 0 d n))
    (fun d n => m ((c : Thread nD τ).loc main_arg8) (ix3 0 d n))
    (fun n e => m ((c : Thread nD τ).loc main_arg9) (ix3 0 n e)) (i 2)

/-- Where a grid point's tile of the result begins. -/
theorem off10 : ∀ (t : Fin cfg0.N) (a : Fin 3), win0_10.index t a * win0_10.size a = ![t.val / 4, t.val % 4 * 1024, 0] a :=
  (by decide +kernel : ∀ (t : Fin grid0.N) (a : Fin 3), win0_10.index t a * win0_10.size a = ![t.val / 4, t.val % 4 * 1024, 0] a)

/-- A grid point's block of results, read where the point's tile lies in the result. -/
theorem block_apply (c : Dev nD) (t : Fin cfg0.N) (r e : Fin 1024) :
    blockOut (iblk m c 0 t) (iblk m c 1 t) (iblk m c 2 t) (iblk m c 3 t) (iblk m c 4 t) (iblk m c 5 t) (iblk m c 6 t) (iblk m c 7 t) (iblk m c 8 t) (iblk m c 9 t) (ix3 0 r e)
      = result m c (ix3 (bt t) (row t r) e) := by
  unfold blockOut result
  exact Cert.Merge.outRow_congr e (fun k => blk0 m c t r k) (fun k => (congrFun (blk4 m c t) _).trans (gn_apply m c k))
    (fun k n => (congrFun (blk5 m c t) _).trans (wg_apply m c k n)) (fun n => (congrFun (blk6 m c t) _).trans (bg_apply m c n))
    (fun d => blk1 m c t d r) (fun d => blk2 m c t d r) (fun d => blk3 m c t r d)
    (fun d n => (congrFun (blk7 m c t) _).trans (why_apply m c d n)) (fun d n => (congrFun (blk8 m c t) _).trans (wat_apply m c d n))
    (fun n e => (congrFun (blk9 m c t) _).trans (wout_apply m c n e))

/-- Where a grid point's tile lies in the result. -/
theorem emb10 (t : Fin cfg0.N) (r e : Fin 1024) : (win0_10.rect t).emb (ix3 0 r e) = (ix3 (bt t) (row t r) e : S8x4096x1024.Idx) := by
  refine funext fun a => Fin.ext ((Pipeline.Window.rect_emb_val win0_10 t (ix3 0 r e) a).trans ?_)
  rw [off10 t a]
  fin_cases a <;> first | rfl | exact Nat.zero_add _

/-- What a grid point writes back is its block of the result. -/
theorem flushed_eq (c : Dev nD) (t : Fin cfg0.N) :
    (dats m 0 c).flushed 10 t = (win0_10.blk t).view.read (Elt Ideal) (result m c) := by
  rw [Value.flushed10, out_eq]
  funext y
  obtain ⟨a, r, e, rfl⟩ : ∃ (a : Fin 1) (r : Fin 1024) (e : Fin 1024), y = ix3 a r e := ⟨y 0, y 1, y 2, by idx_ext⟩
  rw [Subsingleton.elim a 0]
  exact (block_apply m c t r e).trans (congrArg (result m c) (emb10 t r e).symm)

/-- Every index of the result lies in the block of its batch and tile. -/
theorem cover (i : S8x4096x1024.Idx) :
    ∃ t : Fin cfg0.N, (cfg0.win 10).flush t = true ∧ i ∈ ((cfg0.win 10).blk t).view.set := by
  have h0 : (i 0 : Nat) < 8 := (i 0).isLt
  have h1 : (i 1 : Nat) < 4096 := (i 1).isLt
  have h2 : (i 2 : Nat) < 1024 := (i 2).isLt
  have hN : cfg0.N = 32 := rfl
  let t : Fin cfg0.N := ⟨4 * (i 0 : Nat) + (i 1 : Nat) / 1024, by omega⟩
  refine ⟨t, flush0_10 _, ?_⟩
  show i ∈ ((View.whole main_v16).slice (win0_10.rect t)).set
  rw [View.set_slice_whole, Rect.mem_set_unit]
  intro a
  have ho := off10 t a
  match a with
  | ⟨0, _⟩ =>
    show win0_10.index t 0 * win0_10.size 0 ≤ (i 0 : Nat) ∧ (i 0 : Nat) < win0_10.index t 0 * win0_10.size 0 + 1
    rw [show win0_10.index t 0 * win0_10.size 0 = (4 * (i 0 : Nat) + (i 1 : Nat) / 1024) / 4 from ho]; omega
  | ⟨1, _⟩ =>
    show win0_10.index t 1 * win0_10.size 1 ≤ (i 1 : Nat) ∧ (i 1 : Nat) < win0_10.index t 1 * win0_10.size 1 + 1024
    rw [show win0_10.index t 1 * win0_10.size 1 = (4 * (i 0 : Nat) + (i 1 : Nat) / 1024) % 4 * 1024 from ho]; omega
  | ⟨2, _⟩ =>
    show win0_10.index t 2 * win0_10.size 2 ≤ (i 2 : Nat) ∧ (i 2 : Nat) < win0_10.index t 2 * win0_10.size 2 + 1024
    rw [show win0_10.index t 2 * win0_10.size 2 = 0 from ho]; omega

/-- The result's array after the run. -/
theorem final (c : Dev nD) : (dats m 0 c).arrAt 10 cfg0.N = result m c :=
  (dats m 0 c).arrAt_eq_of_cover 10 (result m c) (fun t _ => flushed_eq m c t) cover

/-- The run: the result's array at the result. -/
theorem run_result : θ_run defs (onTc (τ := τ) (main (F := Ideal))) ⟨m, fun _ => 0, ρ⟩ fun r => ∀ c : Dev nD,
    r.2.mem ((c : Thread nD τ).loc main_v16) = result m c ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1).trans (final m c), (h c).2⟩) (Value.run_blocks m ρ)

end Cert.Kernel2Ideal.Merge

end
-- ==== Proof.MergeReference.lean ====
/-
  The merging call's plain program read at an index: its composed value, cut at the normalised input, the gates, the
  attention's gated branch and the merged rows, is the row of MergeRow.lean.
-/
module

public import proofs.«01_k».proof.Proof.MergeRow
public import proofs.«01_k».proof.Proof.Gen.Reference2Ideal.Run

@[expose] public section

set_option maxRecDepth 16384

noncomputable section

namespace Cert.Reference2Ideal.Merge

open Cert.Reference2Ideal Cert.Reference2Ideal.Gen Idealize.ShloMosaic Idealize.ShloMosaic.TcCoe Idealize.SL.Sem

/-- The plain program's normalised input. -/
def hV (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

theorem hV_apply (x : FVec Ideal S8x4096x1024 .f32) (g : FVec Ideal S1x1024 .f32) (b : Fin 8) (t : Fin 4096) (k : Fin 1024) :
    hV x g (ix3 b t k) = Cert.Merge.normRow (fun k => x (ix3 b t k)) (fun k => g (ix2 0 k)) k := by
  pointwise [hV, Cert.Merge.normRow]

/-- The plain program's gates, of its normalised input. -/
def gV (h : FVec Ideal S8x4096x1024 .f32) (w : FVec Ideal S1x1024x5280 .f32) (b : FVec Ideal S1x2048 .f32) : FVec Ideal S8x4096x2048 .f32 :=
  Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (addf (extractStridedSlice S8x4096x2048 ![0, 0, 3232] (Host.dotGeneral dot_S8x4096x1024_S1024x5280_S8x4096x5280_2_0_01_1_n_n none h (shapeCast _ w shapeCasts_S1x1024x5280_S1024x5280)) slices_S8x4096x5280_S8x4096x2048_0_0_3232) (broadcastInDim S8x4096x2048 ![0, 1, 2] bcast_S1x1x2048_S8x4096x2048_0_1_2 (broadcastInDim S1x1x2048 ![2] bcast_S2048_S1x1x2048_2 (shapeCast _ b shapeCasts_S1x2048_S2048)))))))

theorem gV_apply (h : FVec Ideal S8x4096x1024 .f32) (w : FVec Ideal S1x1024x5280 .f32) (bg : FVec Ideal S1x2048 .f32) (b : Fin 8) (t : Fin 4096) (n : Fin 2048) :
    gV h w bg (ix3 b t n) = Ideal.logistic ((∑ k, h (ix3 b t k) * w (ix3 0 k ⟨3232 + n.val, by omega⟩)) + bg (ix2 0 n)) := by
  pointwise [gV]
  rfl

/-- The attention's branch in the plain program, gated. -/
def aV (a : FVec Ideal S8x512x4096 .bf16) (z : FVec Ideal S8x4096x512 .bf16) : FVec Ideal S8x4096x512 .f32 :=
  mulf (transpose S8x4096x512 [0, 2, 1] (extf .f32 a bitsLt_bf16_f32) transposes_S8x512x4096_S8x4096x512_0_2_1) (mulf (extf .f32 z bitsLt_bf16_f32) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extf .f32 z bitsLt_bf16_f32))))))

theorem aV_apply (a : FVec Ideal S8x512x4096 .bf16) (z : FVec Ideal S8x4096x512 .bf16) (b : Fin 8) (t : Fin 4096) (d : Fin 512) :
    aV a z (ix3 b t d) = a (ix3 b d t) * (z (ix3 b t d) * Ideal.logistic (z (ix3 b t d))) := by
  pointwise [aV]
  rfl

/-- The plain program's merged rows, of its gates and the two branches. -/
def mV (g : FVec Ideal S8x4096x2048 .f32) (y : FVec Ideal S8x512x4096 .f32) (a : FVec Ideal S8x4096x512 .f32) (why wat : FVec Ideal S1x512x1024 .f32) : FVec Ideal S8x4096x1024 .f32 :=
  addf (mulf (extractStridedSlice S8x4096x1024 ![0, 0, 0] g slices_S8x4096x2048_S8x4096x1024_0_0_0) (Host.dotGeneral dot_S8x4096x512_S512x1024_S8x4096x1024_2_0_01_1_n_n none (transpose S8x4096x512 [0, 2, 1] y transposes_S8x512x4096_S8x4096x512_0_2_1) (shapeCast _ why shapeCasts_S1x512x1024_S512x1024))) (mulf (extractStridedSlice S8x4096x1024 ![0, 0, 1024] g slices_S8x4096x2048_S8x4096x1024_0_0_1024) (Host.dotGeneral dot_S8x4096x512_S512x1024_S8x4096x1024_2_0_01_1_n_n none a (shapeCast _ wat shapeCasts_S1x512x1024_S512x1024)))

theorem mV_apply (g : FVec Ideal S8x4096x2048 .f32) (y : FVec Ideal S8x512x4096 .f32) (a : FVec Ideal S8x4096x512 .f32) (why wat : FVec Ideal S1x512x1024 .f32) (b : Fin 8) (t : Fin 4096) (n : Fin 1024) :
    mV g y a why wat (ix3 b t n) = g (ix3 b t ⟨n, by omega⟩) * (∑ d, y (ix3 b d t) * why (ix3 0 d n))
      + g (ix3 b t ⟨1024 + n, by omega⟩) * (∑ d, a (ix3 b t d) * wat (ix3 0 d n)) := by
  pointwise [mV]

/-- The plain program's result, of its merged rows. -/
def oV (x h : FVec Ideal S8x4096x1024 .f32) (wo : FVec Ideal S1x1024x1024 .f32) : FVec Ideal S8x4096x1024 .f32 :=
  addf x (Host.dotGeneral dot_S8x4096x1024_S1024x1024_S8x4096x1024_2_0_01_1_n_n none h (shapeCast _ wo shapeCasts_S1x1024x1024_S1024x1024))

theorem oV_apply (x h : FVec Ideal S8x4096x1024 .f32) (wo : FVec Ideal S1x1024x1024 .f32) (b : Fin 8) (t : Fin 4096) (e : Fin 1024) :
    oV x h wo (ix3 b t e) = x (ix3 b t e) + ∑ n, h (ix3 b t n) * wo (ix3 0 n e) := by
  pointwise [oV]

variable (m : (ℓ : Loc nD τ sig) → Buf (Elt Ideal) ℓ)

/-- The program's composed value is its stages one after another. -/
theorem res_eq (c : Dev nD) : Value.res_main_v44 m c =
    oV (m ((c : Thread nD τ).loc main_arg0)) (mV (gV (hV (m ((c : Thread nD τ).loc main_arg0)) (m ((c : Thread nD τ).loc main_arg4))) (m ((c : Thread nD τ).loc main_arg5)) (m ((c : Thread nD τ).loc main_arg6)))
      (m ((c : Thread nD τ).loc main_arg1)) (aV (m ((c : Thread nD τ).loc main_arg2)) (m ((c : Thread nD τ).loc main_arg3))) (m ((c : Thread nD τ).loc main_arg7)) (m ((c : Thread nD τ).loc main_arg8)))
      (m ((c : Thread nD τ).loc main_arg9)) := rfl

/-- The plain program's result at an index: the token's row. -/
theorem res_apply (c : Dev nD) (b : Fin 8) (t : Fin 4096) (e : Fin 1024) :
    Value.res_main_v44 m c (ix3 b t e) =
  Cert.Merge.outRow (fun k => m ((c : Thread nD τ).loc main_arg0) (ix3 b t k))
    (fun k => m ((c : Thread nD τ).loc main_arg4) (ix2 0 k))
    (fun k n => m ((c : Thread nD τ).loc main_arg5) (ix3 0 k ⟨3232 + n.val, by omega⟩))
    (fun n => m ((c : Thread nD τ).loc main_arg6) (ix2 0 n))
    (fun d => m ((c : Thread nD τ).loc main_arg1) (ix3 b d t))
    (fun d => m ((c : Thread nD τ).loc main_arg2) (ix3 b d t))
    (fun d => m ((c : Thread nD τ).loc main_arg3) (ix3 b t d))
    (fun d n => m ((c : Thread nD τ).loc main_arg7) (ix3 0 d n))
    (fun d n => m ((c : Thread nD τ).loc main_arg8) (ix3 0 d n))
    (fun n e => m ((c : Thread nD τ).loc main_arg9) (ix3 0 n e)) e := by
  rw [res_eq, oV_apply]
  simp only [mV_apply, gV_apply, aV_apply, hV_apply]
  rfl

end Cert.Reference2Ideal.Merge

end
-- ==== Proof.MergeClaims.lean ====
/-
  The claims about the merging call: the kernel's result and the plain program's are one function of the arguments.
-/
module

public import proofs.«01_k».proof.Defs
public import proofs.«01_k».proof.Proof.MergeKernel
public import proofs.«01_k».proof.Proof.MergeReference
public import Idealize.ShloMosaic.Lib.Quiescent

@[expose] public section

noncomputable section

namespace Cert.Proof.Merge

open Idealize.ShloMosaic Idealize.ShloMosaic.TcCoe Idealize.SL.Sem

/-- The plain program leaves its arguments as they were and has no semaphore. -/
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- From arguments that agree, both programs end with the same result. -/
theorem algebraic : Cert.algebraic_Kernel2Ideal_Reference2Ideal := by
  intro m ρ m' ρ' _ hagree
  refine ⟨fun c => Cert.Kernel2Ideal.Merge.result m c, ?_, ?_⟩
  · exact Cert.Kernel2Ideal.Merge.run_result m ρ
  · refine (θ_run Cert.Reference2Ideal.defs _ _).mono (fun _ h c => ⟨(h c).1.trans ?_, (h c).2⟩) (Cert.Reference2Ideal.Value.run (F := Ideal) m' ρ')
    obtain ⟨h0, h1, h2, h3, h4, h5, h6, h7, h8, h9⟩ := hagree c
    funext i
    obtain ⟨b, t, e, rfl⟩ : ∃ (b : Fin 8) (t : Fin 4096) (e : Fin 1024), i = ix3 b t e := ⟨i 0, i 1, i 2, by idx_ext⟩
    refine (Cert.Reference2Ideal.Merge.res_apply m' c b t e).trans ?_
    rw [h0, h1, h2, h3, h4, h5, h6, h7, h8, h9]
    rfl

end Cert.Proof.Merge

end
-- ==== Proof.ProjectionRow.lean ====
/-
  The projections of one token, on extended reals: the normalised rows, a head's queries and keys as the kernel computes
  them and as the plain program does, and that the two agree.
-/
module

public import Idealize.ShloMosaic.Lib.Pointwise
public import Idealize.ShloMosaic.PureOps.Ideal

@[expose] public section

noncomputable section

namespace Cert.Projection

open Idealize.ShloMosaic

/-- A row divided by the root of its mean square (with the small constant under the root), times the weight; `N` is the
    row's length. -/
def normed {n : ℕ} (N : EReal) (x g : Fin n → EReal) (k : Fin n) : EReal :=
  x k * Ideal.rsqrt (Ideal.div (∑ i, x i * x i) N + Ideal.ofBits .f32 0x358637BD#32) * g k

/-- The token's normalised input. -/
def hidden (x g : Fin 1024 → EReal) (k : Fin 1024) : EReal := normed (Ideal.ofBits .f32 0x44800000#32) x g k

/-- The token's latent row of the queries; `y` is the row before its normalisation. -/
def latentQ (y g : Fin 384 → EReal) (k : Fin 384) : EReal := normed (Ideal.ofBits .f32 0x43C00000#32) y g k

/-- The token's latent row of keys and values. -/
def latentKV (y g : Fin 256 → EReal) (k : Fin 256) : EReal := normed (Ideal.ofBits .f32 0x43800000#32) y g k

/-- A head's row, the two halves of the last 32 channels exchanged. -/
def swapped (q : Fin 96 → EReal) (d : Fin 96) : EReal :=
  if h : d.val < 64 then q d else if h : d.val < 80 then q ⟨d.val + 16, by omega⟩ else q ⟨d.val - 16, by omega⟩

/-- A head's queries as the kernel computes them: `c` and `s` are the weights times the tables, `κ` the scale. -/
def kernelQ (κ : EReal) (q c s : Fin 96 → EReal) (d : Fin 96) : EReal :=
  (q d * c d + swapped q d * s d)
    * (Ideal.rsqrt (Ideal.div (∑ i, q i * q i) (Ideal.ofBits .f32 0x42C00000#32) + Ideal.ofBits .f32 0x358637BD#32) * κ)

/-- The lanes common to all heads' keys, the two halves of the rotated ones exchanged. -/
def turned (r : Fin 128 → EReal) (n : Fin 128) : EReal :=
  if n.val < 80 then r ⟨(n.val + 16) % 128, by omega⟩ else r ⟨(n.val + 112) % 128, by omega⟩

/-- A head's keys as the kernel computes them: `ι` is the inverse of the channels' number. -/
def kernelK (ι : EReal) (k r c s : Fin 128 → EReal) (d : Fin 96) : EReal :=
  (k ⟨d.val, by omega⟩ * c ⟨d.val, by omega⟩ + turned r ⟨d.val, by omega⟩ * s ⟨d.val, by omega⟩)
    * Ideal.rsqrt ((∑ i, k i * k i) * ι + Ideal.ofBits .f32 0x358637BD#32)

/-! ### The plain program's form -/

/-- The last 32 channels rotated: `co` and `si` are the position's cosines and sines. -/
def rotated (n : Fin 96 → EReal) (co si : Fin 16 → EReal) (d : Fin 96) : EReal :=
  if h : d.val < 64 then n d
  else if h : d.val < 80 then n d * co ⟨d.val - 64, by omega⟩ - n ⟨d.val + 16, by omega⟩ * si ⟨d.val - 64, by omega⟩
  else n ⟨d.val - 16, by omega⟩ * si ⟨d.val - 80, by omega⟩ + n d * co ⟨d.val - 80, by omega⟩

/-- The cosines by channel: one where nothing is rotated. -/
def cosTab (co : Fin 16 → EReal) (d : Fin 96) : EReal :=
  if h : d.val < 64 then 1 else if h : d.val < 80 then co ⟨d.val - 64, by omega⟩ else co ⟨d.val - 80, by omega⟩

/-- The signed sines by channel: zero where nothing is rotated. -/
def sinTab (si : Fin 16 → EReal) (d : Fin 96) : EReal :=
  if h : d.val < 64 then 0 else if h : d.val < 80 then -si ⟨d.val - 64, by omega⟩ else si ⟨d.val - 80, by omega⟩

/-- The angle of a position and a frequency. -/
def angleAt (s f : ℕ) : EReal :=
  FloatOps.sitofp (F := Ideal) .f32 (BitVec.ofNat 32 s) * Ideal.pow (Ideal.ofBits .f32 0x461C4000#32)
    (Ideal.div (-(Ideal.ofBits .f32 0x40000000#32 * FloatOps.sitofp (F := Ideal) .f32 (BitVec.ofNat 32 f))) (Ideal.ofBits .f32 0x42000000#32))
def angle (s : Fin 4096) (f : Fin 16) : EReal := angleAt s f

/-- The token's projected row: its normalised input times the projection. -/
def down (x g : Fin 1024 → EReal) (w : Fin 1024 → Fin 5280 → EReal) (n : Fin 5280) : EReal := ∑ k, hidden x g k * w k n

/-- A head's queries before their normalisation. -/
def qRow (p : Fin 5280 → EReal) (g : Fin 384 → EReal) (w : Fin 384 → Fin 768 → EReal) (j : Fin 8) (e : Fin 96) : EReal :=
  ∑ k, latentQ (fun k => p ⟨2048 + k.val, by omega⟩) g k * w k ⟨j.val * 96 + e.val, by omega⟩

/-- A head's keys and values. -/
def kvRow (p : Fin 5280 → EReal) (g : Fin 256 → EReal) (w : Fin 256 → Fin 1024 → EReal) (j : Fin 8) (e : Fin 128) : EReal :=
  ∑ k, latentKV (fun k => p ⟨2432 + k.val, by omega⟩) g k * w k ⟨j.val * 128 + e.val, by omega⟩

/-- A head's keys before their normalisation: 64 channels of its own, 32 common to all heads. -/
def kRow (p : Fin 5280 → EReal) (g : Fin 256 → EReal) (w : Fin 256 → Fin 1024 → EReal) (j : Fin 8) (e : Fin 96) : EReal :=
  if h : e.val < 64 then kvRow p g w j ⟨e.val, by omega⟩ else p ⟨2688 + (e.val - 64), by omega⟩

/-- A head's stored values: 64 channels, a one and zeros. -/
def vRow (p : Fin 5280 → EReal) (g : Fin 256 → EReal) (w : Fin 256 → Fin 1024 → EReal) (j : Fin 8) (d : Fin 80) : EReal :=
  if h : d.val < 64 then kvRow p g w j ⟨64 + d.val, by omega⟩ else if d.val = 64 then 1 else 0

/-! ### The two agree -/

/-- The channel exchanged with `d`. -/
def perm (d : Fin 96) : Fin 96 := ⟨if d.val < 64 then d.val else if d.val < 80 then d.val + 16 else d.val - 16, by split_ifs <;> omega⟩

theorem swapped_eq (q : Fin 96 → EReal) (d : Fin 96) : swapped q d = q (perm d) := by
  unfold swapped
  split_ifs with h1 h2
  · exact congrArg q (Fin.ext (by simp only [perm, h1, if_true]))
  · exact congrArg q (Fin.ext (by simp only [perm, h1, h2, if_true, if_false]))
  · exact congrArg q (Fin.ext (by simp only [perm, h1, h2, if_false]))

/-- A table laid out in three parts is the cosines by channel. -/
theorem cosTab_parts (f : ℕ → EReal) (d : Fin 96) :
    (if _h : d.val < 64 then (1 : EReal) else if _h : d.val - 64 < 16 then f (d.val - 64) else f (d.val - 64 - 16)) = cosTab (fun i => f i.val) d := by
  unfold cosTab
  by_cases h1 : d.val < 64
  · simp only [h1, dite_true]
  by_cases h2 : d.val < 80
  · have h3 : d.val - 64 < 16 := by omega
    simp only [h1, h2, h3, dite_true, dite_false]
  · have h3 : ¬d.val - 64 < 16 := by omega
    simp only [h1, h2, h3, dite_false]
    exact congrArg f (by omega)

/-- A table laid out in three parts is the signed sines by channel. -/
theorem sinTab_parts (f : ℕ → EReal) (d : Fin 96) :
    (if _h : d.val < 64 then (0 : EReal) else if _h : d.val - 64 < 16 then -f (d.val - 64) else f (d.val - 64 - 16)) = sinTab (fun i => f i.val) d := by
  unfold sinTab
  by_cases h1 : d.val < 64
  · simp only [h1, dite_true]
  by_cases h2 : d.val < 80
  · have h3 : d.val - 64 < 16 := by omega
    simp only [h1, h2, h3, dite_true, dite_false]
  · have h3 : ¬d.val - 64 < 16 := by omega
    simp only [h1, h2, h3, dite_false]
    exact congrArg f (by omega)

theorem mul_self_nonneg (x : EReal) : 0 ≤ x * x := by
  rcases le_total 0 x with h | h
  · exact mul_nonneg h h
  · have := mul_nonneg (EReal.neg_nonneg.mpr h) (EReal.neg_nonneg.mpr h)
    rwa [neg_mul_neg] at this

theorem eps_pos : (0 : EReal) < Ideal.ofBits .f32 0x358637BD#32 := by
  simp [Ideal.ofBits, Ideal.ieee, ← EReal.coe_mul]

theorem word96 : Ideal.ofBits .f32 0x42C00000#32 = ((96 : ℝ) : EReal) := by
  simp [Ideal.ofBits, Ideal.ieee, ← EReal.coe_mul]; norm_num

/-- One over a root of something positive is nonnegative and not the top. -/
theorem rsqrt_pos {y : EReal} (hy : 0 < y) : 0 ≤ Ideal.rsqrt y ∧ Ideal.rsqrt y ≠ ⊤ := by
  induction y with
  | bot => exact absurd hy (by simp)
  | top => exact ⟨le_refl _, (EReal.zero_ne_top : (0 : EReal) ≠ ⊤)⟩
  | coe v =>
    have hv : 0 < v := by exact_mod_cast hy
    have e : Ideal.rsqrt (v : EReal) = (((Real.sqrt v)⁻¹ : ℝ) : EReal) := by
      show (if v < 0 then ⊥ else if v = 0 then ⊤ else _) = _
      rw [if_neg (not_lt.mpr hv.le), if_neg hv.ne']
    rw [e]
    exact ⟨by exact_mod_cast inv_nonneg.mpr (Real.sqrt_nonneg v), EReal.coe_ne_top _⟩

theorem div96 (x : EReal) : Ideal.div x (Ideal.ofBits .f32 0x42C00000#32) = x * ((96⁻¹ : ℝ) : EReal) := by
  rw [word96]
  have h : ((96 : ℝ) : EReal) ≠ 0 := by exact_mod_cast (by norm_num : (96 : ℝ) ≠ 0)
  rw [Ideal.div, if_neg h, EReal.coe_inv]

/-- The factor of a head's row: nonnegative and not the top. -/
theorem factor_pos (x : Fin 96 → EReal) :
    0 ≤ Ideal.rsqrt ((∑ i, x i * x i) * ((96⁻¹ : ℝ) : EReal) + Ideal.ofBits .f32 0x358637BD#32)
      ∧ Ideal.rsqrt ((∑ i, x i * x i) * ((96⁻¹ : ℝ) : EReal) + Ideal.ofBits .f32 0x358637BD#32) ≠ ⊤ := by
  refine rsqrt_pos (lt_of_lt_of_le eps_pos (le_add_of_nonneg_left (mul_nonneg (Finset.sum_nonneg fun i _ => mul_self_nonneg _) ?_)))
  exact_mod_cast (by norm_num : (0 : ℝ) ≤ 96⁻¹)

/-- Weighting and rotating commute with the common factor. -/
theorem rotate_factor (q g : Fin 96 → EReal) (co si : Fin 16 → EReal) (d : Fin 96) {r : EReal} (h0 : 0 ≤ r) (ht : r ≠ ⊤) :
    (q d * (g d * cosTab co d) + swapped q d * (swapped g d * sinTab si d)) * r = rotated (fun e => q e * r * g e) co si d := by
  unfold swapped cosTab sinTab rotated
  split_ifs with h1 h2
  · simp only [mul_one, mul_zero, add_zero]; (try dsimp only); ac_rfl
  · rw [EReal.right_distrib_of_nonneg_of_ne_top h0 ht, sub_eq_add_neg]
    refine congrArg₂ (· + ·) (by (try dsimp only); ac_rfl) ?_
    rw [mul_neg, mul_neg, neg_mul]
    exact congrArg Neg.neg (by (try dsimp only); ac_rfl)
  · rw [EReal.right_distrib_of_nonneg_of_ne_top h0 ht, add_comm]
    exact congrArg₂ (· + ·) (by (try dsimp only); ac_rfl) (by (try dsimp only); ac_rfl)

/-- A real nonnegative factor may be applied before the rotation. -/
theorem rotated_mul (n : Fin 96 → EReal) (co si : Fin 16 → EReal) (d : Fin 96) {r : EReal} (h0 : 0 ≤ r) (ht : r ≠ ⊤) :
    rotated n co si d * r = rotated (fun e => n e * r) co si d := by
  unfold rotated
  split_ifs with h1 h2
  · rfl
  · rw [sub_eq_add_neg, sub_eq_add_neg, EReal.right_distrib_of_nonneg_of_ne_top h0 ht, neg_mul]
    exact congrArg₂ (· + ·) (by (try dsimp only); ac_rfl) (congrArg Neg.neg (by (try dsimp only); ac_rfl))
  · rw [EReal.right_distrib_of_nonneg_of_ne_top h0 ht]
    exact congrArg₂ (· + ·) (by (try dsimp only); ac_rfl) (by (try dsimp only); ac_rfl)

/-- The scale the plain program divides by. -/
theorem scale_inv (x : EReal) : Ideal.div x (Ideal.log (Ideal.ofBits .f32 0x40000000#32) * Ideal.sqrt (Ideal.ofBits .f32 0x42C00000#32))
    = x * (((Real.log 2)⁻¹ * (Real.sqrt 96)⁻¹ : ℝ) : EReal) := by
  have h2 : Ideal.ofBits .f32 0x40000000#32 = ((2 : ℝ) : EReal) := by
    simp [Ideal.ofBits, Ideal.ieee, ← EReal.coe_mul]; norm_num
  have hl : Ideal.log ((2 : ℝ) : EReal) = ((Real.log 2 : ℝ) : EReal) := by
    show (if (2 : ℝ) ≤ 0 then ⊥ else _) = _
    rw [if_neg (by norm_num)]
  have hs : Ideal.sqrt ((96 : ℝ) : EReal) = ((Real.sqrt 96 : ℝ) : EReal) := by
    show (if (96 : ℝ) < 0 then ⊥ else _) = _
    rw [if_neg (by norm_num)]
  have hp : Real.log 2 * Real.sqrt 96 ≠ 0 := mul_ne_zero (Real.log_pos (by norm_num)).ne' (Real.sqrt_pos.mpr (by norm_num)).ne'
  rw [h2, word96, hl, hs, ← EReal.coe_mul, Ideal.div, if_neg (by exact_mod_cast hp), ← EReal.coe_inv, mul_inv]

/-- The scaled factor is nonnegative and not the top. -/
theorem scale_pos : 0 ≤ (((Real.log 2)⁻¹ * (Real.sqrt 96)⁻¹ : ℝ) : EReal) := by
  exact_mod_cast mul_nonneg (inv_nonneg.mpr (Real.log_pos (by norm_num)).le) (inv_nonneg.mpr (Real.sqrt_nonneg _))

/-- The queries: the kernel's form is the plain program's. -/
theorem queries_agree (q g : Fin 96 → EReal) (co si : Fin 16 → EReal) (d : Fin 96) :
    kernelQ (((Real.log 2)⁻¹ * (Real.sqrt 96)⁻¹ : ℝ) : EReal) q (fun d => g d * cosTab co d) (fun d => swapped g d * sinTab si d) d
      = Ideal.div (rotated (normed (Ideal.ofBits .f32 0x42C00000#32) q g) co si d)
          (Ideal.log (Ideal.ofBits .f32 0x40000000#32) * Ideal.sqrt (Ideal.ofBits .f32 0x42C00000#32)) := by
  rw [scale_inv, kernelQ, div96, ← mul_assoc, rotate_factor q g co si d (factor_pos q).1 (factor_pos q).2]
  refine congrArg (fun n => rotated n co si d * _) (funext fun e => ?_)
  rw [normed, div96]

/-- The keys: the kernel's form, with its lanes padded and the common lanes added, is the plain program's. -/
theorem keys_agree (k r c s : Fin 128 → EReal) (x g : Fin 96 → EReal) (co si : Fin 16 → EReal) (d : Fin 96)
    (hk : ∀ e : Fin 96, k ⟨e.val, by omega⟩ = x e) (h0 : ∀ n : Fin 32, k ⟨96 + n.val, by omega⟩ = 0)
    (hr : ∀ e : Fin 32, r ⟨64 + e.val, by omega⟩ = x ⟨64 + e.val, by omega⟩)
    (hc : ∀ e : Fin 96, c ⟨e.val, by omega⟩ = g e * cosTab co e) (hs : ∀ e : Fin 96, s ⟨e.val, by omega⟩ = swapped g e * sinTab si e) :
    kernelK ((96⁻¹ : ℝ) : EReal) k r c s d = rotated (normed (Ideal.ofBits .f32 0x42C00000#32) x g) co si d := by
  have hsum : ∑ i, k i * k i = ∑ i, x i * x i := by
    refine (Fin.sum_univ_add (a := 96) (b := 32) fun i => k i * k i).trans ?_
    rw [Finset.sum_eq_zero (s := (Finset.univ : Finset (Fin 32))) (f := fun i => k (Fin.natAdd 96 i) * k (Fin.natAdd 96 i))
      (fun i _ => by rw [show k (Fin.natAdd 96 i) = 0 from h0 i, zero_mul]), add_zero]
    exact Finset.sum_congr rfl fun i _ => congrArg₂ (· * ·) (hk i) (hk i)
  have ht : turned r ⟨d.val, by omega⟩ * (swapped g d * sinTab si d) = swapped x d * (swapped g d * sinTab si d) := by
    unfold turned swapped sinTab
    by_cases h1 : d.val < 64
    · simp only [h1, dite_true, mul_zero]
    by_cases h2 : d.val < 80
    · simp only [h1, h2, dite_true, dite_false, if_true]
      refine congrArg (· * _) ((congrArg r (Fin.ext ?_)).trans ((hr ⟨d.val + 16 - 64, by omega⟩).trans (congrArg x (Fin.ext ?_)))) <;> dsimp only <;> omega
    · simp only [h1, h2, dite_false, if_false]
      refine congrArg (· * _) ((congrArg r (Fin.ext ?_)).trans ((hr ⟨d.val - 16 - 64, by omega⟩).trans (congrArg x (Fin.ext ?_)))) <;> dsimp only <;> omega
  rw [kernelK, hsum, hk d, hc d, hs d, ht, rotate_factor x g co si d (factor_pos x).1 (factor_pos x).2]
  refine congrArg (fun n => rotated n co si d) (funext fun e => ?_)
  rw [normed, div96]

end Cert.Projection

end
-- ==== Proof.ProjectionFrameIdeal.lean ====
/-
  The projection call's launch (the program over the extended reals): the arrays as the call finds them, the blocks a grid point is given and leaves, the
  body's triple at a point, the run, and that the arguments end unchanged.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Projection

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The block window `w` is given at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1500000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

abbrev r0_0 : Rect S1x1024x1024 := Rect.unit (s := S1x1024x1024) ![0, 0, 0] S1x512x1024.size inb_S1x1024x1024_S1x512x1024_0_0_0
abbrev r0_1 : Rect S1x1024 := Rect.unit (s := S1x1024) ![0, 0] S1x1024.size inb_S1x1024_S1x1024_0_0
abbrev r0_2 : Rect S1024x512 := Rect.unit (s := S1024x512) ![0, 0] S1024x512.size inb_S1024x512_S1024x512_0_0
abbrev r0_3 : Rect S1x384 := Rect.unit (s := S1x384) ![0, 0] S1x384.size inb_S1x384_S1x384_0_0
abbrev r0_4 : Rect S1024x256 := Rect.unit (s := S1024x256) ![0, 0] S1024x256.size inb_S1024x256_S1024x256_0_0
abbrev r0_5 : Rect S1x256 := Rect.unit (s := S1x256) ![0, 0] S1x256.size inb_S1x256_S1x256_0_0
abbrev r0_6 : Rect S768x384 := Rect.unit (s := S768x384) ![0, 0] S768x384.size inb_S768x384_S768x384_0_0
abbrev r0_7 : Rect S256x1024 := Rect.unit (s := S256x1024) ![0, 0] S256x1024.size inb_S256x1024_S256x1024_0_0
abbrev r0_8 : Rect S640x256 := Rect.unit (s := S640x256) ![0, 0] S640x256.size inb_S640x256_S640x256_0_0
abbrev r0_9 : Rect S640x1 := Rect.unit (s := S640x1) ![0, 0] S640x1.size inb_S640x1_S640x1_0_0
abbrev r0_10 : Rect S2048x1024 := Rect.unit (s := S2048x1024) ![0, 0] S2048x1024.size inb_S2048x1024_S2048x1024_0_0
abbrev r0_11 : Rect S1x2048x1024 := Rect.unit (s := S1x2048x1024) ![0, 0, 0] S1x2048x512.size inb_S1x2048x1024_S1x2048x512_0_0_0
abbrev r0_12 : Rect S1x1024x512 := Rect.unit (s := S1x1024x512) ![0, 0, 0] S1x512x512.size inb_S1x1024x512_S1x512x512_0_0_0
abbrev r0_13 : Rect S96x1 := Rect.unit (s := S96x1) ![0, 0] S96x1.size inb_S96x1_S96x1_0_0
abbrev r0_14 : Rect S96x1024 := Rect.unit (s := S96x1024) ![0, 0] S96x512.size inb_S96x1024_S96x512_0_0
abbrev r0_15 : Rect S1x128 := Rect.unit (s := S1x128) ![0, 0] S1x128.size inb_S1x128_S1x128_0_0
abbrev r0_16 : Rect S1024x128 := Rect.unit (s := S1024x128) ![0, 0] S512x128.size inb_S1024x128_S512x128_0_0
abbrev r0_17 : Rect S1x8x96x1024 := Rect.unit (s := S1x8x96x1024) ![0, 0, 0, 0] S1x1x96x512.size inb_S1x8x96x1024_S1x1x96x512_0_0_0_0
abbrev r0_18 : Rect S1x8x1024x96 := Rect.unit (s := S1x8x1024x96) ![0, 0, 0, 0] S1x1x512x96.size inb_S1x8x1024x96_S1x1x512x96_0_0_0_0
abbrev r0_19 : Rect S1x8x80x1024 := Rect.unit (s := S1x8x80x1024) ![0, 0, 0, 0] S1x1x80x512.size inb_S1x8x80x1024_S1x1x80x512_0_0_0_0
abbrev r0_20 : Rect S1x8x96x1024 := Rect.unit (s := S1x8x96x1024) ![0, 1, 0, 0] S1x1x96x512.size inb_S1x8x96x1024_S1x1x96x512_0_1_0_0
abbrev r0_21 : Rect S1x8x1024x96 := Rect.unit (s := S1x8x1024x96) ![0, 1, 0, 0] S1x1x512x96.size inb_S1x8x1024x96_S1x1x512x96_0_1_0_0
abbrev r0_22 : Rect S1x8x80x1024 := Rect.unit (s := S1x8x80x1024) ![0, 1, 0, 0] S1x1x80x512.size inb_S1x8x80x1024_S1x1x80x512_0_1_0_0
abbrev r0_23 : Rect S1x8x96x1024 := Rect.unit (s := S1x8x96x1024) ![0, 2, 0, 0] S1x1x96x512.size inb_S1x8x96x1024_S1x1x96x512_0_2_0_0
abbrev r0_24 : Rect S1x8x1024x96 := Rect.unit (s := S1x8x1024x96) ![0, 2, 0, 0] S1x1x512x96.size inb_S1x8x1024x96_S1x1x512x96_0_2_0_0
abbrev r0_25 : Rect S1x8x80x1024 := Rect.unit (s := S1x8x80x1024) ![0, 2, 0, 0] S1x1x80x512.size inb_S1x8x80x1024_S1x1x80x512_0_2_0_0
abbrev r0_26 : Rect S1x8x96x1024 := Rect.unit (s := S1x8x96x1024) ![0, 3, 0, 0] S1x1x96x512.size inb_S1x8x96x1024_S1x1x96x512_0_3_0_0
abbrev r0_27 : Rect S1x8x1024x96 := Rect.unit (s := S1x8x1024x96) ![0, 3, 0, 0] S1x1x512x96.size inb_S1x8x1024x96_S1x1x512x96_0_3_0_0
abbrev r0_28 : Rect S1x8x80x1024 := Rect.unit (s := S1x8x80x1024) ![0, 3, 0, 0] S1x1x80x512.size inb_S1x8x80x1024_S1x1x80x512_0_3_0_0
abbrev r0_29 : Rect S1x8x96x1024 := Rect.unit (s := S1x8x96x1024) ![0, 4, 0, 0] S1x1x96x512.size inb_S1x8x96x1024_S1x1x96x512_0_4_0_0
abbrev r0_30 : Rect S1x8x1024x96 := Rect.unit (s := S1x8x1024x96) ![0, 4, 0, 0] S1x1x512x96.size inb_S1x8x1024x96_S1x1x512x96_0_4_0_0
abbrev r0_31 : Rect S1x8x80x1024 := Rect.unit (s := S1x8x80x1024) ![0, 4, 0, 0] S1x1x80x512.size inb_S1x8x80x1024_S1x1x80x512_0_4_0_0
abbrev r0_32 : Rect S1x8x96x1024 := Rect.unit (s := S1x8x96x1024) ![0, 5, 0, 0] S1x1x96x512.size inb_S1x8x96x1024_S1x1x96x512_0_5_0_0
abbrev r0_33 : Rect S1x8x1024x96 := Rect.unit (s := S1x8x1024x96) ![0, 5, 0, 0] S1x1x512x96.size inb_S1x8x1024x96_S1x1x512x96_0_5_0_0
abbrev r0_34 : Rect S1x8x80x1024 := Rect.unit (s := S1x8x80x1024) ![0, 5, 0, 0] S1x1x80x512.size inb_S1x8x80x1024_S1x1x80x512_0_5_0_0
abbrev r0_35 : Rect S1x8x96x1024 := Rect.unit (s := S1x8x96x1024) ![0, 6, 0, 0] S1x1x96x512.size inb_S1x8x96x1024_S1x1x96x512_0_6_0_0
abbrev r0_36 : Rect S1x8x1024x96 := Rect.unit (s := S1x8x1024x96) ![0, 6, 0, 0] S1x1x512x96.size inb_S1x8x1024x96_S1x1x512x96_0_6_0_0
abbrev r0_37 : Rect S1x8x80x1024 := Rect.unit (s := S1x8x80x1024) ![0, 6, 0, 0] S1x1x80x512.size inb_S1x8x80x1024_S1x1x80x512_0_6_0_0
abbrev r0_38 : Rect S1x8x96x1024 := Rect.unit (s := S1x8x96x1024) ![0, 7, 0, 0] S1x1x96x512.size inb_S1x8x96x1024_S1x1x96x512_0_7_0_0
abbrev r0_39 : Rect S1x8x1024x96 := Rect.unit (s := S1x8x1024x96) ![0, 7, 0, 0] S1x1x512x96.size inb_S1x8x1024x96_S1x1x512x96_0_7_0_0
abbrev r0_40 : Rect S1x8x80x1024 := Rect.unit (s := S1x8x80x1024) ![0, 7, 0, 0] S1x1x80x512.size inb_S1x8x80x1024_S1x1x80x512_0_7_0_0
abbrev r0_41 : Rect S1x1024x1024 := Rect.unit (s := S1x1024x1024) ![0, 512, 0] S1x512x1024.size inb_S1x1024x1024_S1x512x1024_0_512_0
abbrev r0_42 : Rect S1x2048x1024 := Rect.unit (s := S1x2048x1024) ![0, 0, 512] S1x2048x512.size inb_S1x2048x1024_S1x2048x512_0_0_512
abbrev r0_43 : Rect S1x1024x512 := Rect.unit (s := S1x1024x512) ![0, 512, 0] S1x512x512.size inb_S1x1024x512_S1x512x512_0_512_0
abbrev r0_44 : Rect S96x1024 := Rect.unit (s := S96x1024) ![0, 512] S96x512.size inb_S96x1024_S96x512_0_512
abbrev r0_45 : Rect S1024x128 := Rect.unit (s := S1024x128) ![512, 0] S512x128.size inb_S1024x128_S512x128_512_0
abbrev r0_46 : Rect S1x8x96x1024 := Rect.unit (s := S1x8x96x1024) ![0, 0, 0, 512] S1x1x96x512.size inb_S1x8x96x1024_S1x1x96x512_0_0_0_512
abbrev r0_47 : Rect S1x8x1024x96 := Rect.unit (s := S1x8x1024x96) ![0, 0, 512, 0] S1x1x512x96.size inb_S1x8x1024x96_S1x1x512x96_0_0_512_0
abbrev r0_48 : Rect S1x8x80x1024 := Rect.unit (s := S1x8x80x1024) ![0, 0, 0, 512] S1x1x80x512.size inb_S1x8x80x1024_S1x1x80x512_0_0_0_512
abbrev r0_49 : Rect S1x8x96x1024 := Rect.unit (s := S1x8x96x1024) ![0, 1, 0, 512] S1x1x96x512.size inb_S1x8x96x1024_S1x1x96x512_0_1_0_512
abbrev r0_50 : Rect S1x8x1024x96 := Rect.unit (s := S1x8x1024x96) ![0, 1, 512, 0] S1x1x512x96.size inb_S1x8x1024x96_S1x1x512x96_0_1_512_0
abbrev r0_51 : Rect S1x8x80x1024 := Rect.unit (s := S1x8x80x1024) ![0, 1, 0, 512] S1x1x80x512.size inb_S1x8x80x1024_S1x1x80x512_0_1_0_512
abbrev r0_52 : Rect S1x8x96x1024 := Rect.unit (s := S1x8x96x1024) ![0, 2, 0, 512] S1x1x96x512.size inb_S1x8x96x1024_S1x1x96x512_0_2_0_512
abbrev r0_53 : Rect S1x8x1024x96 := Rect.unit (s := S1x8x1024x96) ![0, 2, 512, 0] S1x1x512x96.size inb_S1x8x1024x96_S1x1x512x96_0_2_512_0
abbrev r0_54 : Rect S1x8x80x1024 := Rect.unit (s := S1x8x80x1024) ![0, 2, 0, 512] S1x1x80x512.size inb_S1x8x80x1024_S1x1x80x512_0_2_0_512
abbrev r0_55 : Rect S1x8x96x1024 := Rect.unit (s := S1x8x96x1024) ![0, 3, 0, 512] S1x1x96x512.size inb_S1x8x96x1024_S1x1x96x512_0_3_0_512
abbrev r0_56 : Rect S1x8x1024x96 := Rect.unit (s := S1x8x1024x96) ![0, 3, 512, 0] S1x1x512x96.size inb_S1x8x1024x96_S1x1x512x96_0_3_512_0
abbrev r0_57 : Rect S1x8x80x1024 := Rect.unit (s := S1x8x80x1024) ![0, 3, 0, 512] S1x1x80x512.size inb_S1x8x80x1024_S1x1x80x512_0_3_0_512
abbrev r0_58 : Rect S1x8x96x1024 := Rect.unit (s := S1x8x96x1024) ![0, 4, 0, 512] S1x1x96x512.size inb_S1x8x96x1024_S1x1x96x512_0_4_0_512
abbrev r0_59 : Rect S1x8x1024x96 := Rect.unit (s := S1x8x1024x96) ![0, 4, 512, 0] S1x1x512x96.size inb_S1x8x1024x96_S1x1x512x96_0_4_512_0
abbrev r0_60 : Rect S1x8x80x1024 := Rect.unit (s := S1x8x80x1024) ![0, 4, 0, 512] S1x1x80x512.size inb_S1x8x80x1024_S1x1x80x512_0_4_0_512
abbrev r0_61 : Rect S1x8x96x1024 := Rect.unit (s := S1x8x96x1024) ![0, 5, 0, 512] S1x1x96x512.size inb_S1x8x96x1024_S1x1x96x512_0_5_0_512
abbrev r0_62 : Rect S1x8x1024x96 := Rect.unit (s := S1x8x1024x96) ![0, 5, 512, 0] S1x1x512x96.size inb_S1x8x1024x96_S1x1x512x96_0_5_512_0
abbrev r0_63 : Rect S1x8x80x1024 := Rect.unit (s := S1x8x80x1024) ![0, 5, 0, 512] S1x1x80x512.size inb_S1x8x80x1024_S1x1x80x512_0_5_0_512
abbrev r0_64 : Rect S1x8x96x1024 := Rect.unit (s := S1x8x96x1024) ![0, 6, 0, 512] S1x1x96x512.size inb_S1x8x96x1024_S1x1x96x512_0_6_0_512
abbrev r0_65 : Rect S1x8x1024x96 := Rect.unit (s := S1x8x1024x96) ![0, 6, 512, 0] S1x1x512x96.size inb_S1x8x1024x96_S1x1x512x96_0_6_512_0
abbrev r0_66 : Rect S1x8x80x1024 := Rect.unit (s := S1x8x80x1024) ![0, 6, 0, 512] S1x1x80x512.size inb_S1x8x80x1024_S1x1x80x512_0_6_0_512
abbrev r0_67 : Rect S1x8x96x1024 := Rect.unit (s := S1x8x96x1024) ![0, 7, 0, 512] S1x1x96x512.size inb_S1x8x96x1024_S1x1x96x512_0_7_0_512
abbrev r0_68 : Rect S1x8x1024x96 := Rect.unit (s := S1x8x1024x96) ![0, 7, 512, 0] S1x1x512x96.size inb_S1x8x1024x96_S1x1x512x96_0_7_512_0
abbrev r0_69 : Rect S1x8x80x1024 := Rect.unit (s := S1x8x80x1024) ![0, 7, 0, 512] S1x1x80x512.size inb_S1x8x80x1024_S1x1x80x512_0_7_0_512

def k0_pay120 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x1024 .bf16 :=
  k0_pay3 (View.ld x0 r0_0) (View.ld x1 r0_1) -- `v16`
def k0_pay121 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x256 .f32 :=
  k0_pay6 (View.ld x0 r0_0) (View.ld x1 r0_1) (View.ld x4 r0_4) -- `v38`
def k0_pay122 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay8 (k0_pay4 (View.ld x0 r0_0) (View.ld x1 r0_1) (View.ld x3 r0_2)) -- `v54`
def k0_pay123 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S768x512 .f32 :=
  k0_pay9 (k0_pay5 (View.ld x0 r0_0) (View.ld x1 r0_1) (View.ld x3 r0_2) (View.ld x6 r0_3)) (View.ld x12 r0_6) -- `v57`
def k0_pay124 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x1024 .f32 :=
  k0_pay10 (k0_pay121 x0 x1 x2 x3 x4 x5 x6 x7 x8 x9 x10 x11 x12 x13 x14 x15 x16 x17 x18 x19) (View.ld x7 r0_5) (View.ld x13 r0_7) -- `v60`
def k0_pay125 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S640x512 .f32 :=
  k0_pay11 (k0_pay121 x0 x1 x2 x3 x4 x5 x6 x7 x8 x9 x10 x11 x12 x13 x14 x15 x16 x17 x18 x19) (View.ld x7 r0_5) (View.ld x14 r0_8) (View.ld x19 r0_9) -- `v66`
def k0_pay126 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S96x512 .f32 :=
  k0_pay14 (View.ld x15 r0_13) (View.ld x10 r0_14) -- `v86`
def k0_pay127 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S96x512 .f32 :=
  k0_pay15 (View.ld x16 r0_13) (View.ld x11 r0_14) -- `v92`
def k0_pay128 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay16 (View.ld x17 r0_15) (View.ld x8 r0_16) -- `v98`
def k0_pay129 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay17 (View.ld x18 r0_15) (View.ld x9 r0_16) -- `v104`
def k0_pay130 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : IVec S512x128 1 :=
  k0_pay18 -- `v107`
def k0_pay131 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay19 (k0_pay122 x0 x1 x2 x3 x4 x5 x6 x7 x8 x9 x10 x11 x12 x13 x14 x15 x16 x17 x18 x19) -- `v108`
def k0_pay132 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay20 (k0_pay122 x0 x1 x2 x3 x4 x5 x6 x7 x8 x9 x10 x11 x12 x13 x14 x15 x16 x17 x18 x19) -- `v109`
def k0_pay133 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay21 (k0_pay130 x0 x1 x2 x3 x4 x5 x6 x7 x8 x9 x10 x11 x12 x13 x14 x15 x16 x17 x18 x19) (k0_pay131 x0 x1 x2 x3 x4 x5 x6 x7 x8 x9 x10 x11 x12 x13 x14 x15 x16 x17 x18 x19) (k0_pay132 x0 x1 x2 x3 x4 x5 x6 x7 x8 x9 x10 x11 x12 x13 x14 x15 x16 x17 x18 x19) -- `v110`
def k0_pay134 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x1024 .bf16 :=
  k0_pay65 (View.ld x0 r0_41) (View.ld x1 r0_1) -- `v519`
def k0_pay135 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x512 .f32 :=
  k0_pay66 (View.ld x0 r0_41) (View.ld x1 r0_1) (View.ld x3 r0_2) -- `v522`
def k0_pay136 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay68 (k0_pay135 x0 x1 x2 x3 x4 x5 x6 x7 x8 x9 x10 x11 x12 x13 x14 x15 x16 x17 x18 x19) -- `v557`
def k0_pay137 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S768x512 .f32 :=
  k0_pay69 (k0_pay135 x0 x1 x2 x3 x4 x5 x6 x7 x8 x9 x10 x11 x12 x13 x14 x15 x16 x17 x18 x19) (View.ld x6 r0_3) (View.ld x12 r0_6) -- `v560`
def k0_pay138 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x1024 .f32 :=
  k0_pay70 (k0_pay134 x0 x1 x2 x3 x4 x5 x6 x7 x8 x9 x10 x11 x12 x13 x14 x15 x16 x17 x18 x19) (View.ld x4 r0_4) (View.ld x7 r0_5) (View.ld x13 r0_7) -- `v563`
def k0_pay139 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S640x512 .f32 :=
  k0_pay71 (k0_pay67 (k0_pay134 x0 x1 x2 x3 x4 x5 x6 x7 x8 x9 x10 x11 x12 x13 x14 x15 x16 x17 x18 x19) (View.ld x4 r0_4) (View.ld x7 r0_5)) (View.ld x14 r0_8) (View.ld x19 r0_9) -- `v569`
def k0_pay140 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S96x512 .f32 :=
  k0_pay74 (View.ld x15 r0_13) (View.ld x10 r0_44) -- `v589`
def k0_pay141 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S96x512 .f32 :=
  k0_pay75 (View.ld x16 r0_13) (View.ld x11 r0_44) -- `v595`
def k0_pay142 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay76 (View.ld x17 r0_15) (View.ld x8 r0_45) -- `v601`
def k0_pay143 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay77 (View.ld x18 r0_15) (View.ld x9 r0_45) -- `v607`
def k0_pay144 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : FVec F S512x128 .f32 :=
  k0_pay78 (k0_pay136 x0 x1 x2 x3 x4 x5 x6 x7 x8 x9 x10 x11 x12 x13 x14 x15 x16 x17 x18 x19) -- `v613`

/-- What the body leaves in output 1. -/
def out0_20 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : Vec F S1x2048x1024 .bf16 :=
  View.canon [⟨r0_42, k0_pay72 (k0_pay134 x0 x1 x2 x3 x4 x5 x6 x7 x8 x9 x10 x11 x12 x13 x14 x15 x16 x17 x18 x19) (View.ld x2 r0_10)⟩,
    ⟨r0_11, k0_pay12 (k0_pay120 x0 x1 x2 x3 x4 x5 x6 x7 x8 x9 x10 x11 x12 x13 x14 x15 x16 x17 x18 x19) (View.ld x2 r0_10)⟩]

theorem cover0_20 (p0 : Vec F S1x2048x512 .bf16) (p1 : Vec F S1x2048x512 .bf16) (y : S1x2048x1024.Idx) :
    ∃ pc ∈ ([⟨r0_42, p0⟩, ⟨r0_11, p1⟩] : List (View.Piece (Elt F) S1x2048x1024 .bf16)), y ∈ pc.1.set :=
  View.cover_of_tiled [⟨r0_42, p0⟩, ⟨r0_11, p1⟩] S1x2048x512.size (by rfl) y

/-- What the body leaves in output 2. -/
def out0_21 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : Vec F S1x1024x512 .bf16 :=
  View.canon [⟨r0_43, k0_pay73 (k0_pay134 x0 x1 x2 x3 x4 x5 x6 x7 x8 x9 x10 x11 x12 x13 x14 x15 x16 x17 x18 x19) (View.ld x5 r0_2)⟩,
    ⟨r0_12, k0_pay13 (k0_pay120 x0 x1 x2 x3 x4 x5 x6 x7 x8 x9 x10 x11 x12 x13 x14 x15 x16 x17 x18 x19) (View.ld x5 r0_2)⟩]

theorem cover0_21 (p0 : Vec F S1x512x512 .bf16) (p1 : Vec F S1x512x512 .bf16) (y : S1x1024x512.Idx) :
    ∃ pc ∈ ([⟨r0_43, p0⟩, ⟨r0_12, p1⟩] : List (View.Piece (Elt F) S1x1024x512 .bf16)), y ∈ pc.1.set :=
  View.cover_of_tiled [⟨r0_43, p0⟩, ⟨r0_12, p1⟩] S1x512x512.size (by rfl) y

/-- What the body leaves in output 3. -/
def out0_22 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : Vec F S1x8x96x1024 .bf16 :=
  View.canon [⟨r0_67, k0_pay118 (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19) (k0_pay115 (k0_pay137 x0 x1 x2 x3 x4 x5 x6 x7 x8 x9 x10 x11 x12 x13 x14 x15 x16 x17 x18 x19)) (k0_pay116 (k0_pay137 x0 x1 x2 x3 x4 x5 x6 x7 x8 x9 x10 x11 x12 x13 x14 x15 x16 x17 x18 x19)) (k0_pay117 (k0_pay137 x0 x1 x2 x3 x4 x5 x6 x7 x8 x9 x10 x11 x12 x13 x14 x15 x16 x17 x18 x19))⟩,
    ⟨r0_64, k0_pay112 (k0_pay111 (k0_pay137 x0 x1 x2 x3 x4 x5 x6 x7 x8 x9 x10 x11 x12 x13 x14 x15 x16 x17 x18 x19) (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19))⟩,
    ⟨r0_61, k0_pay106 (k0_pay137 x0 x1 x2 x3 x4 x5 x6 x7 x8 x9 x10 x11 x12 x13 x14 x15 x16 x17 x18 x19) (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19)⟩,
    ⟨r0_58, k0_pay99 (k0_pay137 x0 x1 x2 x3 x4 x5 x6 x7 x8 x9 x10 x11 x12 x13 x14 x15 x16 x17 x18 x19) (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19)⟩,
    ⟨r0_55, k0_pay95 (k0_pay137 x0 x1 x2 x3 x4 x5 x6 x7 x8 x9 x10 x11 x12 x13 x14 x15 x16 x17 x18 x19) (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19)⟩,
    ⟨r0_52, k0_pay92 (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19) (k0_pay89 (k0_pay137 x0 x1 x2 x3 x4 x5 x6 x7 x8 x9 x10 x11 x12 x13 x14 x15 x16 x17 x18 x19)) (k0_pay90 (k0_pay137 x0 x1 x2 x3 x4 x5 x6 x7 x8 x9 x10 x11 x12 x13 x14 x15 x16 x17 x18 x19)) (k0_pay91 (k0_pay137 x0 x1 x2 x3 x4 x5 x6 x7 x8 x9 x10 x11 x12 x13 x14 x15 x16 x17 x18 x19)) (Scalar.ofBits .f32 0x42C00000#32)⟩,
    ⟨r0_49, k0_pay86 (k0_pay83 (k0_pay137 x0 x1 x2 x3 x4 x5 x6 x7 x8 x9 x10 x11 x12 x13 x14 x15 x16 x17 x18 x19)) (k0_pay84 (k0_pay137 x0 x1 x2 x3 x4 x5 x6 x7 x8 x9 x10 x11 x12 x13 x14 x15 x16 x17 x18 x19) (k0_pay140 x0 x1 x2 x3 x4 x5 x6 x7 x8 x9 x10 x11 x12 x13 x14 x15 x16 x17 x18 x19)) (k0_pay85 (k0_pay137 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19))⟩,
    ⟨r0_46, k0_pay79 (k0_pay137 x0 x1 x2 x3 x4 x5 x6 x7 x8 x9 x10 x11 x12 x13 x14 x15 x16 x17 x18 x19) (k0_pay140 x0 x1 x2 x3 x4 x5 x6 x7 x8 x9 x10 x11 x12 x13 x14 x15 x16 x17 x18 x19) (k0_pay141 x0 x1 x2 x3 x4 x5 x6 x7 x8 x9 x10 x11 x12 x13 x14 x15 x16 x17 x18 x19)⟩,
    ⟨r0_38, k0_pay60 (k0_pay123 x0 x1 x2 x3 x4 x5 x6 x7 x8 x9 x10 x11 x12 x13 x14 x15 x16 x17 x18 x19) (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19)⟩,
    ⟨r0_35, k0_pay56 (k0_pay123 x0 x1 x2 x3 x4 x5 x6 x7 x8 x9 x10 x11 x12 x13 x14 x15 x16 x17 x18 x19) (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19)⟩,
    ⟨r0_32, k0_pay52 (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19) (k0_pay48 (k0_pay123 x0 x1 x2 x3 x4 x5 x6 x7 x8 x9 x10 x11 x12 x13 x14 x15 x16 x17 x18 x19)) (k0_pay49 (k0_pay123 x0 x1 x2 x3 x4 x5 x6 x7 x8 x9 x10 x11 x12 x13 x14 x15 x16 x17 x18 x19)) (k0_pay50 (k0_pay123 x0 x1 x2 x3 x4 x5 x6 x7 x8 x9 x10 x11 x12 x13 x14 x15 x16 x17 x18 x19)) (k0_pay51 (k0_pay123 x0 x1 x2 x3 x4 x5 x6 x7 x8 x9 x10 x11 x12 x13 x14 x15 x16 x17 x18 x19))⟩,
    ⟨r0_29, k0_pay45 (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19) (k0_pay42 (k0_pay123 x0 x1 x2 x3 x4 x5 x6 x7 x8 x9 x10 x11 x12 x13 x14 x15 x16 x17 x18 x19)) (k0_pay43 (k0_pay123 x0 x1 x2 x3 x4 x5 x6 x7 x8 x9 x10 x11 x12 x13 x14 x15 x16 x17 x18 x19)) (k0_pay44 (k0_pay123 x0 x1 x2 x3 x4 x5 x6 x7 x8 x9 x10 x11 x12 x13 x14 x15 x16 x17 x18 x19))⟩,
    ⟨r0_26, k0_pay39 (k0_pay38 (k0_pay123 x0 x1 x2 x3 x4 x5 x6 x7 x8 x9 x10 x11 x12 x13 x14 x15 x16 x17 x18 x19) (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19))⟩,
    ⟨r0_23, k0_pay33 (k0_pay123 x0 x1 x2 x3 x4 x5 x6 x7 x8 x9 x10 x11 x12 x13 x14 x15 x16 x17 x18 x19) (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19)⟩,
    ⟨r0_20, k0_pay26 (k0_pay123 x0 x1 x2 x3 x4 x5 x6 x7 x8 x9 x10 x11 x12 x13 x14 x15 x16 x17 x18 x19) (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19)⟩,
    ⟨r0_17, k0_pay22 (k0_pay123 x0 x1 x2 x3 x4 x5 x6 x7 x8 x9 x10 x11 x12 x13 x14 x15 x16 x17 x18 x19) (k0_pay126 x0 x1 x2 x3 x4 x5 x6 x7 x8 x9 x10 x11 x12 x13 x14 x15 x16 x17 x18 x19) (k0_pay127 x0 x1 x2 x3 x4 x5 x6 x7 x8 x9 x10 x11 x12 x13 x14 x15 x16 x17 x18 x19)⟩]

theorem cover0_22 (p0 : Vec F S1x1x96x512 .bf16) (p1 : Vec F S1x1x96x512 .bf16) (p2 : Vec F S1x1x96x512 .bf16) (p3 : Vec F S1x1x96x512 .bf16) (p4 : Vec F S1x1x96x512 .bf16) (p5 : Vec F S1x1x96x512 .bf16) (p6 : Vec F S1x1x96x512 .bf16) (p7 : Vec F S1x1x96x512 .bf16) (p8 : Vec F S1x1x96x512 .bf16) (p9 : Vec F S1x1x96x512 .bf16) (p10 : Vec F S1x1x96x512 .bf16) (p11 : Vec F S1x1x96x512 .bf16) (p12 : Vec F S1x1x96x512 .bf16) (p13 : Vec F S1x1x96x512 .bf16) (p14 : Vec F S1x1x96x512 .bf16) (p15 : Vec F S1x1x96x512 .bf16) (y : S1x8x96x1024.Idx) :
    ∃ pc ∈ ([⟨r0_67, p0⟩, ⟨r0_64, p1⟩, ⟨r0_61, p2⟩, ⟨r0_58, p3⟩, ⟨r0_55, p4⟩, ⟨r0_52, p5⟩, ⟨r0_49, p6⟩, ⟨r0_46, p7⟩, ⟨r0_38, p8⟩, ⟨r0_35, p9⟩, ⟨r0_32, p10⟩, ⟨r0_29, p11⟩, ⟨r0_26, p12⟩, ⟨r0_23, p13⟩, ⟨r0_20, p14⟩, ⟨r0_17, p15⟩] : List (View.Piece (Elt F) S1x8x96x1024 .bf16)), y ∈ pc.1.set :=
  View.cover_of_tiled [⟨r0_67, p0⟩, ⟨r0_64, p1⟩, ⟨r0_61, p2⟩, ⟨r0_58, p3⟩, ⟨r0_55, p4⟩, ⟨r0_52, p5⟩, ⟨r0_49, p6⟩, ⟨r0_46, p7⟩, ⟨r0_38, p8⟩, ⟨r0_35, p9⟩, ⟨r0_32, p10⟩, ⟨r0_29, p11⟩, ⟨r0_26, p12⟩, ⟨r0_23, p13⟩, ⟨r0_20, p14⟩, ⟨r0_17, p15⟩] S1x1x96x512.size (by rfl) y

/-- What the body leaves in output 4. -/
def out0_23 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : Vec F S1x8x1024x96 .bf16 :=
  View.canon [⟨r0_68, k0_pay1 (k0_pay119 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19))⟩,
    ⟨r0_65, k0_pay113 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19)⟩,
    ⟨r0_62, k0_pay109 (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19) (k0_pay107 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19)) (k0_pay108 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19))⟩,
    ⟨r0_59, k0_pay104 (k0_pay101 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19)) (k0_pay102 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19)) (k0_pay103 (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19))⟩,
    ⟨r0_56, k0_pay97 (k0_pay96 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19))⟩,
    ⟨r0_53, k0_pay93 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19)⟩,
    ⟨r0_50, k0_pay87 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19)⟩,
    ⟨r0_47, k0_pay80 (k0_pay136 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19)⟩,
    ⟨r0_39, k0_pay63 (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19) (k0_pay61 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19)) (k0_pay62 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19))⟩,
    ⟨r0_36, k0_pay58 (k0_pay57 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19) (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19))⟩,
    ⟨r0_33, k0_pay53 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19) (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19)⟩,
    ⟨r0_30, k0_pay46 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19) (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19)⟩,
    ⟨r0_27, k0_pay40 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19) (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19)⟩,
    ⟨r0_24, k0_pay36 (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19) (k0_pay34 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19)) (k0_pay35 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19))⟩,
    ⟨r0_21, k0_pay31 (k0_pay28 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19)) (k0_pay29 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19) (k0_pay128 x0 x1 x2 x3 x4 x5 x6 x7 x8 x9 x10 x11 x12 x13 x14 x15 x16 x17 x18 x19)) (k0_pay30 (k0_pay129 x0 x1 x2 x3 x4 x5 x6 x7 x8 x9 x10 x11 x12 x13 x14 x15 x16 x17 x18 x19) (k0_pay133 x0 x1 x2 x3 x4 x5 x6 x7 x8 x9 x10 x11 x12 x13 x14 x15 x16 x17 x18 x19))⟩,
    ⟨r0_18, k0_pay24 (k0_pay23 (k0_pay122 x0 x1 x2 x3 x4 x5 x6 x7 x8 x9 x10 x11 x12 x13 x14 x15 x16 x17 x18 x19) (k0_pay124 x0 x1 x2 x3 x4 x5 x6 x7 x8 x9 x10 x11 x12 x13 x14 x15 x16 x17 x18 x19) (k0_pay128 x0 x1 x2 x3 x4 x5 x6 x7 x8 x9 x10 x11 x12 x13 x14 x15 x16 x17 x18 x19) (k0_pay129 x0 x1 x2 x3 x4 x5 x6 x7 x8 x9 x10 x11 x12 x13 x14 x15 x16 x17 x18 x19) (k0_pay130 x0 x1 x2 x3 x4 x5 x6 x7 x8 x9 x10 x11 x12 x13 x14 x15 x16 x17 x18 x19) (k0_pay131 x0 x1 x2 x3 x4 x5 x6 x7 x8 x9 x10 x11 x12 x13 x14 x15 x16 x17 x18 x19) (k0_pay132 x0 x1 x2 x3 x4 x5 x6 x7 x8 x9 x10 x11 x12 x13 x14 x15 x16 x17 x18 x19))⟩]

theorem cover0_23 (p0 : Vec F S1x1x512x96 .bf16) (p1 : Vec F S1x1x512x96 .bf16) (p2 : Vec F S1x1x512x96 .bf16) (p3 : Vec F S1x1x512x96 .bf16) (p4 : Vec F S1x1x512x96 .bf16) (p5 : Vec F S1x1x512x96 .bf16) (p6 : Vec F S1x1x512x96 .bf16) (p7 : Vec F S1x1x512x96 .bf16) (p8 : Vec F S1x1x512x96 .bf16) (p9 : Vec F S1x1x512x96 .bf16) (p10 : Vec F S1x1x512x96 .bf16) (p11 : Vec F S1x1x512x96 .bf16) (p12 : Vec F S1x1x512x96 .bf16) (p13 : Vec F S1x1x512x96 .bf16) (p14 : Vec F S1x1x512x96 .bf16) (p15 : Vec F S1x1x512x96 .bf16) (y : S1x8x1024x96.Idx) :
    ∃ pc ∈ ([⟨r0_68, p0⟩, ⟨r0_65, p1⟩, ⟨r0_62, p2⟩, ⟨r0_59, p3⟩, ⟨r0_56, p4⟩, ⟨r0_53, p5⟩, ⟨r0_50, p6⟩, ⟨r0_47, p7⟩, ⟨r0_39, p8⟩, ⟨r0_36, p9⟩, ⟨r0_33, p10⟩, ⟨r0_30, p11⟩, ⟨r0_27, p12⟩, ⟨r0_24, p13⟩, ⟨r0_21, p14⟩, ⟨r0_18, p15⟩] : List (View.Piece (Elt F) S1x8x1024x96 .bf16)), y ∈ pc.1.set :=
  View.cover_of_tiled [⟨r0_68, p0⟩, ⟨r0_65, p1⟩, ⟨r0_62, p2⟩, ⟨r0_59, p3⟩, ⟨r0_56, p4⟩, ⟨r0_53, p5⟩, ⟨r0_50, p6⟩, ⟨r0_47, p7⟩, ⟨r0_39, p8⟩, ⟨r0_36, p9⟩, ⟨r0_33, p10⟩, ⟨r0_30, p11⟩, ⟨r0_27, p12⟩, ⟨r0_24, p13⟩, ⟨r0_21, p14⟩, ⟨r0_18, p15⟩] S1x1x512x96.size (by rfl) y

/-- What the body leaves in output 5. -/
def out0_24 (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) : Vec F S1x8x80x1024 .bf16 :=
  View.canon [⟨r0_69, k0_pay2 (k0_pay139 x0 x1 x2 x3 x4 x5 x6 x7 x8 x9 x10 x11 x12 x13 x14 x15 x16 x17 x18 x19)⟩,
    ⟨r0_66, k0_pay114 (k0_pay139 x0 x1 x2 x3 x4 x5 x6 x7 x8 x9 x10 x11 x12 x13 x14 x15 x16 x17 x18 x19)⟩,
    ⟨r0_63, k0_pay110 (k0_pay139 x0 x1 x2 x3 x4 x5 x6 x7 x8 x9 x10 x11 x12 x13 x14 x15 x16 x17 x18 x19)⟩,
    ⟨r0_60, k0_pay105 (k0_pay139 x0 x1 x2 x3 x4 x5 x6 x7 x8 x9 x10 x11 x12 x13 x14 x15 x16 x17 x18 x19)⟩,
    ⟨r0_57, k0_pay98 (k0_pay139 x0 x1 x2 x3 x4 x5 x6 x7 x8 x9 x10 x11 x12 x13 x14 x15 x16 x17 x18 x19)⟩,
    ⟨r0_54, k0_pay94 (k0_pay139 x0 x1 x2 x3 x4 x5 x6 x7 x8 x9 x10 x11 x12 x13 x14 x15 x16 x17 x18 x19)⟩,
    ⟨r0_51, k0_pay88 (k0_pay139 x0 x1 x2 x3 x4 x5 x6 x7 x8 x9 x10 x11 x12 x13 x14 x15 x16 x17 x18 x19)⟩,
    ⟨r0_48, k0_pay81 (k0_pay139 x0 x1 x2 x3 x4 x5 x6 x7 x8 x9 x10 x11 x12 x13 x14 x15 x16 x17 x18 x19)⟩,
    ⟨r0_40, k0_pay64 (k0_pay125 x0 x1 x2 x3 x4 x5 x6 x7 x8 x9 x10 x11 x12 x13 x14 x15 x16 x17 x18 x19)⟩,
    ⟨r0_37, k0_pay59 (k0_pay125 x0 x1 x2 x3 x4 x5 x6 x7 x8 x9 x10 x11 x12 x13 x14 x15 x16 x17 x18 x19)⟩,
    ⟨r0_34, k0_pay55 (k0_pay54 (k0_pay125 x0 x1 x2 x3 x4 x5 x6 x7 x8 x9 x10 x11 x12 x13 x14 x15 x16 x17 x18 x19))⟩,
    ⟨r0_31, k0_pay47 (k0_pay125 x0 x1 x2 x3 x4 x5 x6 x7 x8 x9 x10 x11 x12 x13 x14 x15 x16 x17 x18 x19)⟩,
    ⟨r0_28, k0_pay41 (k0_pay125 x0 x1 x2 x3 x4 x5 x6 x7 x8 x9 x10 x11 x12 x13 x14 x15 x16 x17 x18 x19)⟩,
    ⟨r0_25, k0_pay37 (k0_pay125 x0 x1 x2 x3 x4 x5 x6 x7 x8 x9 x10 x11 x12 x13 x14 x15 x16 x17 x18 x19)⟩,
    ⟨r0_22, k0_pay32 (k0_pay125 x0 x1 x2 x3 x4 x5 x6 x7 x8 x9 x10 x11 x12 x13 x14 x15 x16 x17 x18 x19)⟩,
    ⟨r0_19, k0_pay25 (k0_pay125 x0 x1 x2 x3 x4 x5 x6 x7 x8 x9 x10 x11 x12 x13 x14 x15 x16 x17 x18 x19)⟩]

theorem cover0_24 (p0 : Vec F S1x1x80x512 .bf16) (p1 : Vec F S1x1x80x512 .bf16) (p2 : Vec F S1x1x80x512 .bf16) (p3 : Vec F S1x1x80x512 .bf16) (p4 : Vec F S1x1x80x512 .bf16) (p5 : Vec F S1x1x80x512 .bf16) (p6 : Vec F S1x1x80x512 .bf16) (p7 : Vec F S1x1x80x512 .bf16) (p8 : Vec F S1x1x80x512 .bf16) (p9 : Vec F S1x1x80x512 .bf16) (p10 : Vec F S1x1x80x512 .bf16) (p11 : Vec F S1x1x80x512 .bf16) (p12 : Vec F S1x1x80x512 .bf16) (p13 : Vec F S1x1x80x512 .bf16) (p14 : Vec F S1x1x80x512 .bf16) (p15 : Vec F S1x1x80x512 .bf16) (y : S1x8x80x1024.Idx) :
    ∃ pc ∈ ([⟨r0_69, p0⟩, ⟨r0_66, p1⟩, ⟨r0_63, p2⟩, ⟨r0_60, p3⟩, ⟨r0_57, p4⟩, ⟨r0_54, p5⟩, ⟨r0_51, p6⟩, ⟨r0_48, p7⟩, ⟨r0_40, p8⟩, ⟨r0_37, p9⟩, ⟨r0_34, p10⟩, ⟨r0_31, p11⟩, ⟨r0_28, p12⟩, ⟨r0_25, p13⟩, ⟨r0_22, p14⟩, ⟨r0_19, p15⟩] : List (View.Piece (Elt F) S1x8x80x1024 .bf16)), y ∈ pc.1.set :=
  View.cover_of_tiled [⟨r0_69, p0⟩, ⟨r0_66, p1⟩, ⟨r0_63, p2⟩, ⟨r0_60, p3⟩, ⟨r0_57, p4⟩, ⟨r0_54, p5⟩, ⟨r0_51, p6⟩, ⟨r0_48, p7⟩, ⟨r0_40, p8⟩, ⟨r0_37, p9⟩, ⟨r0_34, p10⟩, ⟨r0_31, p11⟩, ⟨r0_28, p12⟩, ⟨r0_25, p13⟩, ⟨r0_22, p14⟩, ⟨r0_19, p15⟩] S1x1x80x512.size (by rfl) y

set_option maxHeartbeats 1152000 in
/-- The body: from the inputs' buffers it leaves the outputs' buffers at the values stated above. -/
theorem sound_kernel (c : Dev nD) (E : Set ℕ) (i : grid0.Coords) (arg2 : Memref sig .tc .vmem S1x1024x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x512 .bf16) (harg7 : arg7.IsWhole) (arg8 : Memref sig .tc .vmem S1x384 .f32) (harg8 : arg8.IsWhole) (arg9 : Memref sig .tc .vmem S1x256 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S96x1024 .f32) (harg12 : arg12.IsWhole) (arg13 : Memref sig .tc .vmem S96x1024 .f32) (harg13 : arg13.IsWhole) (arg14 : Memref sig .tc .vmem S768x384 .bf16) (harg14 : arg14.IsWhole) (arg15 : Memref sig .tc .vmem S256x1024 .bf16) (harg15 : arg15.IsWhole) (arg16 : Memref sig .tc .vmem S640x256 .bf16) (harg16 : arg16.IsWhole) (arg17 : Memref sig .tc .vmem S96x1 .f32) (harg17 : arg17.IsWhole) (arg18 : Memref sig .tc .vmem S96x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S640x1 .f32) (harg21 : arg21.IsWhole) (arg22 : Memref sig .tc .vmem S1x2048x1024 .bf16) (harg22 : arg22.IsWhole) (arg23 : Memref sig .tc .vmem S1x1024x512 .bf16) (harg23 : arg23.IsWhole) (arg24 : Memref sig .tc .vmem S1x8x96x1024 .bf16) (harg24 : arg24.IsWhole) (arg25 : Memref sig .tc .vmem S1x8x1024x96 .bf16) (harg25 : arg25.IsWhole) (arg26 : Memref sig .tc .vmem S1x8x80x1024 .bf16) (harg26 : arg26.IsWhole)
    (x0 : Vec F S1x1024x1024 .f32) (x1 : Vec F S1x1024 .f32) (x2 : Vec F S2048x1024 .bf16) (x3 : Vec F S1024x512 .bf16) (x4 : Vec F S1024x256 .bf16) (x5 : Vec F S1024x512 .bf16) (x6 : Vec F S1x384 .f32) (x7 : Vec F S1x256 .f32) (x8 : Vec F S1024x128 .f32) (x9 : Vec F S1024x128 .f32) (x10 : Vec F S96x1024 .f32) (x11 : Vec F S96x1024 .f32) (x12 : Vec F S768x384 .bf16) (x13 : Vec F S256x1024 .bf16) (x14 : Vec F S640x256 .bf16) (x15 : Vec F S96x1 .f32) (x16 : Vec F S96x1 .f32) (x17 : Vec F S1x128 .f32) (x18 : Vec F S1x128 .f32) (x19 : Vec F S640x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (out0_20 x0 x1 x2 x3 x4 x5 x6 x7 x8 x9 x10 x11 x12 x13 x14 x15 x16 x17 x18 x19) ∗ owns (c : Thread nD τ) arg23 fullShare (out0_21 x0 x1 x2 x3 x4 x5 x6 x7 x8 x9 x10 x11 x12 x13 x14 x15 x16 x17 x18 x19) ∗ owns (c : Thread nD τ) arg24 fullShare (out0_22 x0 x1 x2 x3 x4 x5 x6 x7 x8 x9 x10 x11 x12 x13 x14 x15 x16 x17 x18 x19) ∗ owns (c : Thread nD τ) arg25 fullShare (out0_23 x0 x1 x2 x3 x4 x5 x6 x7 x8 x9 x10 x11 x12 x13 x14 x15 x16 x17 x18 x19) ∗ owns (c : Thread nD τ) arg26 fullShare (out0_24 x0 x1 x2 x3 x4 x5 x6 x7 x8 x9 x10 x11 x12 x13 x14 x15 x16 x17 x18 x19)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_in_proj_eq_skeleton]; unfold cc0_in_proj_skel
  simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _ _ _ _ _ _ _ _ _ _ _ _ _ _ _ _)).trans ?_
    rfl
  isplitl [H23]
  · iexists _; isplitr
    swap; · iexact H23
    ipureintro
    refine (View.read_writes_eq_canon _ _ _ (cover0_23 _ _ _ _ _ _ _ _ _ _ _ _ _ _ _ _)).trans ?_
    rfl
  iexists _; isplitr
  swap; · iexact H24
  ipureintro
  refine (View.read_writes_eq_canon _ _ _ (cover0_24 _ _ _ _ _ _ _ _ _ _ _ _ _ _ _ _)).trans ?_
  rfl

/-- What the windows hold before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 2000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body's triple as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays at the pipeline's values, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, the arrays only. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel3Ideal.Projection

end
-- ==== Proof.ProjectionPieces.lean ====
/-
  The stores of the projections' kernel. The body goes over the two halves of its tile of tokens and in each over the eight
  heads; here one half's and one head's stored pieces are written once (`qPiece`, `kPiece`, `vPiece`), and the five blocks
  the body leaves are these pieces at their places (`out20_eq` … `out24_eq`).
-/
module

public import proofs.«01_k».proof.Proof.ProjectionFrameIdeal

@[expose] public section

set_option maxRecDepth 16384

noncomputable section

namespace Cert.Kernel3Ideal.Projection

open Cert.Kernel3Ideal Cert.Kernel3Ideal.Gen Idealize.ShloMosaic Idealize.ShloMosaic.TcCoe Idealize.SL.Sem

variable {F : FTy → Type} [FloatOps F] [Named F]

/-! ### One head -/

theorem head_slices (j : Fin 8) : S768x512.Slices ![96 * j.val, 0] S96x512 := by
  refine ⟨by decide, fun a => ?_⟩; fin_cases a <;> simp [S96x512, S768x512] <;> omega
theorem keyHead_slices (j : Fin 8) : S512x1024.Slices ![0, 128 * j.val] S512x128 := by
  refine ⟨by decide, fun a => ?_⟩; fin_cases a <;> simp [S512x128, S512x1024] <;> omega
theorem vPiece_slices (j : Fin 8) : S640x512.Slices ![80 * j.val, 0] S80x512 := by
  refine ⟨by decide, fun a => ?_⟩; fin_cases a <;> simp [S80x512, S640x512] <;> omega

/-- Head `j`'s queries, from the rows of all heads. -/
def head (Q : FVec F S768x512 .f32) (j : Fin 8) : FVec F S96x512 .f32 :=
  extractStridedSlice S96x512 ![96 * j.val, 0] Q (head_slices j)

/-- The head's rows, the two halves of the rotated ones exchanged. -/
def swapped (q : FVec F S96x512 .f32) : FVec F S96x512 .f32 :=
  concatenate S96x512 0 [⟨S64x512, extractStridedSlice S64x512 ![0, 0] q slices_S96x512_o0_0_S64x512⟩,
    ⟨S16x512, extractStridedSlice S16x512 ![80, 0] q slices_S96x512_o80_0_S16x512⟩,
    ⟨S16x512, extractStridedSlice S16x512 ![64, 0] q slices_S96x512_o64_0_S16x512⟩] concatenates_S64x512_S16x512_S16x512_S96x512_d0

/-- The head's factor for each token: one over the root mean square, times the scale. -/
def qNorm (q : FVec F S96x512 .f32) : FVec F S1x512 .f32 :=
  mulf (rsqrt (addf (divf (shapeCast S1x512 (multiReduction .add [0] S512 (mulf q q) 0x00000000#32 reduces_S96x512_S512 (.inl rfl) rfl) shapeCasts_S512_S1x512)
    (broadcast S1x512 (Scalar.ofBits .f32 0x42C00000#32))) (broadcast S1x512 (Scalar.ofBits .f32 0x358637BD#32))))
    (broadcast S1x512 (Named.named κ "qscale" 0x3E16C740#32))

/-- The piece of queries stored for one head. -/
def qPiece (Q : FVec F S768x512 .f32) (c s : FVec F S96x512 .f32) (j : Fin 8) : FVec F S1x1x96x512 .bf16 :=
  shapeCast S1x1x96x512 (truncf .bf16 (mulf (addf (mulf (head Q j) c) (mulf (swapped (head Q j)) s))
    (broadcastTo S96x512 (qNorm (head Q j)) broadcasts_S1x512_S96x512)) bitsLt_bf16_f32) shapeCasts_S96x512_S1x1x96x512

/-- Head `j`'s keys: its lanes of all heads' keys plus the rotated lanes common to all heads. -/
def keyHead (R : FVec F S512x128 .f32) (K : FVec F S512x1024 .f32) (j : Fin 8) : FVec F S512x128 .f32 :=
  addf (extractStridedSlice S512x128 ![0, 128 * j.val] K (keyHead_slices j)) R

/-- The keys' factor for each token: one over the root mean square. -/
def kNorm (k : FVec F S512x128 .f32) : FVec F S512x1 .f32 :=
  rsqrt (addf (mulf (shapeCast S512x1 (multiReduction .add [1] S512 (mulf k k) 0x00000000#32 reduces_S512x128_S512 (.inl rfl) rfl) shapeCasts_S512_S512x1)
    (broadcast S512x1 (Named.named κ "inv_dim" 0x3C2AAAAB#32))) (broadcast S512x1 (Scalar.ofBits .f32 0x358637BD#32)))

/-- The common lanes, their two halves exchanged. -/
def turned (R : FVec F S512x128 .f32) : FVec F S512x128 .f32 := k0_pay21 k0_pay18 (k0_pay19 R) (k0_pay20 R)

/-- The piece of keys stored for one head. -/
def kPiece (R : FVec F S512x128 .f32) (K : FVec F S512x1024 .f32) (c s : FVec F S512x128 .f32) (j : Fin 8) : FVec F S1x1x512x96 .bf16 :=
  shapeCast S1x1x512x96 (truncf .bf16 (extractStridedSlice S512x96 ![0, 0] (mulf (addf (mulf (keyHead R K j) c) (mulf (turned R) s))
    (broadcastTo S512x128 (kNorm (keyHead R K j)) broadcasts_S512x1_S512x128)) slices_S512x128_o0_0_S512x96) bitsLt_bf16_f32) shapeCasts_S512x96_S1x1x512x96

/-- The piece of values stored for one head. -/
def vPiece (W : FVec F S640x512 .f32) (j : Fin 8) : FVec F S1x1x80x512 .bf16 :=
  shapeCast S1x1x80x512 (truncf .bf16 (extractStridedSlice S80x512 ![80 * j.val, 0] W (vPiece_slices j)) bitsLt_bf16_f32) shapeCasts_S80x512_S1x1x80x512

/-! ### One half of the tile -/

/-- The half's rows of the input. -/
def rows (u : Fin 2) : Rect S1x1024x1024 :=
  Rect.unit (s := S1x1024x1024) ![0, 512 * u, 0] S1x512x1024.size (by intro a; fin_cases a <;> simp [S1x512x1024, S1x1024x1024] <;> omega)
/-- The half's rows of the tables. -/
def tabRows (u : Fin 2) : Rect S1024x128 :=
  Rect.unit (s := S1024x128) ![512 * u, 0] S512x128.size (by intro a; fin_cases a <;> simp [S512x128, S1024x128] <;> omega)
/-- The half's columns of the transposed tables. -/
def tabCols (u : Fin 2) : Rect S96x1024 :=
  Rect.unit (s := S96x1024) ![0, 512 * u] S96x512.size (by intro a; fin_cases a <;> simp [S96x512, S96x1024] <;> omega)

/-- Where a half's piece of the first output lies. -/
def place20 (u : Fin 2) : Rect S1x2048x1024 :=
  Rect.unit (s := S1x2048x1024) ![0, 0, 512 * u] S1x2048x512.size (by intro a; fin_cases a <;> simp [S1x2048x512, S1x2048x1024] <;> omega)
/-- Where a half's piece of the second output lies. -/
def place21 (u : Fin 2) : Rect S1x1024x512 :=
  Rect.unit (s := S1x1024x512) ![0, 512 * u, 0] S1x512x512.size (by intro a; fin_cases a <;> simp [S1x512x512, S1x1024x512] <;> omega)
/-- Where a half's and head's piece of the queries lies. -/
def place22 (u : Fin 2) (j : Fin 8) : Rect S1x8x96x1024 :=
  Rect.unit (s := S1x8x96x1024) ![0, j, 0, 512 * u] S1x1x96x512.size (by intro a; fin_cases a <;> simp [S1x1x96x512, S1x8x96x1024] <;> omega)
/-- Where a half's and head's piece of the keys lies. -/
def place23 (u : Fin 2) (j : Fin 8) : Rect S1x8x1024x96 :=
  Rect.unit (s := S1x8x1024x96) ![0, j, 512 * u, 0] S1x1x512x96.size (by intro a; fin_cases a <;> simp [S1x1x512x96, S1x8x1024x96] <;> omega)
/-- Where a half's and head's piece of the values lies. -/
def place24 (u : Fin 2) (j : Fin 8) : Rect S1x8x80x1024 :=
  Rect.unit (s := S1x8x80x1024) ![0, j, 0, 512 * u] S1x1x80x512.size (by intro a; fin_cases a <;> simp [S1x1x80x512, S1x8x80x1024] <;> omega)

/-- The order of the stores, the last first. -/
def order : List (Fin 2 × Fin 8) :=
  [(1, 7), (1, 6), (1, 5), (1, 4), (1, 3), (1, 2), (1, 1), (1, 0), (0, 7), (0, 6), (0, 5), (0, 4), (0, 3), (0, 2), (0, 1), (0, 0)]

variable (x0 : Vec F S1x1024x1024 .f32) (x1 : Vec F S1x1024 .f32) (x2 : Vec F S2048x1024 .bf16) (x3 : Vec F S1024x512 .bf16) (x4 : Vec F S1024x256 .bf16)
  (x5 : Vec F S1024x512 .bf16) (x6 : Vec F S1x384 .f32) (x7 : Vec F S1x256 .f32) (x8 x9 : Vec F S1024x128 .f32) (x10 x11 : Vec F S96x1024 .f32)
  (x12 : Vec F S768x384 .bf16) (x13 : Vec F S256x1024 .bf16) (x14 : Vec F S640x256 .bf16) (x15 x16 : Vec F S96x1 .f32) (x17 x18 : Vec F S1x128 .f32) (x19 : Vec F S640x1 .f32)

/-- A half's piece of the first output. -/
def piece20 (u : Fin 2) : FVec F S1x2048x512 .bf16 := k0_pay12 (k0_pay3 (View.ld x0 (rows u)) (View.ld x1 r0_1)) (View.ld x2 r0_10)
/-- A half's piece of the second output. -/
def piece21 (u : Fin 2) : FVec F S1x512x512 .bf16 := k0_pay13 (k0_pay3 (View.ld x0 (rows u)) (View.ld x1 r0_1)) (View.ld x5 r0_2)
/-- A half's queries of all heads. -/
def queries (u : Fin 2) : FVec F S768x512 .f32 := k0_pay9 (k0_pay5 (View.ld x0 (rows u)) (View.ld x1 r0_1) (View.ld x3 r0_2) (View.ld x6 r0_3)) (View.ld x12 r0_6)
/-- A half's keys of all heads, without the common lanes. -/
def keys (u : Fin 2) : FVec F S512x1024 .f32 := k0_pay10 (k0_pay6 (View.ld x0 (rows u)) (View.ld x1 r0_1) (View.ld x4 r0_4)) (View.ld x7 r0_5) (View.ld x13 r0_7)
/-- A half's common lanes of the keys. -/
def common (u : Fin 2) : FVec F S512x128 .f32 := k0_pay8 (k0_pay4 (View.ld x0 (rows u)) (View.ld x1 r0_1) (View.ld x3 r0_2))
/-- A half's values of all heads. -/
def values (u : Fin 2) : FVec F S640x512 .f32 := k0_pay11 (k0_pay6 (View.ld x0 (rows u)) (View.ld x1 r0_1) (View.ld x4 r0_4)) (View.ld x7 r0_5) (View.ld x14 r0_8) (View.ld x19 r0_9)

theorem out20_eq : out0_20 x0 x1 x2 x3 x4 x5 x6 x7 x8 x9 x10 x11 x12 x13 x14 x15 x16 x17 x18 x19
    = View.canon ([1, 0].map fun u => ⟨place20 u, piece20 x0 x1 x2 u⟩) := rfl

theorem out21_eq : out0_21 x0 x1 x2 x3 x4 x5 x6 x7 x8 x9 x10 x11 x12 x13 x14 x15 x16 x17 x18 x19
    = View.canon ([1, 0].map fun u => ⟨place21 u, piece21 x0 x1 x5 u⟩) := rfl

theorem out22_eq : out0_22 x0 x1 x2 x3 x4 x5 x6 x7 x8 x9 x10 x11 x12 x13 x14 x15 x16 x17 x18 x19
    = View.canon (order.map fun p => ⟨place22 p.1 p.2, qPiece (queries x0 x1 x3 x6 x12 p.1) (k0_pay14 (View.ld x15 r0_13) (View.ld x10 (tabCols p.1)))
        (k0_pay15 (View.ld x16 r0_13) (View.ld x11 (tabCols p.1))) p.2⟩) := rfl

theorem out23_eq : out0_23 x0 x1 x2 x3 x4 x5 x6 x7 x8 x9 x10 x11 x12 x13 x14 x15 x16 x17 x18 x19
    = View.canon (order.map fun p => ⟨place23 p.1 p.2, kPiece (common x0 x1 x3 p.1) (keys x0 x1 x4 x7 x13 p.1) (k0_pay16 (View.ld x17 r0_15) (View.ld x8 (tabRows p.1)))
        (k0_pay17 (View.ld x18 r0_15) (View.ld x9 (tabRows p.1))) p.2⟩) := rfl

theorem out24_eq : out0_24 x0 x1 x2 x3 x4 x5 x6 x7 x8 x9 x10 x11 x12 x13 x14 x15 x16 x17 x18 x19
    = View.canon (order.map fun p => ⟨place24 p.1 p.2, vPiece (values x0 x1 x4 x7 x14 x19 p.1) p.2⟩) := rfl

end Cert.Kernel3Ideal.Projection

end
-- ==== Proof.ProjectionApply.lean ====
/-
  The projections' kernel's operations, entry by entry: each stored or intermediate vector of one half of a tile in terms of
  its operands' entries, in the words of ProjectionRow.lean.
-/
module

public import proofs.«01_k».proof.Proof.ProjectionRow
public import proofs.«01_k».proof.Proof.ProjectionPieces
@[expose] public section

set_option maxRecDepth 16384

noncomputable section

namespace Cert.Kernel3Ideal.Projection

open Cert.Kernel3Ideal Cert.Kernel3Ideal.Gen Idealize.ShloMosaic Idealize.ShloMosaic.TcCoe Idealize.SL.Sem

theorem hidden_apply (x : Vec Ideal S1x512x1024 .f32) (g : Vec Ideal S1x1024 .f32) (r : Fin 512) (k : Fin 1024) :
    k0_pay3 x g (ix2 r k) = Cert.Projection.hidden (fun k => x (ix3 0 r k)) (fun k => g (ix2 0 k)) k := by
  pointwise [k0_pay3, Cert.Projection.hidden, Cert.Projection.normed]

theorem latentQ_apply (x : Vec Ideal S1x512x1024 .f32) (g : Vec Ideal S1x1024 .f32) (w : Vec Ideal S1024x512 .bf16) (gq : Vec Ideal S1x384 .f32) (r : Fin 512) (k : Fin 384) :
    k0_pay5 x g w gq (ix2 r k) = Cert.Projection.latentQ (fun k => k0_pay4 x g w (ix2 r ⟨k.val, by omega⟩)) (fun k => gq (ix2 0 k)) k := by
  pointwise [k0_pay5, Cert.Projection.latentQ, Cert.Projection.normed]

theorem down_apply (x : Vec Ideal S1x512x1024 .f32) (g : Vec Ideal S1x1024 .f32) (w : Vec Ideal S1024x512 .bf16) (r : Fin 512) (n : Fin 512) :
    k0_pay4 x g w (ix2 r n) = ∑ k, k0_pay3 x g (ix2 r k) * w (ix2 k n) := by
  pointwise [k0_pay4]

theorem down6_apply (x : Vec Ideal S1x512x1024 .f32) (g : Vec Ideal S1x1024 .f32) (w : Vec Ideal S1024x256 .bf16) (r : Fin 512) (n : Fin 256) :
    k0_pay6 x g w (ix2 r n) = ∑ k, k0_pay3 x g (ix2 r k) * w (ix2 k n) := by
  pointwise [k0_pay6]

theorem latentKV_apply (y : FVec Ideal S512x256 .f32) (g : Vec Ideal S1x256 .f32) (r : Fin 512) (k : Fin 256) :
    k0_pay7 y g (ix2 r k) = Cert.Projection.latentKV (fun k => y (ix2 r k)) (fun k => g (ix2 0 k)) k := by
  pointwise [k0_pay7, Cert.Projection.latentKV, Cert.Projection.normed]

theorem pay9_apply (y : FVec Ideal S512x384 .bf16) (w : Vec Ideal S768x384 .bf16) (n : Fin 768) (r : Fin 512) :
    k0_pay9 y w (ix2 n r) = ∑ k, w (ix2 n k) * y (ix2 r k) := by
  pointwise [k0_pay9]

theorem pay10_apply (y : FVec Ideal S512x256 .f32) (g : Vec Ideal S1x256 .f32) (w : Vec Ideal S256x1024 .bf16) (r : Fin 512) (n : Fin 1024) :
    k0_pay10 y g w (ix2 r n) = ∑ k, k0_pay7 y g (ix2 r k) * w (ix2 k n) := by
  pointwise [k0_pay10]

theorem pay11_apply (y : FVec Ideal S512x256 .f32) (g : Vec Ideal S1x256 .f32) (w : Vec Ideal S640x256 .bf16) (o : Vec Ideal S640x1 .f32) (n : Fin 640) (r : Fin 512) :
    k0_pay11 y g w o (ix2 n r) = (∑ k, w (ix2 n k) * k0_pay7 y g (ix2 r k)) + o (ix2 n 0) := by
  pointwise [k0_pay11]

theorem pay12_apply (h : FVec Ideal S512x1024 .bf16) (w : Vec Ideal S2048x1024 .bf16) (n : Fin 2048) (r : Fin 512) :
    k0_pay12 h w (ix3 0 n r) = ∑ k, w (ix2 n k) * h (ix2 r k) := by
  pointwise [k0_pay12]

theorem pay13_apply (h : FVec Ideal S512x1024 .bf16) (w : Vec Ideal S1024x512 .bf16) (n : Fin 512) (r : Fin 512) :
    k0_pay13 h w (ix3 0 r n) = ∑ k, h (ix2 r k) * w (ix2 k n) := by
  pointwise [k0_pay13]

theorem pay8_apply (y : FVec Ideal S512x512 .f32) (r : Fin 512) (n : Fin 128) :
    k0_pay8 y (ix2 r n) = y (ix2 r ⟨384 + n.val, by omega⟩) := by
  pointwise [k0_pay8]

theorem pay14_apply (g : Vec Ideal S96x1 .f32) (t : Vec Ideal S96x512 .f32) (d : Fin 96) (r : Fin 512) :
    k0_pay14 g t (ix2 d r) = g (ix2 d 0) * t (ix2 d r) := by
  pointwise [k0_pay14]

theorem pay16_apply (g : Vec Ideal S1x128 .f32) (t : Vec Ideal S512x128 .f32) (r : Fin 512) (n : Fin 128) :
    k0_pay16 g t (ix2 r n) = g (ix2 0 n) * t (ix2 r n) := by
  pointwise [k0_pay16]

theorem pay15_eq (g : Vec Ideal S96x1 .f32) (t : Vec Ideal S96x512 .f32) : k0_pay15 g t = k0_pay14 g t := rfl
theorem pay17_eq (g : Vec Ideal S1x128 .f32) (t : Vec Ideal S512x128 .f32) : k0_pay17 g t = k0_pay16 g t := rfl

theorem head_apply (Q : FVec Ideal S768x512 .f32) (j : Fin 8) (d : Fin 96) (r : Fin 512) :
    head Q j (ix2 d r) = Q (ix2 ⟨96 * j.val + d.val, by omega⟩ r) := by
  pointwise [head]

theorem swapped_apply (q : FVec Ideal S96x512 .f32) (d : Fin 96) (r : Fin 512) :
    swapped q (ix2 d r) = Cert.Projection.swapped (fun e => q (ix2 e r)) d := by
  pointwise [swapped, Cert.Projection.swapped]
  have hq : ∀ a a' : Fin 96, a.val = a'.val → q (ix2 a r) = q (ix2 a' r) := fun a a' h => by rw [Fin.ext h]
  by_cases h1 : d.val < 64
  · simp only [h1, dite_true]
  by_cases h2 : d.val < 80
  · have h3 : d.val - 64 < 16 := by omega
    simp only [h1, h2, h3, dite_true, dite_false]
    refine hq _ _ ?_; simp only; omega
  · have h3 : ¬d.val - 64 < 16 := by omega
    simp only [h1, h2, h3, dite_false]
    refine hq _ _ ?_; simp only; omega

theorem qNorm_apply (q : FVec Ideal S96x512 .f32) (r : Fin 512) :
    qNorm q (ix2 0 r) = Ideal.rsqrt (Ideal.div (∑ i, q (ix2 i r) * q (ix2 i r)) (Ideal.ofBits .f32 0x42C00000#32) + Ideal.ofBits .f32 0x358637BD#32) * (((Real.log 2)⁻¹ * (Real.sqrt 96)⁻¹ : ℝ) : EReal) := by
  pointwise [qNorm]
  rfl

theorem qPiece_apply (Q : FVec Ideal S768x512 .f32) (c s : FVec Ideal S96x512 .f32) (j : Fin 8) (d : Fin 96) (r : Fin 512) :
    qPiece Q c s j (ix4 0 0 d r) = (head Q j (ix2 d r) * c (ix2 d r) + swapped (head Q j) (ix2 d r) * s (ix2 d r)) * qNorm (head Q j) (ix2 0 r) := by
  pointwise [qPiece]

theorem keyHead_apply (R : FVec Ideal S512x128 .f32) (K : FVec Ideal S512x1024 .f32) (j : Fin 8) (r : Fin 512) (n : Fin 128) :
    keyHead R K j (ix2 r n) = K (ix2 r ⟨128 * j.val + n.val, by omega⟩) + R (ix2 r n) := by
  pointwise [keyHead]

theorem kNorm_apply (k : FVec Ideal S512x128 .f32) (r : Fin 512) :
    kNorm k (ix2 r 0) = Ideal.rsqrt ((∑ i, k (ix2 r i) * k (ix2 r i)) * ((96⁻¹ : ℝ) : EReal) + Ideal.ofBits .f32 0x358637BD#32) := by
  pointwise [kNorm]
  rfl

theorem turned_apply (R : FVec Ideal S512x128 .f32) (r : Fin 512) (n : Fin 128) :
    turned R (ix2 r n) = Cert.Projection.turned (fun n => R (ix2 r n)) n := by
  pointwise [turned, k0_pay21, k0_pay18, k0_pay19, k0_pay20, Cert.Projection.turned]
  have e : IntOp.cmpi CmpIPredicate.slt (BitVec.ofNat 32 n.val) 80#32 = if n.val < 80 then 1#1 else 0#1 :=
    (by decide +kernel : ∀ n : Fin 128, IntOp.cmpi CmpIPredicate.slt (BitVec.ofNat 32 n.val) 80#32 = if n.val < 80 then 1#1 else 0#1) n
  rw [e]
  split_ifs
  · exact congrArg (fun e => R (ix2 r e)) (Fin.ext (by simp only; omega))
  · exact congrArg (fun e => R (ix2 r e)) (Fin.ext (by simp only; omega))

theorem kPiece_apply (R : FVec Ideal S512x128 .f32) (K : FVec Ideal S512x1024 .f32) (c s : FVec Ideal S512x128 .f32) (j : Fin 8) (r : Fin 512) (d : Fin 96) :
    kPiece R K c s j (ix4 0 0 r d) = (keyHead R K j (ix2 r ⟨d.val, by omega⟩) * c (ix2 r ⟨d.val, by omega⟩) + turned R (ix2 r ⟨d.val, by omega⟩) * s (ix2 r ⟨d.val, by omega⟩))
      * kNorm (keyHead R K j) (ix2 r 0) := by
  pointwise [kPiece]

theorem vPiece_apply (W : FVec Ideal S640x512 .f32) (j : Fin 8) (d : Fin 80) (r : Fin 512) :
    vPiece W j (ix4 0 0 d r) = W (ix2 ⟨80 * j.val + d.val, by omega⟩ r) := by
  pointwise [vPiece]

end Cert.Kernel3Ideal.Projection

end
-- ==== Proof.ProjectionHost.lean ====
/-
  The arrays the host prepares for the projections' kernel, entry by entry: the weights cut, padded and transposed, the
  weights of a head's channels gathered with the rotated halves exchanged, and the tables of cosines and sines.
-/
module

public import proofs.«01_k».proof.Proof.ProjectionRow
public import proofs.«01_k».proof.Proof.ProjectionFrameIdeal
public import Idealize.ShloMosaic.Lib.StableHlo.Run

@[expose] public section

set_option maxRecDepth 16384

noncomputable section

namespace Cert.Kernel3Ideal.Projection

open Cert.Kernel3Ideal Cert.Kernel3Ideal.Gen Idealize.ShloMosaic Idealize.ShloMosaic.TcCoe Idealize.SL.Sem

/-! ### The host's literals and gathers -/

/-- The integer zero as a number. -/
theorem sitofp_zero : FloatOps.sitofp (F := Ideal) .f32 0#32 = (0 : EReal) := by
  show (((0#32 : BitVec 32).toInt : ℝ) : EReal) = 0
  simp

theorem one_word : Ideal.ofBits .f32 0x3F800000#32 = (1 : EReal) := by
  simp [Ideal.ofBits, Ideal.ieee, ← EReal.coe_mul]; norm_num

/-- The column of ones: one at each head's 64th row. -/
theorem ones_word : ∀ n : Fin 640, lit1 (S640x1.rowMajor (ix2 n 0)) = if n.val % 80 = 64 then 0x3F800000#32 else 0#32 := by
  decide +kernel

/-- The indices at which the weights are gathered. -/
def places (p : IVec S96 1) : IVec S96x1 32 := broadcastInDim S96x1 ![0] bcast_S96_S96x1_0
  (select p (addi (fun i => lit0 (S96.rowMajor i)) (broadcastInDim S96 ![] bcast_S_S96 (constantI S_ 32 96#32))) fun i => lit0 (S96.rowMajor i))

theorem place_column : ∀ (d : Fin 96) (a : Fin 2), gather_S96x1_S96x1_S96x1_1_0_n_n_0_1_11.start (ix2 d 0) (places (constantI S96 1 0#1)) a
    + gather_S96x1_S96x1_S96x1_1_0_n_n_0_1_11.batchCoord (ix2 d 0) a + gather_S96x1_S96x1_S96x1_1_0_n_n_0_1_11.offCoord (ix2 d 0) a
      = (ix2 (Cert.Projection.perm d) 0 : S96x1.Idx) a := by
  decide +kernel

theorem place_row : ∀ (d : Fin 96) (a : Fin 2), gather_S1x96_S96x1_S1x96_0_1_n_n_1_1_11.start (ix2 0 d) (places (constantI S96 1 0#1)) a
    + gather_S1x96_S96x1_S1x96_0_1_n_n_1_1_11.batchCoord (ix2 0 d) a + gather_S1x96_S96x1_S1x96_0_1_n_n_1_1_11.offCoord (ix2 0 d) a
      = (ix2 0 (Cert.Projection.perm d) : S1x96.Idx) a := by
  decide +kernel

/-- The gathered column: the channels exchanged. -/
theorem gather_column (x : S96x1.Idx → EReal) (d : Fin 96) :
    Host.gather gather_S96x1_S96x1_S96x1_1_0_n_n_0_1_11 x (places (constantI S96 1 0#1)) (ix2 d 0) = x (ix2 (Cert.Projection.perm d) 0) :=
  congrArg x (funext fun a => Fin.ext (place_column d a))

/-- The gathered row: the channels exchanged. -/
theorem gather_row (x : S1x96.Idx → EReal) (d : Fin 96) :
    Host.gather gather_S1x96_S96x1_S1x96_0_1_n_n_1_1_11 x (places (constantI S96 1 0#1)) (ix2 0 d) = x (ix2 0 (Cert.Projection.perm d)) :=
  congrArg x (funext fun a => Fin.ext (place_row d a))

variable (m : (ℓ : Loc nD τ sig) → Buf (Elt Ideal) ℓ) (ρ : Dev nD → PrngReg)

set_option maxHeartbeats 2000000 in
theorem gn_apply (c : Dev nD) (k : Fin 1024) : V m c main_v67 (ix2 0 k) = m ((c : Thread nD τ).loc main_arg1) (ix2 0 k) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v67 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem gcq_apply (c : Dev nD) (k : Fin 384) : V m c main_v69 (ix2 0 k) = m ((c : Thread nD τ).loc main_arg3) (ix2 0 k) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v69 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem gckv_apply (c : Dev nD) (k : Fin 256) : V m c main_v71 (ix2 0 k) = m ((c : Thread nD τ).loc main_arg5) (ix2 0 k) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v71 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem why_apply (c : Dev nD) (n : Fin 2048) (k : Fin 1024) : V m c main_v5 (ix2 n k) = m ((c : Thread nD τ).loc main_arg2) (ix3 0 k ⟨n.val, by omega⟩) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v5 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem wcq_apply (c : Dev nD) (k : Fin 1024) (n : Fin 512) : V m c main_v12 (ix2 k n) = (if n.val < 384 then m ((c : Thread nD τ).loc main_arg2) (ix3 0 k ⟨2048 + n.val, by omega⟩) else if n.val < 448 then (0 : EReal) else if h : n.val < 480 then m ((c : Thread nD τ).loc main_arg2) (ix3 0 k ⟨2688 + (n.val - 448), by omega⟩) else (0 : EReal)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v12 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  after_results_simp
  pointwise
  by_cases h1 : n.val < 384
  · simp only [h1, dite_true, if_true]
  by_cases h2 : n.val < 448
  · have h3 : n.val - 384 < 64 := by omega
    simp only [h1, h2, h3, dite_true, dite_false, if_true, if_false]
  have h3 : ¬n.val - 384 < 64 := by omega
  by_cases h4 : n.val < 480
  · have h5 : n.val - 384 - 64 < 32 := by omega
    simp only [h1, h2, h3, h4, h5, dite_true, dite_false, if_false]
    exact congrArg (fun e : Fin 5280 => m ((c : Thread nD τ).loc main_arg2) (ix3 0 k e)) (Fin.ext (by simp only; omega))
  · have h5 : ¬n.val - 384 - 64 < 32 := by omega
    simp only [h1, h2, h3, h4, h5, dite_false, if_false]

set_option maxHeartbeats 2000000 in
theorem wckv_apply (c : Dev nD) (k : Fin 1024) (n : Fin 256) : V m c main_v13 (ix2 k n) = m ((c : Thread nD τ).loc main_arg2) (ix3 0 k ⟨2432 + n.val, by omega⟩) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v13 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  exact congrArg (fun e : Fin 5280 => m ((c : Thread nD τ).loc main_arg2) (ix3 0 k e)) (Fin.ext (by simp only; omega))

set_option maxHeartbeats 2000000 in
theorem wza_apply (c : Dev nD) (k : Fin 1024) (n : Fin 512) : V m c main_v14 (ix2 k n) = m ((c : Thread nD τ).loc main_arg2) (ix3 0 k ⟨2720 + n.val, by omega⟩) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v14 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  exact congrArg (fun e : Fin 5280 => m ((c : Thread nD τ).loc main_arg2) (ix3 0 k e)) (Fin.ext (by simp only; omega))

set_option maxHeartbeats 2000000 in
theorem wq_apply (c : Dev nD) (d : Fin 768) (k : Fin 384) : V m c main_v16 (ix2 d k) = m ((c : Thread nD τ).loc main_arg4) (ix3 0 k d) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v16 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem wk_apply (c : Dev nD) (k : Fin 256) (n : Fin 1024) : V m c main_v21 (ix2 k n) = if h : n.val % 128 < 64 then m ((c : Thread nD τ).loc main_arg6) (ix3 0 k n) else (0 : EReal) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v21 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  rw [sitofp_zero]
  split_ifs <;> first | rfl | omega

set_option maxHeartbeats 2000000 in
theorem wv_apply (c : Dev nD) (n : Fin 640) (k : Fin 256) : V m c main_v26 (ix2 n k) = if h : n.val % 80 < 64 then m ((c : Thread nD τ).loc main_arg6) (ix3 0 k ⟨n.val / 80 * 128 + (64 + n.val % 80), by omega⟩) else (0 : EReal) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v26 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  rw [sitofp_zero]
  split_ifs <;> first | rfl | omega

set_option maxHeartbeats 2000000 in
theorem gq_apply (c : Dev nD) (d : Fin 96) : V m c main_v28 (ix2 d 0) = m ((c : Thread nD τ).loc main_arg7) (ix2 0 d) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v28 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem gqs_apply (c : Dev nD) (d : Fin 96) : V m c main_v33 (ix2 d 0) = m ((c : Thread nD τ).loc main_arg7) (ix2 0 (Cert.Projection.perm d)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v33 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  refine (gather_column _ d).trans ?_
  pointwise

set_option maxHeartbeats 2000000 in
theorem gk_apply (c : Dev nD) (d : Fin 96) : V m c main_v42 (ix2 0 (⟨d.val, by omega⟩ : Fin 128)) = m ((c : Thread nD τ).loc main_arg8) (ix2 0 d) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v42 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise

set_option maxHeartbeats 2000000 in
theorem gks_apply (c : Dev nD) (d : Fin 96) : V m c main_v41 (ix2 0 (⟨d.val, by omega⟩ : Fin 128)) = m ((c : Thread nD τ).loc main_arg8) (ix2 0 (Cert.Projection.perm d)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v41 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  refine (gather_row _ d).trans ?_
  pointwise

set_option maxHeartbeats 2000000 in
theorem ones_apply (c : Dev nD) (n : Fin 640) : V m c main_cst (ix2 n 0) = if n.val % 80 = 64 then (1 : EReal) else 0 := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_cst _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  rw [ones_word]
  split_ifs
  · exact one_word
  · simp [Ideal.ofBits, Ideal.ieee]

set_option maxHeartbeats 2000000 in
theorem cosRow_apply (c : Dev nD) (s : Fin 4096) (d : Fin 96) : V m c main_v72 (ix2 s (⟨d.val, by omega⟩ : Fin 128)) = Cert.Projection.cosTab (fun f => Ideal.cos (Cert.Projection.angle s f)) d := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v72 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  after_results_simp
  pointwise
  exact Cert.Projection.cosTab_parts (fun n => Ideal.cos (Cert.Projection.angleAt s n)) d

set_option maxHeartbeats 2000000 in
theorem sinRow_apply (c : Dev nD) (s : Fin 4096) (d : Fin 96) : V m c main_v73 (ix2 s (⟨d.val, by omega⟩ : Fin 128)) = Cert.Projection.sinTab (fun f => Ideal.sin (Cert.Projection.angle s f)) d := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v73 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  after_results_simp
  pointwise
  exact Cert.Projection.sinTab_parts (fun n => Ideal.sin (Cert.Projection.angleAt s n)) d

set_option maxHeartbeats 2000000 in
theorem cosCol_apply (c : Dev nD) (d : Fin 96) (s : Fin 4096) : V m c main_v74 (ix2 d s) = Cert.Projection.cosTab (fun f => Ideal.cos (Cert.Projection.angle s f)) d := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v74 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  after_results_simp
  pointwise
  exact Cert.Projection.cosTab_parts (fun n => Ideal.cos (Cert.Projection.angleAt s n)) d

set_option maxHeartbeats 2000000 in
theorem sinCol_apply (c : Dev nD) (d : Fin 96) (s : Fin 4096) : V m c main_v75 (ix2 d s) = Cert.Projection.sinTab (fun f => Ideal.sin (Cert.Projection.angle s f)) d := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) main_v75 _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise
  after_results_simp
  pointwise
  exact Cert.Projection.sinTab_parts (fun n => Ideal.sin (Cert.Projection.angleAt s n)) d

end Cert.Kernel3Ideal.Projection

end
-- ==== Proof.ProjectionTiles.lean ====
/-
  The tiles the projections' kernel is given, read at their places in the call's arguments: with the arrays the host
  prepares (ProjectionHost.lean), every entry of a block is an entry of an argument, a table's entry, zero or one.
-/
module

public import proofs.«01_k».proof.Proof.ProjectionHost

@[expose] public section

set_option maxRecDepth 16384

noncomputable section

namespace Cert.Kernel3Ideal.Projection

open Cert.Kernel3Ideal Cert.Kernel3Ideal.Gen Idealize.ShloMosaic Idealize.ShloMosaic.TcCoe Idealize.SL.Sem
open Cert.Projection (down qRow kvRow kRow vRow rotated normed angle perm cosTab sinTab)

variable (m : (ℓ : Loc nD τ sig) → Buf (Elt Ideal) ℓ)

/-! ### The call's arguments -/

/-- A token's input. -/
def argX (c : Dev nD) (b : Fin 8) (s : Fin 4096) (k : Fin 1024) : EReal := m ((c : Thread nD τ).loc main_arg0) (ix3 b s k)
def argGn (c : Dev nD) (k : Fin 1024) : EReal := m ((c : Thread nD τ).loc main_arg1) (ix2 0 k)
def argIn (c : Dev nD) (k : Fin 1024) (n : Fin 5280) : EReal := m ((c : Thread nD τ).loc main_arg2) (ix3 0 k n)
def argGcq (c : Dev nD) (k : Fin 384) : EReal := m ((c : Thread nD τ).loc main_arg3) (ix2 0 k)
def argUq (c : Dev nD) (k : Fin 384) (n : Fin 768) : EReal := m ((c : Thread nD τ).loc main_arg4) (ix3 0 k n)
def argGckv (c : Dev nD) (k : Fin 256) : EReal := m ((c : Thread nD τ).loc main_arg5) (ix2 0 k)
def argUkv (c : Dev nD) (k : Fin 256) (n : Fin 1024) : EReal := m ((c : Thread nD τ).loc main_arg6) (ix3 0 k n)
def argGq (c : Dev nD) (d : Fin 96) : EReal := m ((c : Thread nD τ).loc main_arg7) (ix2 0 d)
def argGk (c : Dev nD) (d : Fin 96) : EReal := m ((c : Thread nD τ).loc main_arg8) (ix2 0 d)

/-- The batch of a grid point. -/
def bt (t : Fin cfg0.N) : Fin 8 := ⟨t.val / 4, by have h : t.val < 32 := t.isLt; omega⟩
/-- The token of a tile's row. -/
def row (t : Fin cfg0.N) (r : Fin 1024) : Fin 4096 := ⟨t.val % 4 * 1024 + r.val, by omega⟩

variable (c : Dev nD) (t : Fin cfg0.N)

/-! ### The tiles of the input and of the tables -/

abbrev b0 : Vec Ideal S1x1024x1024 .f32 := iblk m c 0 t
theorem at0 (r k : Fin 1024) : b0 m c t (ix3 0 r k) = argX m c (bt t) (row t r) k := by
  have ho : ∀ (t : Fin cfg0.N) (a : Fin 3), win0_0.index t a * win0_0.size a = ![t.val / 4, t.val % 4 * 1024, 0] a :=
    (by decide +kernel : ∀ (t : Fin grid0.N) (a : Fin 3), win0_0.index t a * win0_0.size a = ![t.val / 4, t.val % 4 * 1024, 0] a)
  show V m c main_arg0 ((win0_0.rect t).emb (ix3 0 r k)) = _
  rw [V_main_arg0]
  refine congrArg _ (funext fun a => Fin.ext ((Pipeline.Window.rect_emb_val win0_0 t (ix3 0 r k) a).trans ?_))
  rw [ho t a]
  fin_cases a <;> first | rfl | exact Nat.zero_add _

abbrev b8 : Vec Ideal S1024x128 .f32 := iblk m c 8 t
theorem at8 (r : Fin 1024) (d : Fin 96) : b8 m c t (ix2 r (⟨d.val, by omega⟩ : Fin 128)) = cosTab (fun f => Ideal.cos (angle (row t r) f)) d := by
  have ho : ∀ (t : Fin cfg0.N) (a : Fin 2), win0_8.index t a * win0_8.size a = ![t.val % 4 * 1024, 0] a :=
    (by decide +kernel : ∀ (t : Fin grid0.N) (a : Fin 2), win0_8.index t a * win0_8.size a = ![t.val % 4 * 1024, 0] a)
  rw [← cosRow_apply m c]
  show V m c main_v72 ((win0_8.rect t).emb (ix2 r (⟨d.val, by omega⟩ : Fin 128))) = _
  refine congrArg _ (funext fun a => Fin.ext ((Pipeline.Window.rect_emb_val win0_8 t (ix2 r (⟨d.val, by omega⟩ : Fin 128)) a).trans ?_))
  rw [ho t a]
  fin_cases a <;> first | rfl | exact Nat.zero_add _

abbrev b9 : Vec Ideal S1024x128 .f32 := iblk m c 9 t
theorem at9 (r : Fin 1024) (d : Fin 96) : b9 m c t (ix2 r (⟨d.val, by omega⟩ : Fin 128)) = sinTab (fun f => Ideal.sin (angle (row t r) f)) d := by
  have ho : ∀ (t : Fin cfg0.N) (a : Fin 2), win0_9.index t a * win0_9.size a = ![t.val % 4 * 1024, 0] a :=
    (by decide +kernel : ∀ (t : Fin grid0.N) (a : Fin 2), win0_9.index t a * win0_9.size a = ![t.val % 4 * 1024, 0] a)
  rw [← sinRow_apply m c]
  show V m c main_v73 ((win0_9.rect t).emb (ix2 r (⟨d.val, by omega⟩ : Fin 128))) = _
  refine congrArg _ (funext fun a => Fin.ext ((Pipeline.Window.rect_emb_val win0_9 t (ix2 r (⟨d.val, by omega⟩ : Fin 128)) a).trans ?_))
  rw [ho t a]
  fin_cases a <;> first | rfl | exact Nat.zero_add _

abbrev b10 : Vec Ideal S96x1024 .f32 := iblk m c 10 t
theorem at10 (d : Fin 96) (r : Fin 1024) : b10 m c t (ix2 d r) = cosTab (fun f => Ideal.cos (angle (row t r) f)) d := by
  have ho : ∀ (t : Fin cfg0.N) (a : Fin 2), win0_10.index t a * win0_10.size a = ![0, t.val % 4 * 1024] a :=
    (by decide +kernel : ∀ (t : Fin grid0.N) (a : Fin 2), win0_10.index t a * win0_10.size a = ![0, t.val % 4 * 1024] a)
  rw [← cosCol_apply m c]
  show V m c main_v74 ((win0_10.rect t).emb (ix2 d r)) = _
  refine congrArg _ (funext fun a => Fin.ext ((Pipeline.Window.rect_emb_val win0_10 t (ix2 d r) a).trans ?_))
  rw [ho t a]
  fin_cases a <;> first | rfl | exact Nat.zero_add _

abbrev b11 : Vec Ideal S96x1024 .f32 := iblk m c 11 t
theorem at11 (d : Fin 96) (r : Fin 1024) : b11 m c t (ix2 d r) = sinTab (fun f => Ideal.sin (angle (row t r) f)) d := by
  have ho : ∀ (t : Fin cfg0.N) (a : Fin 2), win0_11.index t a * win0_11.size a = ![0, t.val % 4 * 1024] a :=
    (by decide +kernel : ∀ (t : Fin grid0.N) (a : Fin 2), win0_11.index t a * win0_11.size a = ![0, t.val % 4 * 1024] a)
  rw [← sinCol_apply m c]
  show V m c main_v75 ((win0_11.rect t).emb (ix2 d r)) = _
  refine congrArg _ (funext fun a => Fin.ext ((Pipeline.Window.rect_emb_val win0_11 t (ix2 d r) a).trans ?_))
  rw [ho t a]
  fin_cases a <;> first | rfl | exact Nat.zero_add _

/-! ### The windows that hold a whole array -/

abbrev b1 : Vec Ideal S1x1024 .f32 := iblk m c 1 t
theorem at1 (k : Fin 1024) : b1 m c t (ix2 0 k) = argGn m c k := by
  have h0 : ∀ (t : Fin cfg0.N) (a : Fin 2), win0_1.index t a = 0 := (by decide +kernel : ∀ (t : Fin grid0.N) (a : Fin 2), win0_1.index t a = 0)
  refine Eq.trans ?_ (gn_apply m c k)
  refine congrArg (V m c main_v67) (funext fun a => Fin.ext (Pipeline.Window.rect_emb_val_of_index_zero win0_1 t a (h0 t a) _))

abbrev b2 : Vec Ideal S2048x1024 .bf16 := iblk m c 2 t
theorem at2 (n : Fin 2048) (k : Fin 1024) : b2 m c t (ix2 n k) = argIn m c k ⟨n.val, by omega⟩ := by
  have h0 : ∀ (t : Fin cfg0.N) (a : Fin 2), win0_2.index t a = 0 := (by decide +kernel : ∀ (t : Fin grid0.N) (a : Fin 2), win0_2.index t a = 0)
  refine Eq.trans ?_ (why_apply m c n k)
  refine congrArg (V m c main_v5) (funext fun a => Fin.ext (Pipeline.Window.rect_emb_val_of_index_zero win0_2 t a (h0 t a) _))

abbrev b3 : Vec Ideal S1024x512 .bf16 := iblk m c 3 t
theorem at3 (k : Fin 1024) (n : Fin 512) : b3 m c t (ix2 k n) = (if n.val < 384 then argIn m c k ⟨2048 + n.val, by omega⟩ else if n.val < 448 then 0 else if h : n.val < 480 then argIn m c k ⟨2688 + (n.val - 448), by omega⟩ else 0) := by
  have h0 : ∀ (t : Fin cfg0.N) (a : Fin 2), win0_3.index t a = 0 := (by decide +kernel : ∀ (t : Fin grid0.N) (a : Fin 2), win0_3.index t a = 0)
  refine Eq.trans ?_ (wcq_apply m c k n)
  refine congrArg (V m c main_v12) (funext fun a => Fin.ext (Pipeline.Window.rect_emb_val_of_index_zero win0_3 t a (h0 t a) _))

abbrev b4 : Vec Ideal S1024x256 .bf16 := iblk m c 4 t
theorem at4 (k : Fin 1024) (n : Fin 256) : b4 m c t (ix2 k n) = argIn m c k ⟨2432 + n.val, by omega⟩ := by
  have h0 : ∀ (t : Fin cfg0.N) (a : Fin 2), win0_4.index t a = 0 := (by decide +kernel : ∀ (t : Fin grid0.N) (a : Fin 2), win0_4.index t a = 0)
  refine Eq.trans ?_ (wckv_apply m c k n)
  refine congrArg (V m c main_v13) (funext fun a => Fin.ext (Pipeline.Window.rect_emb_val_of_index_zero win0_4 t a (h0 t a) _))

abbrev b5 : Vec Ideal S1024x512 .bf16 := iblk m c 5 t
theorem at5 (k : Fin 1024) (n : Fin 512) : b5 m c t (ix2 k n) = argIn m c k ⟨2720 + n.val, by omega⟩ := by
  have h0 : ∀ (t : Fin cfg0.N) (a : Fin 2), win0_5.index t a = 0 := (by decide +kernel : ∀ (t : Fin grid0.N) (a : Fin 2), win0_5.index t a = 0)
  refine Eq.trans ?_ (wza_apply m c k n)
  refine congrArg (V m c main_v14) (funext fun a => Fin.ext (Pipeline.Window.rect_emb_val_of_index_zero win0_5 t a (h0 t a) _))

abbrev b6 : Vec Ideal S1x384 .f32 := iblk m c 6 t
theorem at6 (k : Fin 384) : b6 m c t (ix2 0 k) = argGcq m c k := by
  have h0 : ∀ (t : Fin cfg0.N) (a : Fin 2), win0_6.index t a = 0 := (by decide +kernel : ∀ (t : Fin grid0.N) (a : Fin 2), win0_6.index t a = 0)
  refine Eq.trans ?_ (gcq_apply m c k)
  refine congrArg (V m c main_v69) (funext fun a => Fin.ext (Pipeline.Window.rect_emb_val_of_index_zero win0_6 t a (h0 t a) _))

abbrev b7 : Vec Ideal S1x256 .f32 := iblk m c 7 t
theorem at7 (k : Fin 256) : b7 m c t (ix2 0 k) = argGckv m c k := by
  have h0 : ∀ (t : Fin cfg0.N) (a : Fin 2), win0_7.index t a = 0 := (by decide +kernel : ∀ (t : Fin grid0.N) (a : Fin 2), win0_7.index t a = 0)
  refine Eq.trans ?_ (gckv_apply m c k)
  refine congrArg (V m c main_v71) (funext fun a => Fin.ext (Pipeline.Window.rect_emb_val_of_index_zero win0_7 t a (h0 t a) _))

abbrev b12 : Vec Ideal S768x384 .bf16 := iblk m c 12 t
theorem at12 (n : Fin 768) (k : Fin 384) : b12 m c t (ix2 n k) = argUq m c k n := by
  have h0 : ∀ (t : Fin cfg0.N) (a : Fin 2), win0_12.index t a = 0 := (by decide +kernel : ∀ (t : Fin grid0.N) (a : Fin 2), win0_12.index t a = 0)
  refine Eq.trans ?_ (wq_apply m c n k)
  refine congrArg (V m c main_v16) (funext fun a => Fin.ext (Pipeline.Window.rect_emb_val_of_index_zero win0_12 t a (h0 t a) _))

abbrev b13 : Vec Ideal S256x1024 .bf16 := iblk m c 13 t
theorem at13 (k : Fin 256) (n : Fin 1024) : b13 m c t (ix2 k n) = (if h : n.val % 128 < 64 then argUkv m c k n else 0) := by
  have h0 : ∀ (t : Fin cfg0.N) (a : Fin 2), win0_13.index t a = 0 := (by decide +kernel : ∀ (t : Fin grid0.N) (a : Fin 2), win0_13.index t a = 0)
  refine Eq.trans ?_ (wk_apply m c k n)
  refine congrArg (V m c main_v21) (funext fun a => Fin.ext (Pipeline.Window.rect_emb_val_of_index_zero win0_13 t a (h0 t a) _))

abbrev b14 : Vec Ideal S640x256 .bf16 := iblk m c 14 t
theorem at14 (n : Fin 640) (k : Fin 256) : b14 m c t (ix2 n k) = (if h : n.val % 80 < 64 then argUkv m c k ⟨n.val / 80 * 128 + (64 + n.val % 80), by omega⟩ else 0) := by
  have h0 : ∀ (t : Fin cfg0.N) (a : Fin 2), win0_14.index t a = 0 := (by decide +kernel : ∀ (t : Fin grid0.N) (a : Fin 2), win0_14.index t a = 0)
  refine Eq.trans ?_ (wv_apply m c n k)
  refine congrArg (V m c main_v26) (funext fun a => Fin.ext (Pipeline.Window.rect_emb_val_of_index_zero win0_14 t a (h0 t a) _))

abbrev b15 : Vec Ideal S96x1 .f32 := iblk m c 15 t
theorem at15 (d : Fin 96) : b15 m c t (ix2 d 0) = argGq m c d := by
  have h0 : ∀ (t : Fin cfg0.N) (a : Fin 2), win0_15.index t a = 0 := (by decide +kernel : ∀ (t : Fin grid0.N) (a : Fin 2), win0_15.index t a = 0)
  refine Eq.trans ?_ (gq_apply m c d)
  refine congrArg (V m c main_v28) (funext fun a => Fin.ext (Pipeline.Window.rect_emb_val_of_index_zero win0_15 t a (h0 t a) _))

abbrev b16 : Vec Ideal S96x1 .f32 := iblk m c 16 t
theorem at16 (d : Fin 96) : b16 m c t (ix2 d 0) = argGq m c (perm d) := by
  have h0 : ∀ (t : Fin cfg0.N) (a : Fin 2), win0_16.index t a = 0 := (by decide +kernel : ∀ (t : Fin grid0.N) (a : Fin 2), win0_16.index t a = 0)
  refine Eq.trans ?_ (gqs_apply m c d)
  refine congrArg (V m c main_v33) (funext fun a => Fin.ext (Pipeline.Window.rect_emb_val_of_index_zero win0_16 t a (h0 t a) _))

abbrev b17 : Vec Ideal S1x128 .f32 := iblk m c 17 t
theorem at17 (d : Fin 96) : b17 m c t (ix2 0 (⟨d.val, by omega⟩ : Fin 128)) = argGk m c d := by
  have h0 : ∀ (t : Fin cfg0.N) (a : Fin 2), win0_17.index t a = 0 := (by decide +kernel : ∀ (t : Fin grid0.N) (a : Fin 2), win0_17.index t a = 0)
  refine Eq.trans ?_ (gk_apply m c d)
  refine congrArg (V m c main_v42) (funext fun a => Fin.ext (Pipeline.Window.rect_emb_val_of_index_zero win0_17 t a (h0 t a) _))

abbrev b18 : Vec Ideal S1x128 .f32 := iblk m c 18 t
theorem at18 (d : Fin 96) : b18 m c t (ix2 0 (⟨d.val, by omega⟩ : Fin 128)) = argGk m c (perm d) := by
  have h0 : ∀ (t : Fin cfg0.N) (a : Fin 2), win0_18.index t a = 0 := (by decide +kernel : ∀ (t : Fin grid0.N) (a : Fin 2), win0_18.index t a = 0)
  refine Eq.trans ?_ (gks_apply m c d)
  refine congrArg (V m c main_v41) (funext fun a => Fin.ext (Pipeline.Window.rect_emb_val_of_index_zero win0_18 t a (h0 t a) _))

abbrev b19 : Vec Ideal S640x1 .f32 := iblk m c 19 t
theorem at19 (n : Fin 640) : b19 m c t (ix2 n 0) = (if n.val % 80 = 64 then 1 else 0) := by
  have h0 : ∀ (t : Fin cfg0.N) (a : Fin 2), win0_19.index t a = 0 := (by decide +kernel : ∀ (t : Fin grid0.N) (a : Fin 2), win0_19.index t a = 0)
  refine Eq.trans ?_ (ones_apply m c n)
  refine congrArg (V m c main_cst) (funext fun a => Fin.ext (Pipeline.Window.rect_emb_val_of_index_zero win0_19 t a (h0 t a) _))

end Cert.Kernel3Ideal.Projection

end
-- ==== Proof.ProjectionBlock.lean ====
/-
  The pieces the projections' kernel stores, entry by entry, as the plain program's values: one half's tokens against the
  blocks' entries (ProjectionTiles.lean), with the agreement of the two forms of a head's row (ProjectionRow.lean).
-/
module

public import proofs.«01_k».proof.Proof.ProjectionApply
public import proofs.«01_k».proof.Proof.ProjectionTiles
@[expose] public section

set_option maxRecDepth 16384

noncomputable section

namespace Cert.Kernel3Ideal.Projection

open Cert.Kernel3Ideal Cert.Kernel3Ideal.Gen Idealize.ShloMosaic Idealize.ShloMosaic.TcCoe Idealize.SL.Sem
open Cert.Projection (hidden latentQ latentKV down qRow kvRow kRow vRow rotated normed angle perm cosTab sinTab kernelQ kernelK queries_agree keys_agree swapped_eq)

/-! ### The loads -/

/-- A half's row among the tile's. -/
def half (u : Fin 2) (r : Fin 512) : Fin 1024 := ⟨512 * u.val + r.val, by omega⟩

theorem ld_rows (x : Vec Ideal S1x1024x1024 .f32) (u : Fin 2) (r : Fin 512) (k : Fin 1024) : View.ld x (rows u) (ix3 0 r k) = x (ix3 0 (half u r) k) := by
  pointwise [rows, half]
theorem ld_tabRows (x : Vec Ideal S1024x128 .f32) (u : Fin 2) (r : Fin 512) (n : Fin 128) : View.ld x (tabRows u) (ix2 r n) = x (ix2 (half u r) n) := by
  pointwise [tabRows, half]
theorem ld_tabCols (x : Vec Ideal S96x1024 .f32) (u : Fin 2) (d : Fin 96) (r : Fin 512) : View.ld x (tabCols u) (ix2 d r) = x (ix2 d (half u r)) := by
  pointwise [tabCols, half]
theorem ld1 (x : Vec Ideal S1x1024 .f32) (k : Fin 1024) : View.ld x r0_1 (ix2 0 k) = x (ix2 0 k) := by pointwise
theorem ld2 (x : Vec Ideal S1024x512 .bf16) (k : Fin 1024) (n : Fin 512) : View.ld x r0_2 (ix2 k n) = x (ix2 k n) := by pointwise
theorem ld3 (x : Vec Ideal S1x384 .f32) (k : Fin 384) : View.ld x r0_3 (ix2 0 k) = x (ix2 0 k) := by pointwise
theorem ld4 (x : Vec Ideal S1024x256 .bf16) (k : Fin 1024) (n : Fin 256) : View.ld x r0_4 (ix2 k n) = x (ix2 k n) := by pointwise
theorem ld5 (x : Vec Ideal S1x256 .f32) (k : Fin 256) : View.ld x r0_5 (ix2 0 k) = x (ix2 0 k) := by pointwise
theorem ld6 (x : Vec Ideal S768x384 .bf16) (n : Fin 768) (k : Fin 384) : View.ld x r0_6 (ix2 n k) = x (ix2 n k) := by pointwise
theorem ld7 (x : Vec Ideal S256x1024 .bf16) (k : Fin 256) (n : Fin 1024) : View.ld x r0_7 (ix2 k n) = x (ix2 k n) := by pointwise
theorem ld8 (x : Vec Ideal S640x256 .bf16) (n : Fin 640) (k : Fin 256) : View.ld x r0_8 (ix2 n k) = x (ix2 n k) := by pointwise
theorem ld9 (x : Vec Ideal S640x1 .f32) (n : Fin 640) : View.ld x r0_9 (ix2 n 0) = x (ix2 n 0) := by pointwise
theorem ld10 (x : Vec Ideal S2048x1024 .bf16) (n : Fin 2048) (k : Fin 1024) : View.ld x r0_10 (ix2 n k) = x (ix2 n k) := by pointwise
theorem ld13 (x : Vec Ideal S96x1 .f32) (d : Fin 96) : View.ld x r0_13 (ix2 d 0) = x (ix2 d 0) := by pointwise
theorem ld15 (x : Vec Ideal S1x128 .f32) (n : Fin 128) : View.ld x r0_15 (ix2 0 n) = x (ix2 0 n) := by pointwise

variable (m : (ℓ : Loc nD τ sig) → Buf (Elt Ideal) ℓ) (c : Dev nD)

/-- A token's projected row. -/
def proj (b : Fin 8) (s : Fin 4096) : Fin 5280 → EReal := down (argX m c b s) (argGn m c) (argIn m c)

variable (t : Fin cfg0.N) (u : Fin 2) (r : Fin 512)

/-- The token of a half's row. -/
def tok : Fin 4096 := row t (half u r)
/-- The token's projected row, by the grid point. -/
def projAt : Fin 5280 → EReal := proj m c (bt t) (tok t u r)

/-! ### The projected rows -/

theorem hidden_at (k : Fin 1024) : k0_pay3 (View.ld (b0 m c t) (rows u)) (View.ld (b1 m c t) r0_1) (ix2 r k)
    = hidden (argX m c (bt t) (tok t u r)) (argGn m c) k :=
  (hidden_apply _ _ r k).trans (congrArg₂ (fun x g => hidden x g k) (funext fun k => (ld_rows _ u r k).trans (at0 m c t _ k))
    (funext fun k => (ld1 _ k).trans (at1 m c t k)))

theorem piece20_at (n : Fin 2048) : piece20 (b0 m c t) (b1 m c t) (b2 m c t) u (ix3 0 n r) = projAt m c t u r ⟨n.val, by omega⟩ := by
  unfold piece20
  refine (pay12_apply _ _ n r).trans ?_
  exact Finset.sum_congr rfl fun k _ => (mul_comm _ _).trans (congrArg₂ (· * ·) (hidden_at m c t u r k) ((ld10 _ n k).trans (at2 m c t n k)))

theorem piece21_at (n : Fin 512) : piece21 (b0 m c t) (b1 m c t) (b5 m c t) u (ix3 0 r n) = projAt m c t u r ⟨2720 + n.val, by omega⟩ := by
  unfold piece21
  refine (pay13_apply _ _ n r).trans ?_
  exact Finset.sum_congr rfl fun k _ => congrArg₂ (· * ·) (hidden_at m c t u r k) ((ld2 _ k n).trans (at5 m c t k n))

theorem lowQ_at (n : Fin 384) : k0_pay4 (View.ld (b0 m c t) (rows u)) (View.ld (b1 m c t) r0_1) (View.ld (b3 m c t) r0_2) (ix2 r ⟨n.val, by omega⟩)
    = projAt m c t u r ⟨2048 + n.val, by omega⟩ := by
  refine (down_apply _ _ _ r _).trans ?_
  show _ = ∑ k, hidden (argX m c (bt t) (tok t u r)) (argGn m c) k * argIn m c k ⟨2048 + n.val, by omega⟩
  refine Finset.sum_congr rfl fun k _ => ?_
  refine congrArg₂ (· * ·) (hidden_at m c t u r k) ?_
  refine ((ld2 _ k _).trans (at3 m c t k _)).trans ?_
  exact if_pos n.isLt

theorem lowKV_at (n : Fin 256) : k0_pay6 (View.ld (b0 m c t) (rows u)) (View.ld (b1 m c t) r0_1) (View.ld (b4 m c t) r0_4) (ix2 r n)
    = projAt m c t u r ⟨2432 + n.val, by omega⟩ := by
  refine (down6_apply _ _ _ r n).trans ?_
  exact Finset.sum_congr rfl fun k _ => congrArg₂ (· * ·) (hidden_at m c t u r k) ((ld4 _ k n).trans (at4 m c t k n))

/-! ### The heads' rows -/

theorem latentQ_at (k : Fin 384) : k0_pay5 (View.ld (b0 m c t) (rows u)) (View.ld (b1 m c t) r0_1) (View.ld (b3 m c t) r0_2) (View.ld (b6 m c t) r0_3) (ix2 r k)
    = latentQ (fun k => projAt m c t u r ⟨2048 + k.val, by omega⟩) (argGcq m c) k :=
  (latentQ_apply _ _ _ _ r k).trans (congrArg₂ (fun x g => latentQ x g k) (funext fun n => lowQ_at m c t u r n) (funext fun k => (ld3 _ k).trans (at6 m c t k)))

theorem latentKV_at (k : Fin 256) : k0_pay7 (k0_pay6 (View.ld (b0 m c t) (rows u)) (View.ld (b1 m c t) r0_1) (View.ld (b4 m c t) r0_4)) (View.ld (b7 m c t) r0_5) (ix2 r k)
    = latentKV (fun k => projAt m c t u r ⟨2432 + k.val, by omega⟩) (argGckv m c) k :=
  (latentKV_apply _ _ r k).trans (congrArg₂ (fun x g => latentKV x g k) (funext fun n => lowKV_at m c t u r n) (funext fun k => (ld5 _ k).trans (at7 m c t k)))

theorem queries_at (j : Fin 8) (e : Fin 96) : queries (b0 m c t) (b1 m c t) (b3 m c t) (b6 m c t) (b12 m c t) u (ix2 ⟨96 * j.val + e.val, by omega⟩ r)
    = qRow (projAt m c t u r) (argGcq m c) (argUq m c) j e := by
  unfold queries
  refine (pay9_apply _ _ _ r).trans ?_
  refine Finset.sum_congr rfl fun k _ => (mul_comm _ _).trans (congrArg₂ (· * ·) (latentQ_at m c t u r k) (((ld6 _ _ k).trans (at12 m c t _ k)).trans ?_))
  refine congrArg (argUq m c k) (Fin.ext ?_)
  simp only; omega

theorem keys_at (j : Fin 8) (n : Fin 128) : keys (b0 m c t) (b1 m c t) (b4 m c t) (b7 m c t) (b13 m c t) u (ix2 r ⟨128 * j.val + n.val, by omega⟩)
    = if n.val < 64 then kvRow (projAt m c t u r) (argGckv m c) (argUkv m c) j n else 0 := by
  unfold keys
  refine (pay10_apply _ _ _ r _).trans ?_
  by_cases hn : n.val < 64
  · rw [if_pos hn]
    refine Finset.sum_congr rfl fun k _ => congrArg₂ (· * ·) (latentKV_at m c t u r k) (((ld7 _ k _).trans (at13 m c t k _)).trans ?_)
    have h : (128 * j.val + n.val) % 128 < 64 := by omega
    refine (dif_pos h).trans (congrArg (argUkv m c k) (Fin.ext ?_))
    simp only; omega
  · rw [if_neg hn]
    refine Finset.sum_eq_zero fun k _ => (congrArg₂ (· * ·) rfl (((ld7 _ k _).trans (at13 m c t k _)).trans ?_)).trans (mul_zero _)
    have h : ¬(128 * j.val + n.val) % 128 < 64 := by omega
    exact dif_neg h

theorem common_at (n : Fin 128) : common (b0 m c t) (b1 m c t) (b3 m c t) u (ix2 r n)
    = if h : 64 ≤ n.val ∧ n.val < 96 then projAt m c t u r ⟨2688 + (n.val - 64), by omega⟩ else 0 := by
  unfold common
  refine (pay8_apply _ r n).trans ((down_apply _ _ _ r _).trans ?_)
  have h1 : ¬384 + n.val < 384 := by omega
  by_cases hn : 64 ≤ n.val ∧ n.val < 96
  · rw [dif_pos hn]
    show _ = ∑ k, hidden (argX m c (bt t) (tok t u r)) (argGn m c) k * argIn m c k ⟨2688 + (n.val - 64), by omega⟩
    refine Finset.sum_congr rfl fun k _ => ?_
    refine congrArg₂ (· * ·) (hidden_at m c t u r k) ?_
    refine ((ld2 _ k _).trans (at3 m c t k _)).trans ?_
    have h2 : ¬384 + n.val < 448 := by omega
    have h3 : 384 + n.val < 480 := by omega
    refine (if_neg h1).trans ((if_neg h2).trans ((dif_pos h3).trans (congrArg (argIn m c k) (Fin.ext ?_))))
    simp only; omega
  · rw [dif_neg hn]
    refine Finset.sum_eq_zero fun k _ => (congrArg₂ (· * ·) rfl (((ld2 _ k _).trans (at3 m c t k _)).trans ?_)).trans (mul_zero _)
    refine (if_neg h1).trans ?_
    by_cases h2 : 384 + n.val < 448
    · exact if_pos h2
    · have h3 : ¬384 + n.val < 480 := by omega
      exact (if_neg h2).trans (dif_neg h3)

theorem values_at (j : Fin 8) (d : Fin 80) : values (b0 m c t) (b1 m c t) (b4 m c t) (b7 m c t) (b14 m c t) (b19 m c t) u (ix2 ⟨80 * j.val + d.val, by omega⟩ r)
    = vRow (projAt m c t u r) (argGckv m c) (argUkv m c) j d := by
  unfold values
  refine (pay11_apply _ _ _ _ _ r).trans ((congrArg₂ (· + ·) rfl ((ld9 _ _).trans (at19 m c t _))).trans ?_)
  have hm : (80 * j.val + d.val) % 80 = d.val := by omega
  unfold vRow
  by_cases hd : d.val < 64
  · rw [dif_pos hd]
    have h1 : ¬(80 * j.val + d.val) % 80 = 64 := by omega
    refine (congrArg₂ (· + ·) rfl (if_neg h1)).trans ((add_zero _).trans ?_)
    refine Finset.sum_congr rfl fun k _ => (mul_comm _ _).trans (congrArg₂ (· * ·) (latentKV_at m c t u r k) (((ld8 _ _ k).trans (at14 m c t _ k)).trans ?_))
    have h2 : (80 * j.val + d.val) % 80 < 64 := by omega
    refine (dif_pos h2).trans (congrArg (argUkv m c k) (Fin.ext ?_))
    simp only; omega
  · rw [dif_neg hd]
    have h2 : ¬(80 * j.val + d.val) % 80 < 64 := by omega
    refine (congrArg₂ (· + ·) (Finset.sum_eq_zero fun k _ => (congrArg₂ (· * ·) (((ld8 _ _ k).trans (at14 m c t _ k)).trans (dif_neg h2)) rfl).trans (zero_mul _)) rfl).trans ?_
    rw [zero_add]
    simp only [hm]

/-! ### The pieces -/

theorem qCos_at (d : Fin 96) : k0_pay14 (View.ld (b15 m c t) r0_13) (View.ld (b10 m c t) (tabCols u)) (ix2 d r)
    = argGq m c d * cosTab (fun f => Ideal.cos (angle (tok t u r) f)) d :=
  (pay14_apply _ _ d r).trans (congrArg₂ (· * ·) ((ld13 _ d).trans (at15 m c t d)) ((ld_tabCols _ u d r).trans (at10 m c t d _)))
theorem qSin_at (d : Fin 96) : k0_pay15 (View.ld (b16 m c t) r0_13) (View.ld (b11 m c t) (tabCols u)) (ix2 d r)
    = argGq m c (perm d) * sinTab (fun f => Ideal.sin (angle (tok t u r) f)) d :=
  (pay14_apply _ _ d r).trans (congrArg₂ (· * ·) ((ld13 _ d).trans (at16 m c t d)) ((ld_tabCols _ u d r).trans (at11 m c t d _)))

theorem qPiece_at (j : Fin 8) (d : Fin 96) :
    qPiece (queries (b0 m c t) (b1 m c t) (b3 m c t) (b6 m c t) (b12 m c t) u) (k0_pay14 (View.ld (b15 m c t) r0_13) (View.ld (b10 m c t) (tabCols u)))
        (k0_pay15 (View.ld (b16 m c t) r0_13) (View.ld (b11 m c t) (tabCols u))) j (ix4 0 0 d r)
      = Ideal.div (rotated (normed (Ideal.ofBits .f32 0x42C00000#32) (qRow (projAt m c t u r) (argGcq m c) (argUq m c) j) (argGq m c))
          (fun f => Ideal.cos (angle (tok t u r) f)) (fun f => Ideal.sin (angle (tok t u r) f)) d)
          (Ideal.log (Ideal.ofBits .f32 0x40000000#32) * Ideal.sqrt (Ideal.ofBits .f32 0x42C00000#32)) := by
  have hq : (fun e => head (queries (b0 m c t) (b1 m c t) (b3 m c t) (b6 m c t) (b12 m c t) u) j (ix2 e r)) = qRow (projAt m c t u r) (argGcq m c) (argUq m c) j :=
    funext fun e => (head_apply _ j e r).trans (queries_at m c t u r j e)
  have hs := (swapped_apply (head (queries (b0 m c t) (b1 m c t) (b3 m c t) (b6 m c t) (b12 m c t) u) j) d r).trans (congrArg (fun q => Cert.Projection.swapped q d) hq)
  have hn := (qNorm_apply (head (queries (b0 m c t) (b1 m c t) (b3 m c t) (b6 m c t) (b12 m c t) u) j) r).trans
    (congrArg (fun q : Fin 96 → EReal => Ideal.rsqrt (Ideal.div (∑ i, q i * q i) (Ideal.ofBits .f32 0x42C00000#32) + Ideal.ofBits .f32 0x358637BD#32)
      * (((Real.log 2)⁻¹ * (Real.sqrt 96)⁻¹ : ℝ) : EReal)) hq)
  refine (qPiece_apply _ _ _ j d r).trans (Eq.trans ?_ (queries_agree (qRow (projAt m c t u r) (argGcq m c) (argUq m c) j) (argGq m c) _ _ d))
  refine congrArg₂ (· * ·) (congrArg₂ (· + ·) (congrArg₂ (· * ·) (congrFun hq d) (qCos_at m c t u r d)) (congrArg₂ (· * ·) hs ?_)) hn
  simp only [swapped_eq (argGq m c)]
  exact qSin_at m c t u r d

theorem kPiece_at (j : Fin 8) (d : Fin 96) :
    kPiece (common (b0 m c t) (b1 m c t) (b3 m c t) u) (keys (b0 m c t) (b1 m c t) (b4 m c t) (b7 m c t) (b13 m c t) u)
        (k0_pay16 (View.ld (b17 m c t) r0_15) (View.ld (b8 m c t) (tabRows u))) (k0_pay17 (View.ld (b18 m c t) r0_15) (View.ld (b9 m c t) (tabRows u))) j (ix4 0 0 r d)
      = rotated (normed (Ideal.ofBits .f32 0x42C00000#32) (kRow (projAt m c t u r) (argGckv m c) (argUkv m c) j) (argGk m c))
          (fun f => Ideal.cos (angle (tok t u r) f)) (fun f => Ideal.sin (angle (tok t u r) f)) d := by
  have hk : ∀ n : Fin 128, keyHead (common (b0 m c t) (b1 m c t) (b3 m c t) u) (keys (b0 m c t) (b1 m c t) (b4 m c t) (b7 m c t) (b13 m c t) u) j (ix2 r n)
      = (if n.val < 64 then kvRow (projAt m c t u r) (argGckv m c) (argUkv m c) j n else 0)
        + (if h : 64 ≤ n.val ∧ n.val < 96 then projAt m c t u r ⟨2688 + (n.val - 64), by omega⟩ else 0) :=
    fun n => (keyHead_apply _ _ j r n).trans (congrArg₂ (· + ·) (keys_at m c t u r j n) (common_at m c t u r n))
  refine (kPiece_apply _ _ _ _ j r d).trans ?_
  refine (congrArg₂ (· * ·) (congrArg₂ (· + ·) rfl (congrArg₂ (· * ·) (turned_apply _ r _) rfl)) (kNorm_apply _ r)).trans ?_
  refine keys_agree (fun n => keyHead (common (b0 m c t) (b1 m c t) (b3 m c t) u) (keys (b0 m c t) (b1 m c t) (b4 m c t) (b7 m c t) (b13 m c t) u) j (ix2 r n))
    (fun n => common (b0 m c t) (b1 m c t) (b3 m c t) u (ix2 r n))
    (fun n => k0_pay16 (View.ld (b17 m c t) r0_15) (View.ld (b8 m c t) (tabRows u)) (ix2 r n))
    (fun n => k0_pay16 (View.ld (b18 m c t) r0_15) (View.ld (b9 m c t) (tabRows u)) (ix2 r n)) _ _ _ _ d ?_ ?_ ?_ ?_ ?_
  · intro e
    refine (hk _).trans ?_
    unfold kRow
    by_cases he : e.val < 64
    · have h2 : ¬(64 ≤ e.val ∧ e.val < 96) := by omega
      rw [if_pos he, dif_neg h2, dif_pos he, add_zero]
    · have h2 : 64 ≤ e.val ∧ e.val < 96 := by omega
      rw [if_neg he, dif_pos h2, dif_neg he, zero_add]
  · intro n
    refine (hk _).trans ?_
    have h1 : ¬96 + n.val < 64 := by omega
    have h2 : ¬(64 ≤ 96 + n.val ∧ 96 + n.val < 96) := by omega
    rw [if_neg h1, dif_neg h2, add_zero]
  · intro e
    refine (common_at m c t u r _).trans ?_
    have h1 : ¬64 + e.val < 64 := by omega
    have h2 : 64 ≤ 64 + e.val ∧ 64 + e.val < 96 := by omega
    unfold kRow
    rw [dif_pos h2, dif_neg h1]
  · intro e
    refine (pay16_apply _ _ r _).trans (congrArg₂ (· * ·) ((ld15 _ _).trans (at17 m c t e)) ((ld_tabRows _ u r _).trans (at8 m c t _ e)))
  · intro e
    rw [swapped_eq]
    refine (pay16_apply _ _ r _).trans (congrArg₂ (· * ·) ((ld15 _ _).trans (at18 m c t e)) ((ld_tabRows _ u r _).trans (at9 m c t _ e)))

theorem vPiece_at (j : Fin 8) (d : Fin 80) : vPiece (values (b0 m c t) (b1 m c t) (b4 m c t) (b7 m c t) (b14 m c t) (b19 m c t) u) j (ix4 0 0 d r)
    = vRow (projAt m c t u r) (argGckv m c) (argUkv m c) j d :=
  (vPiece_apply _ j d r).trans (values_at m c t u r j d)

end Cert.Kernel3Ideal.Projection

end
-- ==== Proof.ProjectionRun.lean ====
/-
  The projections' launch: what each grid point writes back to the five outputs (`flushed20` … `flushed24`), each final
  array block by block (`blocks20` … `blocks24`), and the run with the arrays named (`run_blocks`).
-/
module

public import proofs.«01_k».proof.Proof.ProjectionFrameIdeal
public import Idealize.ShloMosaic.Lib.Pipeline.Value

@[expose] public section

noncomputable section

namespace Cert.Kernel3Ideal.Projection

open Cert.Kernel3Ideal Cert.Kernel3Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What a grid point writes back to output 1: the body's values of the blocks it is given. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  show (cfg0.win 20).cut (grid0.coords t) ((dats m 0 c).after 20 t) = _
  rw [after0_20]

/-- The blocks of output 1 are indexed differently at different points. -/
theorem idx_inj20 : ∀ t t' : Fin cfg0.N, win0_20.index t = win0_20.index t' → t = t' :=
  (by decide +kernel : ∀ t t' : Fin grid0.N, win0_20.index t = win0_20.index t' → t = t')

/-- So two points' blocks of output 1 share no index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- The final array of output 1, block by block: what the block's point wrote back. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- What a grid point writes back to output 2: the body's values of the blocks it is given. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  show (cfg0.win 21).cut (grid0.coords t) ((dats m 0 c).after 21 t) = _
  rw [after0_21]

/-- The blocks of output 2 are indexed differently at different points. -/
theorem idx_inj21 : ∀ t t' : Fin cfg0.N, win0_21.index t = win0_21.index t' → t = t' :=
  (by decide +kernel : ∀ t t' : Fin grid0.N, win0_21.index t = win0_21.index t' → t = t')

/-- So two points' blocks of output 2 share no index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- The final array of output 2, block by block: what the block's point wrote back. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- What a grid point writes back to output 3: the body's values of the blocks it is given. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  show (cfg0.win 22).cut (grid0.coords t) ((dats m 0 c).after 22 t) = _
  rw [after0_22]

/-- The blocks of output 3 are indexed differently at different points. -/
theorem idx_inj22 : ∀ t t' : Fin cfg0.N, win0_22.index t = win0_22.index t' → t = t' :=
  (by decide +kernel : ∀ t t' : Fin grid0.N, win0_22.index t = win0_22.index t' → t = t')

/-- So two points' blocks of output 3 share no index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- The final array of output 3, block by block: what the block's point wrote back. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- What a grid point writes back to output 4: the body's values of the blocks it is given. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  show (cfg0.win 23).cut (grid0.coords t) ((dats m 0 c).after 23 t) = _
  rw [after0_23]

/-- The blocks of output 4 are indexed differently at different points. -/
theorem idx_inj23 : ∀ t t' : Fin cfg0.N, win0_23.index t = win0_23.index t' → t = t' :=
  (by decide +kernel : ∀ t t' : Fin grid0.N, win0_23.index t = win0_23.index t' → t = t')

/-- So two points' blocks of output 4 share no index. -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- The final array of output 4, block by block: what the block's point wrote back. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- What a grid point writes back to output 5: the body's values of the blocks it is given. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  show (cfg0.win 24).cut (grid0.coords t) ((dats m 0 c).after 24 t) = _
  rw [after0_24]

/-- The blocks of output 5 are indexed differently at different points. -/
theorem idx_inj24 : ∀ t t' : Fin cfg0.N, win0_24.index t = win0_24.index t' → t = t' :=
  (by decide +kernel : ∀ t t' : Fin grid0.N, win0_24.index t = win0_24.index t' → t = t')

/-- So two points' blocks of output 5 share no index. -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- The final array of output 5, block by block: what the block's point wrote back. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

theorem post20 (r : PUnit × MemSt nD τ sig (Elt F)) (h : Pipeline.FramePost cfgs (dats m) 0 (V m) r) (c : Dev nD) :
    r.2.mem ((c : Thread nD τ).loc main_v76_0) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v76_1) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v76_2) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v76_3) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v76_4) = (dats m 0 c).arrAt 24 cfg0.N :=
  (h c).1 24

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run: the outputs' arrays at the values above, the arguments unchanged. -/
theorem run_blocks : θ_run defs (onTc (τ := τ) (main (F := F))) ⟨m, fun _ => 0, ρ⟩ fun r => ∀ c : Dev nD,
      r.2.mem ((c : Thread nD τ).loc main_v76_0) = (dats m 0 c).arrAt 20 cfg0.N
      ∧ r.2.mem ((c : Thread nD τ).loc main_v76_1) = (dats m 0 c).arrAt 21 cfg0.N
      ∧ r.2.mem ((c : Thread nD τ).loc main_v76_2) = (dats m 0 c).arrAt 22 cfg0.N
      ∧ r.2.mem ((c : Thread nD τ).loc main_v76_3) = (dats m 0 c).arrAt 23 cfg0.N
      ∧ r.2.mem ((c : Thread nD τ).loc main_v76_4) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel3Ideal.Projection

end
-- ==== Proof.ProjectionKernel.lean ====
/-
  The projections' kernel: its five results after the run. Each block the kernel writes back is its block of a result
  (ProjectionBlock.lean gives the pieces), and the blocks cover the results.
-/
module

public import proofs.«01_k».proof.Proof.ProjectionBlock
public import proofs.«01_k».proof.Proof.ProjectionRun
@[expose] public section

set_option maxRecDepth 16384

noncomputable section

namespace Cert.Kernel3Ideal.Projection

open Cert.Kernel3Ideal Cert.Kernel3Ideal.Gen Idealize.ShloMosaic Idealize.ShloMosaic.TcCoe Idealize.SL.Sem
open Cert.Projection (qRow kRow vRow rotated normed angle)

variable (m : (ℓ : Loc nD τ sig) → Buf (Elt Ideal) ℓ) (ρ : Dev nD → PrngReg) (c : Dev nD)

/-! ### The results -/

/-- The first 2048 channels of the projected rows, the channels first. -/
def result20 : Vec Ideal S8x2048x4096 .bf16 := fun i => proj m c (i 0) (i 2) ⟨(i 1).val, by have := (i 1).isLt; simp [S8x2048x4096] at this; omega⟩
/-- The channels from 2720 on. -/
def result21 : Vec Ideal S8x4096x512 .bf16 := fun i => proj m c (i 0) (i 1) ⟨2720 + (i 2).val, by have := (i 2).isLt; simp [S8x4096x512] at this; omega⟩
/-- The queries: each head's row normalised, rotated and scaled. -/
def result22 : Vec Ideal S8x8x96x4096 .bf16 := fun i =>
  Ideal.div (rotated (normed (Ideal.ofBits .f32 0x42C00000#32) (qRow (proj m c (i 0) (i 3)) (argGcq m c) (argUq m c) (i 1)) (argGq m c))
    (fun f => Ideal.cos (angle (i 3) f)) (fun f => Ideal.sin (angle (i 3) f)) (i 2))
    (Ideal.log (Ideal.ofBits .f32 0x40000000#32) * Ideal.sqrt (Ideal.ofBits .f32 0x42C00000#32))
/-- The keys: each head's row normalised and rotated. -/
def result23 : Vec Ideal S8x8x4096x96 .bf16 := fun i =>
  rotated (normed (Ideal.ofBits .f32 0x42C00000#32) (kRow (proj m c (i 0) (i 2)) (argGckv m c) (argUkv m c) (i 1)) (argGk m c))
    (fun f => Ideal.cos (angle (i 2) f)) (fun f => Ideal.sin (angle (i 2) f)) (i 3)
/-- The values, followed by a one and zeros. -/
def result24 : Vec Ideal S8x8x80x4096 .bf16 := fun i => vRow (proj m c (i 0) (i 3)) (argGckv m c) (argUkv m c) (i 1) (i 2)

/-! ### Where the blocks lie -/

theorem off20 : ∀ (t : Fin cfg0.N) (a : Fin 3), win0_20.index t a * win0_20.size a = ![t.val / 4, 0, t.val % 4 * 1024] a :=
  (by decide +kernel : ∀ (t : Fin grid0.N) (a : Fin 3), win0_20.index t a * win0_20.size a = ![t.val / 4, 0, t.val % 4 * 1024] a)
theorem emb20 (t : Fin cfg0.N) (n : Fin 2048) (r : Fin 1024) : (win0_20.rect t).emb (ix3 0 n r) = (ix3 (bt t) n (row t r) : S8x2048x4096.Idx) := by
  refine funext fun a => Fin.ext ((Pipeline.Window.rect_emb_val win0_20 t (ix3 0 n r) a).trans ?_)
  rw [off20 t a]
  fin_cases a <;> first | rfl | exact Nat.zero_add _

theorem off21 : ∀ (t : Fin cfg0.N) (a : Fin 3), win0_21.index t a * win0_21.size a = ![t.val / 4, t.val % 4 * 1024, 0] a :=
  (by decide +kernel : ∀ (t : Fin grid0.N) (a : Fin 3), win0_21.index t a * win0_21.size a = ![t.val / 4, t.val % 4 * 1024, 0] a)
theorem emb21 (t : Fin cfg0.N) (r : Fin 1024) (n : Fin 512) : (win0_21.rect t).emb (ix3 0 r n) = (ix3 (bt t) (row t r) n : S8x4096x512.Idx) := by
  refine funext fun a => Fin.ext ((Pipeline.Window.rect_emb_val win0_21 t (ix3 0 r n) a).trans ?_)
  rw [off21 t a]
  fin_cases a <;> first | rfl | exact Nat.zero_add _

theorem off22 : ∀ (t : Fin cfg0.N) (a : Fin 4), win0_22.index t a * win0_22.size a = ![t.val / 4, 0, 0, t.val % 4 * 1024] a :=
  (by decide +kernel : ∀ (t : Fin grid0.N) (a : Fin 4), win0_22.index t a * win0_22.size a = ![t.val / 4, 0, 0, t.val % 4 * 1024] a)
theorem emb22 (t : Fin cfg0.N) (j : Fin 8) (d : Fin 96) (r : Fin 1024) : (win0_22.rect t).emb (ix4 0 j d r) = (ix4 (bt t) j d (row t r) : S8x8x96x4096.Idx) := by
  refine funext fun a => Fin.ext ((Pipeline.Window.rect_emb_val win0_22 t (ix4 0 j d r) a).trans ?_)
  rw [off22 t a]
  fin_cases a <;> first | rfl | exact Nat.zero_add _

theorem off23 : ∀ (t : Fin cfg0.N) (a : Fin 4), win0_23.index t a * win0_23.size a = ![t.val / 4, 0, t.val % 4 * 1024, 0] a :=
  (by decide +kernel : ∀ (t : Fin grid0.N) (a : Fin 4), win0_23.index t a * win0_23.size a = ![t.val / 4, 0, t.val % 4 * 1024, 0] a)
theorem emb23 (t : Fin cfg0.N) (j : Fin 8) (r : Fin 1024) (d : Fin 96) : (win0_23.rect t).emb (ix4 0 j r d) = (ix4 (bt t) j (row t r) d : S8x8x4096x96.Idx) := by
  refine funext fun a => Fin.ext ((Pipeline.Window.rect_emb_val win0_23 t (ix4 0 j r d) a).trans ?_)
  rw [off23 t a]
  fin_cases a <;> first | rfl | exact Nat.zero_add _

theorem off24 : ∀ (t : Fin cfg0.N) (a : Fin 4), win0_24.index t a * win0_24.size a = ![t.val / 4, 0, 0, t.val % 4 * 1024] a :=
  (by decide +kernel : ∀ (t : Fin grid0.N) (a : Fin 4), win0_24.index t a * win0_24.size a = ![t.val / 4, 0, 0, t.val % 4 * 1024] a)
theorem emb24 (t : Fin cfg0.N) (j : Fin 8) (d : Fin 80) (r : Fin 1024) : (win0_24.rect t).emb (ix4 0 j d r) = (ix4 (bt t) j d (row t r) : S8x8x80x4096.Idx) := by
  refine funext fun a => Fin.ext ((Pipeline.Window.rect_emb_val win0_24 t (ix4 0 j d r) a).trans ?_)
  rw [off24 t a]
  fin_cases a <;> first | rfl | exact Nat.zero_add _

/-! ### What a grid point leaves is its block of the results -/

theorem place20_emb (u : Fin 2) (n : Fin 2048) (r : Fin 512) : (place20 u).emb (ix3 0 n r) = ix3 0 n (half u r) := by
  unfold place20 half; idx_ext

theorem flushed20_eq (t : Fin cfg0.N) : (dats m 0 c).flushed 20 t = (win0_20.blk t).view.read (Elt Ideal) (result20 m c) := by
  rw [flushed20]
  show out0_20 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) = _
  rw [out20_eq]
  funext y
  refine View.canon_apply_of_pieces (Val := Elt Ideal) (fun y => (win0_20.blk t).view.read (Elt Ideal) (result20 m c) y) _ ?_ y (cover0_20 _ _ y)
  intro p hp x
  obtain ⟨u, -, rfl⟩ := List.mem_map.mp hp
  obtain ⟨a, n, r, rfl⟩ : ∃ (a : Fin 1) (n : Fin 2048) (r : Fin 512), x = ix3 a n r := ⟨x 0, x 1, x 2, by idx_ext⟩
  rw [Subsingleton.elim a 0]
  refine (piece20_at m c t u r n).trans (Eq.trans ?_ (congrArg (fun y => (win0_20.blk t).view.read (Elt Ideal) (result20 m c) y) (place20_emb u n r)).symm)
  exact (congrArg (result20 m c) (emb20 t n (half u r))).symm

theorem place21_emb (u : Fin 2) (r : Fin 512) (n : Fin 512) : (place21 u).emb (ix3 0 r n) = ix3 0 (half u r) n := by
  unfold place21 half; idx_ext

theorem flushed21_eq (t : Fin cfg0.N) : (dats m 0 c).flushed 21 t = (win0_21.blk t).view.read (Elt Ideal) (result21 m c) := by
  rw [flushed21]
  show out0_21 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) = _
  rw [out21_eq]
  funext y
  refine View.canon_apply_of_pieces (Val := Elt Ideal) (fun y => (win0_21.blk t).view.read (Elt Ideal) (result21 m c) y) _ ?_ y (cover0_21 _ _ y)
  intro p hp x
  obtain ⟨u, -, rfl⟩ := List.mem_map.mp hp
  obtain ⟨a, r, n, rfl⟩ : ∃ (a : Fin 1) (r : Fin 512) (n : Fin 512), x = ix3 a r n := ⟨x 0, x 1, x 2, by idx_ext⟩
  rw [Subsingleton.elim a 0]
  refine (piece21_at m c t u r n).trans (Eq.trans ?_ (congrArg (fun y => (win0_21.blk t).view.read (Elt Ideal) (result21 m c) y) (place21_emb u r n)).symm)
  exact (congrArg (result21 m c) (emb21 t (half u r) n)).symm

theorem place22_emb (u : Fin 2) (j : Fin 8) (d : Fin 96) (r : Fin 512) : (place22 u j).emb (ix4 0 0 d r) = ix4 0 j d (half u r) := by
  unfold place22 half; idx_ext

theorem flushed22_eq (t : Fin cfg0.N) : (dats m 0 c).flushed 22 t = (win0_22.blk t).view.read (Elt Ideal) (result22 m c) := by
  rw [flushed22]
  show out0_22 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) = _
  rw [out22_eq]
  funext y
  refine View.canon_apply_of_pieces (Val := Elt Ideal) (fun y => (win0_22.blk t).view.read (Elt Ideal) (result22 m c) y) _ ?_ y (cover0_22 _ _ _ _ _ _ _ _ _ _ _ _ _ _ _ _ y)
  intro p hp x
  obtain ⟨⟨u, j⟩, -, rfl⟩ := List.mem_map.mp hp
  obtain ⟨a, b, d, r, rfl⟩ : ∃ (a b : Fin 1) (d : Fin 96) (r : Fin 512), x = ix4 a b d r := ⟨x 0, x 1, x 2, x 3, by idx_ext⟩
  rw [Subsingleton.elim a 0, Subsingleton.elim b 0]
  refine (qPiece_at m c t u r j d).trans (Eq.trans ?_ (congrArg (fun y => (win0_22.blk t).view.read (Elt Ideal) (result22 m c) y) (place22_emb u j d r)).symm)
  exact (congrArg (result22 m c) (emb22 t j d (half u r))).symm

theorem place23_emb (u : Fin 2) (j : Fin 8) (r : Fin 512) (d : Fin 96) : (place23 u j).emb (ix4 0 0 r d) = ix4 0 j (half u r) d := by
  unfold place23 half; idx_ext

theorem flushed23_eq (t : Fin cfg0.N) : (dats m 0 c).flushed 23 t = (win0_23.blk t).view.read (Elt Ideal) (result23 m c) := by
  rw [flushed23]
  show out0_23 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) = _
  rw [out23_eq]
  funext y
  refine View.canon_apply_of_pieces (Val := Elt Ideal) (fun y => (win0_23.blk t).view.read (Elt Ideal) (result23 m c) y) _ ?_ y (cover0_23 _ _ _ _ _ _ _ _ _ _ _ _ _ _ _ _ y)
  intro p hp x
  obtain ⟨⟨u, j⟩, -, rfl⟩ := List.mem_map.mp hp
  obtain ⟨a, b, r, d, rfl⟩ : ∃ (a b : Fin 1) (r : Fin 512) (d : Fin 96), x = ix4 a b r d := ⟨x 0, x 1, x 2, x 3, by idx_ext⟩
  rw [Subsingleton.elim a 0, Subsingleton.elim b 0]
  refine (kPiece_at m c t u r j d).trans (Eq.trans ?_ (congrArg (fun y => (win0_23.blk t).view.read (Elt Ideal) (result23 m c) y) (place23_emb u j r d)).symm)
  exact (congrArg (result23 m c) (emb23 t j (half u r) d)).symm

theorem place24_emb (u : Fin 2) (j : Fin 8) (d : Fin 80) (r : Fin 512) : (place24 u j).emb (ix4 0 0 d r) = ix4 0 j d (half u r) := by
  unfold place24 half; idx_ext

theorem flushed24_eq (t : Fin cfg0.N) : (dats m 0 c).flushed 24 t = (win0_24.blk t).view.read (Elt Ideal) (result24 m c) := by
  rw [flushed24]
  show out0_24 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) = _
  rw [out24_eq]
  funext y
  refine View.canon_apply_of_pieces (Val := Elt Ideal) (fun y => (win0_24.blk t).view.read (Elt Ideal) (result24 m c) y) _ ?_ y (cover0_24 _ _ _ _ _ _ _ _ _ _ _ _ _ _ _ _ y)
  intro p hp x
  obtain ⟨⟨u, j⟩, -, rfl⟩ := List.mem_map.mp hp
  obtain ⟨a, b, d, r, rfl⟩ : ∃ (a b : Fin 1) (d : Fin 80) (r : Fin 512), x = ix4 a b d r := ⟨x 0, x 1, x 2, x 3, by idx_ext⟩
  rw [Subsingleton.elim a 0, Subsingleton.elim b 0]
  refine (vPiece_at m c t u r j d).trans (Eq.trans ?_ (congrArg (fun y => (win0_24.blk t).view.read (Elt Ideal) (result24 m c) y) (place24_emb u j d r)).symm)
  exact (congrArg (result24 m c) (emb24 t j d (half u r))).symm

/-! ### The blocks cover the results -/

theorem cover20 (i : S8x2048x4096.Idx) : ∃ t : Fin cfg0.N, (cfg0.win 20).flush t = true ∧ i ∈ ((cfg0.win 20).blk t).view.set := by
  have h0 : (i 0 : Nat) < 8 := (i 0).isLt
  have h1 : (i 1 : Nat) < 2048 := (i 1).isLt
  have h2 : (i 2 : Nat) < 4096 := (i 2).isLt
  have hN : cfg0.N = 32 := rfl
  let t : Fin cfg0.N := ⟨4 * (i 0 : Nat) + (i 2 : Nat) / 1024, by omega⟩
  refine ⟨t, flush0_20 _, ?_⟩
  show i ∈ ((View.whole main_v76_0).slice (win0_20.rect t)).set
  rw [View.set_slice_whole, Rect.mem_set_unit]
  intro a
  have ho := off20 t a
  match a with
  | ⟨0, _⟩ =>
    show win0_20.index t 0 * win0_20.size 0 ≤ (i 0 : Nat) ∧ (i 0 : Nat) < win0_20.index t 0 * win0_20.size 0 + 1
    rw [show win0_20.index t 0 * win0_20.size 0 = (4 * (i 0 : Nat) + (i 2 : Nat) / 1024) / 4 from ho]; omega
  | ⟨1, _⟩ =>
    show win0_20.index t 1 * win0_20.size 1 ≤ (i 1 : Nat) ∧ (i 1 : Nat) < win0_20.index t 1 * win0_20.size 1 + 2048
    rw [show win0_20.index t 1 * win0_20.size 1 = 0 from ho]; omega
  | ⟨2, _⟩ =>
    show win0_20.index t 2 * win0_20.size 2 ≤ (i 2 : Nat) ∧ (i 2 : Nat) < win0_20.index t 2 * win0_20.size 2 + 1024
    rw [show win0_20.index t 2 * win0_20.size 2 = (4 * (i 0 : Nat) + (i 2 : Nat) / 1024) % 4 * 1024 from ho]; omega

theorem cover21 (i : S8x4096x512.Idx) : ∃ t : Fin cfg0.N, (cfg0.win 21).flush t = true ∧ i ∈ ((cfg0.win 21).blk t).view.set := by
  have h0 : (i 0 : Nat) < 8 := (i 0).isLt
  have h1 : (i 1 : Nat) < 4096 := (i 1).isLt
  have h2 : (i 2 : Nat) < 512 := (i 2).isLt
  have hN : cfg0.N = 32 := rfl
  let t : Fin cfg0.N := ⟨4 * (i 0 : Nat) + (i 1 : Nat) / 1024, by omega⟩
  refine ⟨t, flush0_21 _, ?_⟩
  show i ∈ ((View.whole main_v76_1).slice (win0_21.rect t)).set
  rw [View.set_slice_whole, Rect.mem_set_unit]
  intro a
  have ho := off21 t a
  match a with
  | ⟨0, _⟩ =>
    show win0_21.index t 0 * win0_21.size 0 ≤ (i 0 : Nat) ∧ (i 0 : Nat) < win0_21.index t 0 * win0_21.size 0 + 1
    rw [show win0_21.index t 0 * win0_21.size 0 = (4 * (i 0 : Nat) + (i 1 : Nat) / 1024) / 4 from ho]; omega
  | ⟨1, _⟩ =>
    show win0_21.index t 1 * win0_21.size 1 ≤ (i 1 : Nat) ∧ (i 1 : Nat) < win0_21.index t 1 * win0_21.size 1 + 1024
    rw [show win0_21.index t 1 * win0_21.size 1 = (4 * (i 0 : Nat) + (i 1 : Nat) / 1024) % 4 * 1024 from ho]; omega
  | ⟨2, _⟩ =>
    show win0_21.index t 2 * win0_21.size 2 ≤ (i 2 : Nat) ∧ (i 2 : Nat) < win0_21.index t 2 * win0_21.size 2 + 512
    rw [show win0_21.index t 2 * win0_21.size 2 = 0 from ho]; omega

theorem cover22 (i : S8x8x96x4096.Idx) : ∃ t : Fin cfg0.N, (cfg0.win 22).flush t = true ∧ i ∈ ((cfg0.win 22).blk t).view.set := by
  have h0 : (i 0 : Nat) < 8 := (i 0).isLt
  have h1 : (i 1 : Nat) < 8 := (i 1).isLt
  have h2 : (i 2 : Nat) < 96 := (i 2).isLt
  have h3 : (i 3 : Nat) < 4096 := (i 3).isLt
  have hN : cfg0.N = 32 := rfl
  let t : Fin cfg0.N := ⟨4 * (i 0 : Nat) + (i 3 : Nat) / 1024, by omega⟩
  refine ⟨t, flush0_22 _, ?_⟩
  show i ∈ ((View.whole main_v76_2).slice (win0_22.rect t)).set
  rw [View.set_slice_whole, Rect.mem_set_unit]
  intro a
  have ho := off22 t a
  match a with
  | ⟨0, _⟩ =>
    show win0_22.index t 0 * win0_22.size 0 ≤ (i 0 : Nat) ∧ (i 0 : Nat) < win0_22.index t 0 * win0_22.size 0 + 1
    rw [show win0_22.index t 0 * win0_22.size 0 = (4 * (i 0 : Nat) + (i 3 : Nat) / 1024) / 4 from ho]; omega
  | ⟨1, _⟩ =>
    show win0_22.index t 1 * win0_22.size 1 ≤ (i 1 : Nat) ∧ (i 1 : Nat) < win0_22.index t 1 * win0_22.size 1 + 8
    rw [show win0_22.index t 1 * win0_22.size 1 = 0 from ho]; omega
  | ⟨2, _⟩ =>
    show win0_22.index t 2 * win0_22.size 2 ≤ (i 2 : Nat) ∧ (i 2 : Nat) < win0_22.index t 2 * win0_22.size 2 + 96
    rw [show win0_22.index t 2 * win0_22.size 2 = 0 from ho]; omega
  | ⟨3, _⟩ =>
    show win0_22.index t 3 * win0_22.size 3 ≤ (i 3 : Nat) ∧ (i 3 : Nat) < win0_22.index t 3 * win0_22.size 3 + 1024
    rw [show win0_22.index t 3 * win0_22.size 3 = (4 * (i 0 : Nat) + (i 3 : Nat) / 1024) % 4 * 1024 from ho]; omega

theorem cover23 (i : S8x8x4096x96.Idx) : ∃ t : Fin cfg0.N, (cfg0.win 23).flush t = true ∧ i ∈ ((cfg0.win 23).blk t).view.set := by
  have h0 : (i 0 : Nat) < 8 := (i 0).isLt
  have h1 : (i 1 : Nat) < 8 := (i 1).isLt
  have h2 : (i 2 : Nat) < 4096 := (i 2).isLt
  have h3 : (i 3 : Nat) < 96 := (i 3).isLt
  have hN : cfg0.N = 32 := rfl
  let t : Fin cfg0.N := ⟨4 * (i 0 : Nat) + (i 2 : Nat) / 1024, by omega⟩
  refine ⟨t, flush0_23 _, ?_⟩
  show i ∈ ((View.whole main_v76_3).slice (win0_23.rect t)).set
  rw [View.set_slice_whole, Rect.mem_set_unit]
  intro a
  have ho := off23 t a
  match a with
  | ⟨0, _⟩ =>
    show win0_23.index t 0 * win0_23.size 0 ≤ (i 0 : Nat) ∧ (i 0 : Nat) < win0_23.index t 0 * win0_23.size 0 + 1
    rw [show win0_23.index t 0 * win0_23.size 0 = (4 * (i 0 : Nat) + (i 2 : Nat) / 1024) / 4 from ho]; omega
  | ⟨1, _⟩ =>
    show win0_23.index t 1 * win0_23.size 1 ≤ (i 1 : Nat) ∧ (i 1 : Nat) < win0_23.index t 1 * win0_23.size 1 + 8
    rw [show win0_23.index t 1 * win0_23.size 1 = 0 from ho]; omega
  | ⟨2, _⟩ =>
    show win0_23.index t 2 * win0_23.size 2 ≤ (i 2 : Nat) ∧ (i 2 : Nat) < win0_23.index t 2 * win0_23.size 2 + 1024
    rw [show win0_23.index t 2 * win0_23.size 2 = (4 * (i 0 : Nat) + (i 2 : Nat) / 1024) % 4 * 1024 from ho]; omega
  | ⟨3, _⟩ =>
    show win0_23.index t 3 * win0_23.size 3 ≤ (i 3 : Nat) ∧ (i 3 : Nat) < win0_23.index t 3 * win0_23.size 3 + 96
    rw [show win0_23.index t 3 * win0_23.size 3 = 0 from ho]; omega

theorem cover24 (i : S8x8x80x4096.Idx) : ∃ t : Fin cfg0.N, (cfg0.win 24).flush t = true ∧ i ∈ ((cfg0.win 24).blk t).view.set := by
  have h0 : (i 0 : Nat) < 8 := (i 0).isLt
  have h1 : (i 1 : Nat) < 8 := (i 1).isLt
  have h2 : (i 2 : Nat) < 80 := (i 2).isLt
  have h3 : (i 3 : Nat) < 4096 := (i 3).isLt
  have hN : cfg0.N = 32 := rfl
  let t : Fin cfg0.N := ⟨4 * (i 0 : Nat) + (i 3 : Nat) / 1024, by omega⟩
  refine ⟨t, flush0_24 _, ?_⟩
  show i ∈ ((View.whole main_v76_4).slice (win0_24.rect t)).set
  rw [View.set_slice_whole, Rect.mem_set_unit]
  intro a
  have ho := off24 t a
  match a with
  | ⟨0, _⟩ =>
    show win0_24.index t 0 * win0_24.size 0 ≤ (i 0 : Nat) ∧ (i 0 : Nat) < win0_24.index t 0 * win0_24.size 0 + 1
    rw [show win0_24.index t 0 * win0_24.size 0 = (4 * (i 0 : Nat) + (i 3 : Nat) / 1024) / 4 from ho]; omega
  | ⟨1, _⟩ =>
    show win0_24.index t 1 * win0_24.size 1 ≤ (i 1 : Nat) ∧ (i 1 : Nat) < win0_24.index t 1 * win0_24.size 1 + 8
    rw [show win0_24.index t 1 * win0_24.size 1 = 0 from ho]; omega
  | ⟨2, _⟩ =>
    show win0_24.index t 2 * win0_24.size 2 ≤ (i 2 : Nat) ∧ (i 2 : Nat) < win0_24.index t 2 * win0_24.size 2 + 80
    rw [show win0_24.index t 2 * win0_24.size 2 = 0 from ho]; omega
  | ⟨3, _⟩ =>
    show win0_24.index t 3 * win0_24.size 3 ≤ (i 3 : Nat) ∧ (i 3 : Nat) < win0_24.index t 3 * win0_24.size 3 + 1024
    rw [show win0_24.index t 3 * win0_24.size 3 = (4 * (i 0 : Nat) + (i 3 : Nat) / 1024) % 4 * 1024 from ho]; omega

theorem final20 : (dats m 0 c).arrAt 20 cfg0.N = result20 m c :=
  (dats m 0 c).arrAt_eq_of_cover 20 (result20 m c) (fun t _ => flushed20_eq m c t) cover20
theorem final21 : (dats m 0 c).arrAt 21 cfg0.N = result21 m c :=
  (dats m 0 c).arrAt_eq_of_cover 21 (result21 m c) (fun t _ => flushed21_eq m c t) cover21
theorem final22 : (dats m 0 c).arrAt 22 cfg0.N = result22 m c :=
  (dats m 0 c).arrAt_eq_of_cover 22 (result22 m c) (fun t _ => flushed22_eq m c t) cover22
theorem final23 : (dats m 0 c).arrAt 23 cfg0.N = result23 m c :=
  (dats m 0 c).arrAt_eq_of_cover 23 (result23 m c) (fun t _ => flushed23_eq m c t) cover23
theorem final24 : (dats m 0 c).arrAt 24 cfg0.N = result24 m c :=
  (dats m 0 c).arrAt_eq_of_cover 24 (result24 m c) (fun t _ => flushed24_eq m c t) cover24

/-- The run: the five arrays at the results, the arguments unchanged. -/
theorem run_result : θ_run defs (onTc (τ := τ) (main (F := Ideal))) ⟨m, fun _ => 0, ρ⟩ fun r => ∀ c : Dev nD,
    r.2.mem ((c : Thread nD τ).loc main_v76_0) = result20 m c ∧ r.2.mem ((c : Thread nD τ).loc main_v76_1) = result21 m c
      ∧ r.2.mem ((c : Thread nD τ).loc main_v76_2) = result22 m c ∧ r.2.mem ((c : Thread nD τ).loc main_v76_3) = result23 m c
      ∧ r.2.mem ((c : Thread nD τ).loc main_v76_4) = result24 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final20 m c), (h c).2.1.trans (final21 m c), (h c).2.2.1.trans (final22 m c),
    (h c).2.2.2.1.trans (final23 m c), (h c).2.2.2.2.1.trans (final24 m c), (h c).2.2.2.2.2⟩) (run_blocks m ρ)

end Cert.Kernel3Ideal.Projection

end
-- ==== Proof.ProjectionReference.lean ====
/-
  The plain program of the projections, entry by entry: its five results (`res0` … `res4`) and the rows between them, in the
  words of ProjectionRow.lean.
-/
module

public import proofs.«01_k».proof.Proof.ProjectionRow
public import proofs.«01_k».proof.Proof.Gen.Reference3Ideal.Run

@[expose] public section

set_option maxRecDepth 16384

noncomputable section

namespace Cert.Reference3Ideal.Projection

open Cert.Reference3Ideal Cert.Reference3Ideal.Gen Cert.Reference3Ideal.Value Idealize.ShloMosaic Idealize.ShloMosaic.TcCoe Idealize.SL.Sem Idealize.ShloMosaic.StableHlo

variable (V : Valuation τ sig (Elt Ideal))

theorem angle_apply (s : Fin 4096) (f : Fin 16) : res_main_v15 V (ix2 s f) = Cert.Projection.angle s f := by
  pointwise [res_main_v15, Cert.Projection.angle, Cert.Projection.angleAt]

/-- The normalised rows of a matrix of 8 × 4096 rows. -/
theorem proj_apply (b : Fin 8) (s : Fin 4096) (n : Fin 5280) : res_main_v33 V (ix3 b s n)
    = Cert.Projection.down (fun k => V (Proc.devRef .tc main_arg0) (ix3 b s k)) (fun k => V (Proc.devRef .tc main_arg1) (ix2 0 k)) (fun k n => V (Proc.devRef .tc main_arg2) (ix3 0 k n)) n := by
  pointwise [res_main_v33, Cert.Projection.down, Cert.Projection.hidden, Cert.Projection.normed]

theorem q_apply (b : Fin 8) (s : Fin 4096) (j : Fin 8) (e : Fin 96) : res_main_v56 V (ix4 b s j e)
    = Cert.Projection.qRow (fun n => res_main_v33 V (ix3 b s n)) (fun k => V (Proc.devRef .tc main_arg3) (ix2 0 k)) (fun k n => V (Proc.devRef .tc main_arg4) (ix3 0 k n)) j e := by
  pointwise [res_main_v56, res_main_v35, Cert.Projection.qRow, Cert.Projection.latentQ, Cert.Projection.normed]

theorem kv_apply (b : Fin 8) (s : Fin 4096) (j : Fin 8) (e : Fin 128) : res_main_v73 V (ix4 b s j e)
    = Cert.Projection.kvRow (fun n => res_main_v33 V (ix3 b s n)) (fun k => V (Proc.devRef .tc main_arg5) (ix2 0 k)) (fun k n => V (Proc.devRef .tc main_arg6) (ix3 0 k n)) j e := by
  pointwise [res_main_v73, res_main_v36, Cert.Projection.kvRow, Cert.Projection.latentKV, Cert.Projection.normed]

theorem k_apply (b : Fin 8) (s : Fin 4096) (j : Fin 8) (e : Fin 96) : res_main_v78 V (ix4 b s j e)
    = Cert.Projection.kRow (fun n => res_main_v33 V (ix3 b s n)) (fun k => V (Proc.devRef .tc main_arg5) (ix2 0 k)) (fun k n => V (Proc.devRef .tc main_arg6) (ix3 0 k n)) j e := by
  have hkv := kv_apply V b s j
  unfold Cert.Projection.kRow
  simp only [← hkv]
  pointwise [res_main_v78]

theorem qn_apply (b : Fin 8) (s : Fin 4096) (j : Fin 8) (e : Fin 96) : res_main_v92 V (ix4 b s j e)
    = Cert.Projection.normed (Ideal.ofBits .f32 0x42C00000#32) (fun e => res_main_v56 V (ix4 b s j e)) (fun e => V (Proc.devRef .tc main_arg7) (ix2 0 e)) e := by
  pointwise [res_main_v92, Cert.Projection.normed]

theorem kn_apply (b : Fin 8) (s : Fin 4096) (j : Fin 8) (e : Fin 96) : res_main_v106 V (ix4 b s j e)
    = Cert.Projection.normed (Ideal.ofBits .f32 0x42C00000#32) (fun e => res_main_v78 V (ix4 b s j e)) (fun e => V (Proc.devRef .tc main_arg8) (ix2 0 e)) e := by
  pointwise [res_main_v106, Cert.Projection.normed]

/-- The plain program's rotation of the last 32 channels. -/
def rotV (n : FVec Ideal S8x4096x8x96 .f32) (c s : FVec Ideal S4096x16 .f32) : FVec Ideal S8x4096x8x96 .f32 :=
  concatenate S8x4096x8x96 3 [⟨S8x4096x8x64, (extractStridedSlice S8x4096x8x64 ![0, 0, 0, 0] n slices_S8x4096x8x96_S8x4096x8x64_0_0_0_0)⟩, ⟨S8x4096x8x32, (concatenate S8x4096x8x32 3 [⟨S8x4096x8x16, (subf (mulf (extractStridedSlice S8x4096x8x16 ![0, 0, 0, 0] (extractStridedSlice S8x4096x8x32 ![0, 0, 0, 64] n slices_S8x4096x8x96_S8x4096x8x32_0_0_0_64) slices_S8x4096x8x32_S8x4096x8x16_0_0_0_0) (broadcastInDim S8x4096x8x16 ![0, 1, 2, 3] bcast_S1x4096x1x16_S8x4096x8x16_0_1_2_3 (broadcastInDim S1x4096x1x16 ![1, 2, 3] bcast_S4096x1x16_S1x4096x1x16_1_2_3 (broadcastInDim S4096x1x16 ![0, 2] bcast_S4096x16_S4096x1x16_0_2 c)))) (mulf (extractStridedSlice S8x4096x8x16 ![0, 0, 0, 16] (extractStridedSlice S8x4096x8x32 ![0, 0, 0, 64] n slices_S8x4096x8x96_S8x4096x8x32_0_0_0_64) slices_S8x4096x8x32_S8x4096x8x16_0_0_0_16) (broadcastInDim S8x4096x8x16 ![0, 1, 2, 3] bcast_S1x4096x1x16_S8x4096x8x16_0_1_2_3 (broadcastInDim S1x4096x1x16 ![1, 2, 3] bcast_S4096x1x16_S1x4096x1x16_1_2_3 (broadcastInDim S4096x1x16 ![0, 2] bcast_S4096x16_S4096x1x16_0_2 s)))))⟩, ⟨S8x4096x8x16, (addf (mulf (extractStridedSlice S8x4096x8x16 ![0, 0, 0, 0] (extractStridedSlice S8x4096x8x32 ![0, 0, 0, 64] n slices_S8x4096x8x96_S8x4096x8x32_0_0_0_64) slices_S8x4096x8x32_S8x4096x8x16_0_0_0_0) (broadcastInDim S8x4096x8x16 ![0, 1, 2, 3] bcast_S1x4096x1x16_S8x4096x8x16_0_1_2_3 (broadcastInDim S1x4096x1x16 ![1, 2, 3] bcast_S4096x1x16_S1x4096x1x16_1_2_3 (broadcastInDim S4096x1x16 ![0, 2] bcast_S4096x16_S4096x1x16_0_2 s)))) (mulf (extractStridedSlice S8x4096x8x16 ![0, 0, 0, 16] (extractStridedSlice S8x4096x8x32 ![0, 0, 0, 64] n slices_S8x4096x8x96_S8x4096x8x32_0_0_0_64) slices_S8x4096x8x32_S8x4096x8x16_0_0_0_16) (broadcastInDim S8x4096x8x16 ![0, 1, 2, 3] bcast_S1x4096x1x16_S8x4096x8x16_0_1_2_3 (broadcastInDim S1x4096x1x16 ![1, 2, 3] bcast_S4096x1x16_S1x4096x1x16_1_2_3 (broadcastInDim S4096x1x16 ![0, 2] bcast_S4096x16_S4096x1x16_0_2 c)))))⟩] concatenates_S8x4096x8x16_S8x4096x8x16_S8x4096x8x32_d3)⟩] concatenates_S8x4096x8x64_S8x4096x8x32_S8x4096x8x96_d3

theorem rotV_apply (n : FVec Ideal S8x4096x8x96 .f32) (c s : FVec Ideal S4096x16 .f32) (b : Fin 8) (t : Fin 4096) (j : Fin 8) (d : Fin 96) :
    rotV n c s (ix4 b t j d) = Cert.Projection.rotated (fun e => n (ix4 b t j e)) (fun f => c (ix2 t f)) (fun f => s (ix2 t f)) d := by
  pointwise [rotV, Cert.Projection.rotated]
  have hn : ∀ a a' : Fin 96, a.val = a'.val → n (ix4 b t j a) = n (ix4 b t j a') := fun a a' h => by rw [Fin.ext h]
  have ht : ∀ (x : FVec Ideal S4096x16 .f32) (a a' : Fin 16), a.val = a'.val → x (ix2 t a) = x (ix2 t a') := fun x a a' h => by rw [Fin.ext h]
  by_cases h1 : d.val < 64
  · simp only [h1, dite_true]
  by_cases h2 : d.val < 80
  · have h3 : d.val - 64 < 16 := by omega
    simp only [h1, h2, h3, dite_true, dite_false]
    refine congrArg₂ (· - ·) (congrArg (· * _) (hn _ _ ?_)) (congrArg (· * _) (hn _ _ ?_)) <;> simp only <;> omega
  · have h3 : ¬d.val - 64 < 16 := by omega
    simp only [h1, h2, h3, dite_false]
    refine congrArg₂ (· + ·) (congrArg₂ (· * ·) (hn _ _ ?_) (ht _ _ _ ?_)) (congrArg₂ (· * ·) (hn _ _ ?_) (ht _ _ _ ?_)) <;> simp only <;> omega

/-- The plain program's five results. -/
def res0 : Vec Ideal S8x2048x4096 .bf16 := truncf .bf16 (transpose S8x2048x4096 [0, 2, 1] (extractStridedSlice S8x4096x2048 ![0, 0, 0] (res_main_v33 V) slices_S8x4096x5280_S8x4096x2048_0_0_0) transposes_S8x4096x2048_S8x2048x4096_0_2_1) bitsLt_bf16_f32
def res1 : Vec Ideal S8x4096x512 .bf16 := truncf .bf16 (extractStridedSlice S8x4096x512 ![0, 0, 2720] (res_main_v33 V) slices_S8x4096x5280_S8x4096x512_0_0_2720) bitsLt_bf16_f32
def res2 : Vec Ideal S8x8x96x4096 .bf16 := truncf .bf16 (transpose S8x8x96x4096 [0, 2, 3, 1] (Host.divf (rotV (res_main_v92 V) (res_main_v16 V) (res_main_v17 V)) (broadcastInDim S8x4096x8x96 ![] bcast_S_S8x4096x8x96 (mulf (Host.log (constant S_ .f32 0x40000000#32)) (Host.sqrt (constant S_ .f32 0x42C00000#32))))) transposes_S8x4096x8x96_S8x8x96x4096_0_2_3_1) bitsLt_bf16_f32
def res3 : Vec Ideal S8x8x4096x96 .bf16 := truncf .bf16 (transpose S8x8x4096x96 [0, 2, 1, 3] (rotV (res_main_v106 V) (res_main_v16 V) (res_main_v17 V)) transposes_S8x4096x8x96_S8x8x4096x96_0_2_1_3) bitsLt_bf16_f32
def res4 : Vec Ideal S8x8x80x4096 .bf16 := truncf (F := Ideal) .bf16 (transpose S8x8x80x4096 [0, 2, 3, 1] ((concatenate S8x4096x8x80 3 [⟨S8x4096x8x64, ((extractStridedSlice S8x4096x8x64 ![0, 0, 0, 64] (res_main_v73 V) slices_S8x4096x8x128_S8x4096x8x64_0_0_0_64) : (⟨S8x4096x8x64, .f32⟩ : BufTy).Contents (Elt Ideal))⟩, ⟨S8x4096x8x1, ((broadcastInDim S8x4096x8x1 ![] bcast_S_S8x4096x8x1 (constant (F := Ideal) S_ .f32 0x3F800000#32)) : (⟨S8x4096x8x1, .f32⟩ : BufTy).Contents (Elt Ideal))⟩, ⟨S8x4096x8x15, ((broadcastInDim S8x4096x8x15 ![] bcast_S_S8x4096x8x15 (constant (F := Ideal) S_ .f32 0x00000000#32)) : (⟨S8x4096x8x15, .f32⟩ : BufTy).Contents (Elt Ideal))⟩] concatenates_S8x4096x8x64_S8x4096x8x1_S8x4096x8x15_S8x4096x8x80_d3 : (⟨S8x4096x8x80, .f32⟩ : BufTy).Contents (Elt Ideal))) transposes_S8x4096x8x80_S8x8x80x4096_0_2_3_1) bitsLt_bf16_f32

theorem res0_apply (b : Fin 8) (n : Fin 2048) (s : Fin 4096) : res0 V (ix3 b n s) = res_main_v33 V (ix3 b s ⟨n.val, by omega⟩) := by
  pointwise [res0]
theorem res1_apply (b : Fin 8) (s : Fin 4096) (n : Fin 512) : res1 V (ix3 b s n) = res_main_v33 V (ix3 b s ⟨2720 + n.val, by omega⟩) := by
  pointwise [res1]
theorem res2_apply (b j : Fin 8) (d : Fin 96) (s : Fin 4096) : res2 V (ix4 b j d s) = Ideal.div (rotV (res_main_v92 V) (res_main_v16 V) (res_main_v17 V) (ix4 b s j d))
    (Ideal.log (Ideal.ofBits .f32 0x40000000#32) * Ideal.sqrt (Ideal.ofBits .f32 0x42C00000#32)) := by
  pointwise [res2]
theorem res3_apply (b j : Fin 8) (s : Fin 4096) (d : Fin 96) : res3 V (ix4 b j s d) = rotV (res_main_v106 V) (res_main_v16 V) (res_main_v17 V) (ix4 b s j d) := by
  pointwise [res3]
theorem res4_apply (b j : Fin 8) (d : Fin 80) (s : Fin 4096) : res4 V (ix4 b j d s)
    = Cert.Projection.vRow (fun n => res_main_v33 V (ix3 b s n)) (fun k => V (Proc.devRef .tc main_arg5) (ix2 0 k)) (fun k n => V (Proc.devRef .tc main_arg6) (ix3 0 k n)) j d := by
  have hkv := kv_apply V b s j
  unfold Cert.Projection.vRow
  simp only [← hkv]
  pointwise [res4]
  split_ifs <;> first | rfl | omega

theorem cos_apply (s : Fin 4096) (f : Fin 16) : res_main_v16 V (ix2 s f) = Ideal.cos (Cert.Projection.angle s f) :=
  congrArg Ideal.cos (angle_apply V s f)
theorem sin_apply (s : Fin 4096) (f : Fin 16) : res_main_v17 V (ix2 s f) = Ideal.sin (Cert.Projection.angle s f) :=
  congrArg Ideal.sin (angle_apply V s f)

end Cert.Reference3Ideal.Projection

end
-- ==== Proof.ProjectionClaims.lean ====
/-
  The claims about the projections' call: the kernel's five results and the plain program's are the same functions of the
  arguments.
-/
module

public import proofs.«01_k».proof.Defs
public import proofs.«01_k».proof.Proof.ProjectionKernel
public import proofs.«01_k».proof.Proof.ProjectionReference
public import Idealize.ShloMosaic.Lib.Quiescent

@[expose] public section

set_option maxRecDepth 16384

noncomputable section

namespace Cert.Proof.Projection

open Idealize.ShloMosaic Idealize.ShloMosaic.TcCoe Idealize.SL.Sem Idealize.ShloMosaic.StableHlo

/-- The plain program leaves its arguments as they were and has no semaphore. -/
theorem frame_reference : Cert.quiescent_Reference3Ideal := fun m ρ _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m ρ)

/-- The two rounded constants of the kernel named by their real values. -/
theorem preserves : Cert.preserves_Kernel3_Kernel3Ideal :=
  ⟨IdealRules.named_const.statement Cert.Kernel3Ideal.κ "qscale" .f32 _ _ rfl, IdealRules.named_const.statement Cert.Kernel3Ideal.κ "inv_dim" .f32 _ _ rfl⟩

section
open Cert.Reference3Ideal Cert.Reference3Ideal.Value Cert.Reference3Ideal.Projection
open Cert.Projection (down qRow kRow vRow rotated normed angle)

variable (V : Valuation Cert.Reference3Ideal.τ Cert.Reference3Ideal.sig (Elt Ideal))
variable (X : Fin 8 → Fin 4096 → Fin 1024 → EReal) (gn : Fin 1024 → EReal) (win : Fin 1024 → Fin 5280 → EReal) (gcq : Fin 384 → EReal)
  (uq : Fin 384 → Fin 768 → EReal) (gckv : Fin 256 → EReal) (ukv : Fin 256 → Fin 1024 → EReal) (gq gk : Fin 96 → EReal)
  (h0 : ∀ b s k, V (Proc.devRef .tc main_arg0) (ix3 b s k) = X b s k) (h1 : ∀ k, V (Proc.devRef .tc main_arg1) (ix2 0 k) = gn k)
  (h2 : ∀ k n, V (Proc.devRef .tc main_arg2) (ix3 0 k n) = win k n) (h3 : ∀ k, V (Proc.devRef .tc main_arg3) (ix2 0 k) = gcq k)
  (h4 : ∀ k n, V (Proc.devRef .tc main_arg4) (ix3 0 k n) = uq k n) (h5 : ∀ k, V (Proc.devRef .tc main_arg5) (ix2 0 k) = gckv k)
  (h6 : ∀ k n, V (Proc.devRef .tc main_arg6) (ix3 0 k n) = ukv k n) (h7 : ∀ d, V (Proc.devRef .tc main_arg7) (ix2 0 d) = gq d)
  (h8 : ∀ d, V (Proc.devRef .tc main_arg8) (ix2 0 d) = gk d)

include h0 h1 h2 in
/-- The plain program's projected row. -/
theorem row_eq (b : Fin 8) (s : Fin 4096) : (fun n => res_main_v33 V (ix3 b s n)) = down (X b s) gn win :=
  funext fun n => (proj_apply V b s n).trans (by simp only [h0, h1, h2])

include h0 h1 h2 h3 h4 h7 in
theorem queries_eq (b j : Fin 8) (d : Fin 96) (s : Fin 4096) : res2 V (ix4 b j d s)
    = Ideal.div (rotated (normed (Ideal.ofBits .f32 0x42C00000#32) (qRow (down (X b s) gn win) gcq uq j) gq)
        (fun f => Ideal.cos (angle s f)) (fun f => Ideal.sin (angle s f)) d)
        (Ideal.log (Ideal.ofBits .f32 0x40000000#32) * Ideal.sqrt (Ideal.ofBits .f32 0x42C00000#32)) := by
  rw [res2_apply, rotV_apply]
  simp only [qn_apply, q_apply, cos_apply, sin_apply, row_eq V X gn win h0 h1 h2, h3, h4, h7]
  try rfl

include h0 h1 h2 h5 h6 h8 in
theorem keys_eq (b j : Fin 8) (s : Fin 4096) (d : Fin 96) : res3 V (ix4 b j s d)
    = rotated (normed (Ideal.ofBits .f32 0x42C00000#32) (kRow (down (X b s) gn win) gckv ukv j) gk)
        (fun f => Ideal.cos (angle s f)) (fun f => Ideal.sin (angle s f)) d := by
  rw [res3_apply, rotV_apply]
  simp only [kn_apply, k_apply, cos_apply, sin_apply, row_eq V X gn win h0 h1 h2, h5, h6, h8]
  try rfl

include h0 h1 h2 h5 h6 in
theorem values_eq (b j : Fin 8) (d : Fin 80) (s : Fin 4096) : res4 V (ix4 b j d s) = vRow (down (X b s) gn win) gckv ukv j d := by
  rw [res4_apply]
  simp only [row_eq V X gn win h0 h1 h2, h5, h6]

end

set_option maxHeartbeats 1000000 in
/-- From arguments that agree, both programs end with the same five results. -/
theorem algebraic : Cert.algebraic_Kernel3Ideal_Reference3Ideal := by
  intro m ρ m' ρ' _ hagree
  refine ⟨fun c => Cert.Kernel3Ideal.Projection.result20 m c, fun c => Cert.Kernel3Ideal.Projection.result21 m c, fun c => Cert.Kernel3Ideal.Projection.result22 m c,
    fun c => Cert.Kernel3Ideal.Projection.result23 m c, fun c => Cert.Kernel3Ideal.Projection.result24 m c, Cert.Kernel3Ideal.Projection.run_result m ρ, ?_⟩
  refine (θ_run Cert.Reference3Ideal.defs _ _).mono (fun _ h c => ?_) (Cert.Reference3Ideal.Value.run (F := Ideal) m' ρ')
  obtain ⟨h0, h1, h2, h3, h4, h5, h6, h7, h8⟩ := hagree c
  have a0 := fun b s k => congrFun h0 (ix3 b s k)
  have a1 := fun k => congrFun h1 (ix2 0 k)
  have a2 := fun k n => congrFun h2 (ix3 0 k n)
  have a3 := fun k => congrFun h3 (ix2 0 k)
  have a4 := fun k n => congrFun h4 (ix3 0 k n)
  have a5 := fun k => congrFun h5 (ix2 0 k)
  have a6 := fun k n => congrFun h6 (ix3 0 k n)
  have a7 := fun d => congrFun h7 (ix2 0 d)
  have a8 := fun d => congrFun h8 (ix2 0 d)
  have hr := row_eq (launchContents m' c) (Cert.Kernel3Ideal.Projection.argX m c) (Cert.Kernel3Ideal.Projection.argGn m c)
    (Cert.Kernel3Ideal.Projection.argIn m c) a0 a1 a2
  obtain ⟨v0, v1, v2, v3, v4, ha⟩ := h c
  refine ⟨v0.trans ?_, v1.trans ?_, v2.trans ?_, v3.trans ?_, v4.trans ?_, ha⟩
  · funext i
    obtain ⟨b, n, s, rfl⟩ : ∃ (b : Fin 8) (n : Fin 2048) (s : Fin 4096), i = ix3 b n s := ⟨i 0, i 1, i 2, by idx_ext⟩
    exact (Cert.Reference3Ideal.Projection.res0_apply _ b n s).trans (congrFun (hr b s) _)
  · funext i
    obtain ⟨b, s, n, rfl⟩ : ∃ (b : Fin 8) (s : Fin 4096) (n : Fin 512), i = ix3 b s n := ⟨i 0, i 1, i 2, by idx_ext⟩
    exact (Cert.Reference3Ideal.Projection.res1_apply _ b s n).trans (congrFun (hr b s) _)
  · funext i
    obtain ⟨b, j, d, s, rfl⟩ : ∃ (b j : Fin 8) (d : Fin 96) (s : Fin 4096), i = ix4 b j d s := ⟨i 0, i 1, i 2, i 3, by idx_ext⟩
    exact queries_eq _ _ _ _ _ _ _ a0 a1 a2 a3 a4 a7 b j d s
  · funext i
    obtain ⟨b, j, s, d, rfl⟩ : ∃ (b j : Fin 8) (s : Fin 4096) (d : Fin 96), i = ix4 b j s d := ⟨i 0, i 1, i 2, i 3, by idx_ext⟩
    exact keys_eq _ _ _ _ _ _ _ a0 a1 a2 a5 a6 a8 b j s d
  · funext i
    obtain ⟨b, j, d, s, rfl⟩ : ∃ (b j : Fin 8) (d : Fin 80) (s : Fin 4096), i = ix4 b j d s := ⟨i 0, i 1, i 2, i 3, by idx_ext⟩
    exact values_eq _ _ _ _ _ _ a0 a1 a2 a5 a6 b j d s

end Cert.Proof.Projection

end
-- ==== Proof.FilterReference.lean ====
/-
  The filters' network: the position features, the two layers of one position, and the plain program read at an index.
-/
module

public import proofs.«01_k».proof.Proof.Gen.Reference4Ideal.Run
public import Idealize.ShloMosaic.Lib.Pointwise
public import Idealize.ShloMosaic.PureOps.Ideal

@[expose] public section

set_option maxRecDepth 16384

noncomputable section

namespace Cert.Filter

open Idealize.ShloMosaic

/-- The first layer of a position's features. -/
def first (x : Fin 33 → EReal) (w : Fin 33 → Fin 64 → EReal) (b f : Fin 64 → EReal) (n : Fin 64) : EReal :=
  Ideal.sin (f n * ((∑ k, x k * w k n) + b n))

/-- The second layer. -/
def second (h : Fin 64 → EReal) (w : Fin 64 → Fin 64 → EReal) (b f : Fin 64 → EReal) (p : Fin 64) : EReal :=
  Ideal.sin (f p * ((∑ n, h n * w n p) + b p))

/-- The positions in order and reversed. -/
def pos (d : Fin 2) (s : Fin 4096) : Fin 4096 := if d.val < 1 then s else ⟨4095 - s.val, by omega⟩

end Cert.Filter

namespace Cert.Reference4Ideal.Filter

open Cert.Reference4Ideal Cert.Reference4Ideal.Gen Cert.Reference4Ideal.Value Idealize.ShloMosaic Idealize.ShloMosaic.TcCoe Idealize.SL.Sem

/-- The position features: the position, cosines and negated sines. -/
def features : Vec Ideal S4096x33 .f32 :=
  (concatenate S4096x33 1 [⟨S4096x1, ((broadcastInDim S4096x1 ![0] bcast_S4096_S4096x1_0 (concatenate S4096 0 [⟨S4095, (addf (mulf (broadcastInDim S4095 ![0] bcast_S1_S4095_0 (shapeCast _ (id (constant (F := Ideal) S_ .f32 0x00000000#32)) shapeCasts_S_S1)) (subf (broadcastInDim S4095 ![] bcast_S_S4095 (constant (F := Ideal) S_ .f32 0x3F800000#32)) (Host.divf (sitofp (F := Ideal) .f32 (iotaInDim S4095 32 0)) (broadcastInDim S4095 ![] bcast_S_S4095 (constant (F := Ideal) S_ .f32 0x457FF000#32))))) (mulf (broadcastInDim S4095 ![0] bcast_S1_S4095_0 (shapeCast _ (id (constant (F := Ideal) S_ .f32 0x3F800000#32)) shapeCasts_S_S1)) (Host.divf (sitofp (F := Ideal) .f32 (iotaInDim S4095 32 0)) (broadcastInDim S4095 ![] bcast_S_S4095 (constant (F := Ideal) S_ .f32 0x457FF000#32)))))⟩, ⟨S1, (broadcastInDim S1 ![] bcast_S_S1 (id (constant (F := Ideal) S_ .f32 0x3F800000#32)))⟩] concatenates_S4095_S1_S4096_d0)) : (⟨S4096x1, .f32⟩ : BufTy).Contents (Elt Ideal))⟩, ⟨S4096x16, ((Host.cos (mulf (broadcastInDim S4096x16 ![0, 1] bcast_S4096x1_S4096x16_0_1 (mulf (broadcastInDim S4096x1 ![] bcast_S_S4096x1 (constant (F := Ideal) S_ .f32 0x3AC90FDB#32)) (broadcastInDim S4096x1 ![0] bcast_S4096_S4096x1_0 (sitofp (F := Ideal) .f32 (iotaInDim S4096 32 0))))) (broadcastInDim S4096x16 ![0, 1] bcast_S1x16_S4096x16_0_1 (broadcastInDim S1x16 ![1] bcast_S16_S1x16_1 (concatenate S16 0 [⟨S15, (addf (mulf (broadcastInDim S15 ![0] bcast_S1_S15_0 (shapeCast _ (id (constant (F := Ideal) S_ .f32 0x38D1B717#32)) shapeCasts_S_S1)) (subf (broadcastInDim S15 ![] bcast_S_S15 (constant (F := Ideal) S_ .f32 0x3F800000#32)) (Host.divf (sitofp (F := Ideal) .f32 (iotaInDim S15 32 0)) (broadcastInDim S15 ![] bcast_S_S15 (constant (F := Ideal) S_ .f32 0x41700000#32))))) (mulf (broadcastInDim S15 ![0] bcast_S1_S15_0 (shapeCast _ (sitofp (F := Ideal) .f32 (constantI S_ 32 15#32)) shapeCasts_S_S1)) (Host.divf (sitofp (F := Ideal) .f32 (iotaInDim S15 32 0)) (broadcastInDim S15 ![] bcast_S_S15 (constant (F := Ideal) S_ .f32 0x41700000#32)))))⟩, ⟨S1, (broadcastInDim S1 ![] bcast_S_S1 (sitofp (F := Ideal) .f32 (constantI S_ 32 15#32)))⟩] concatenates_S15_S1_S16_d0))))) : (⟨S4096x16, .f32⟩ : BufTy).Contents (Elt Ideal))⟩, ⟨S4096x16, ((Host.negf (Host.sin (mulf (broadcastInDim S4096x16 ![0, 1] bcast_S4096x1_S4096x16_0_1 (mulf (broadcastInDim S4096x1 ![] bcast_S_S4096x1 (constant (F := Ideal) S_ .f32 0x3AC90FDB#32)) (broadcastInDim S4096x1 ![0] bcast_S4096_S4096x1_0 (sitofp (F := Ideal) .f32 (iotaInDim S4096 32 0))))) (broadcastInDim S4096x16 ![0, 1] bcast_S1x16_S4096x16_0_1 (broadcastInDim S1x16 ![1] bcast_S16_S1x16_1 (concatenate S16 0 [⟨S15, (addf (mulf (broadcastInDim S15 ![0] bcast_S1_S15_0 (shapeCast _ (id (constant (F := Ideal) S_ .f32 0x38D1B717#32)) shapeCasts_S_S1)) (subf (broadcastInDim S15 ![] bcast_S_S15 (constant (F := Ideal) S_ .f32 0x3F800000#32)) (Host.divf (sitofp (F := Ideal) .f32 (iotaInDim S15 32 0)) (broadcastInDim S15 ![] bcast_S_S15 (constant (F := Ideal) S_ .f32 0x41700000#32))))) (mulf (broadcastInDim S15 ![0] bcast_S1_S15_0 (shapeCast _ (sitofp (F := Ideal) .f32 (constantI S_ 32 15#32)) shapeCasts_S_S1)) (Host.divf (sitofp (F := Ideal) .f32 (iotaInDim S15 32 0)) (broadcastInDim S15 ![] bcast_S_S15 (constant (F := Ideal) S_ .f32 0x41700000#32)))))⟩, ⟨S1, (broadcastInDim S1 ![] bcast_S_S1 (sitofp (F := Ideal) .f32 (constantI S_ 32 15#32)))⟩] concatenates_S15_S1_S16_d0)))))) : (⟨S4096x16, .f32⟩ : BufTy).Contents (Elt Ideal))⟩] concatenates_S4096x1_S4096x16_S4096x16_S4096x33_d1)

/-- The two layers of all positions, of the features `z`. -/
def layers (z : FVec Ideal S4096x33 .f32) (w1 : FVec Ideal S1x33x64 .f32) (b1 f1 : FVec Ideal S1x64 .f32) (w2 : FVec Ideal S1x64x64 .f32) (b2 f2 : FVec Ideal S1x64 .f32) : FVec Ideal S4096x64 .f32 :=
  Host.sin (mulf (broadcastInDim S4096x64 ![0, 1] bcast_S1x64_S4096x64_0_1 (broadcastInDim S1x64 ![1] bcast_S64_S1x64_1 (shapeCast _ f2 shapeCasts_S1x64_S64))) (addf (Host.dotGeneral dot_S4096x64_S64x64_S4096x64_1_0_0_1_n_n none (Host.sin (mulf (broadcastInDim S4096x64 ![0, 1] bcast_S1x64_S4096x64_0_1 (broadcastInDim S1x64 ![1] bcast_S64_S1x64_1 (shapeCast _ f1 shapeCasts_S1x64_S64))) (addf (Host.dotGeneral dot_S4096x33_S33x64_S4096x64_1_0_0_1_n_n none z (shapeCast _ w1 shapeCasts_S1x33x64_S33x64)) (broadcastInDim S4096x64 ![0, 1] bcast_S1x64_S4096x64_0_1 (broadcastInDim S1x64 ![1] bcast_S64_S1x64_1 (shapeCast _ b1 shapeCasts_S1x64_S64)))))) (shapeCast _ w2 shapeCasts_S1x64x64_S64x64)) (broadcastInDim S4096x64 ![0, 1] bcast_S1x64_S4096x64_0_1 (broadcastInDim S1x64 ![1] bcast_S64_S1x64_1 (shapeCast _ b2 shapeCasts_S1x64_S64)))))

theorem layers_apply (z : FVec Ideal S4096x33 .f32) (w1 : FVec Ideal S1x33x64 .f32) (b1 f1 : FVec Ideal S1x64 .f32) (w2 : FVec Ideal S1x64x64 .f32) (b2 f2 : FVec Ideal S1x64 .f32)
    (s : Fin 4096) (p : Fin 64) : layers z w1 b1 f1 w2 b2 f2 (ix2 s p)
      = Cert.Filter.second (Cert.Filter.first (fun k => z (ix2 s k)) (fun k n => w1 (ix3 0 k n)) (fun n => b1 (ix2 0 n)) (fun n => f1 (ix2 0 n)))
          (fun n p => w2 (ix3 0 n p)) (fun n => b2 (ix2 0 n)) (fun n => f2 (ix2 0 n)) p := by
  pointwise [layers, Cert.Filter.second, Cert.Filter.first]

variable (m : (ℓ : Loc nD τ sig) → Buf (Elt Ideal) ℓ) (c : Dev nD)

/-- The two layers of the program's arguments. -/
def hidden : FVec Ideal S4096x64 .f32 :=
  layers features (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- The result: the positions in order and reversed, the channels first. -/
def both (h : FVec Ideal S4096x64 .f32) : FVec Ideal S2x64x4096 .f32 :=
  transpose S2x64x4096 [0, 2, 1] (concatenate S2x4096x64 0 [⟨S1x4096x64, broadcastInDim S1x4096x64 ![1, 2] bcast_S4096x64_S1x4096x64_1_2 h⟩,
    ⟨S1x4096x64, broadcastInDim S1x4096x64 ![1, 2] bcast_S4096x64_S1x4096x64_1_2 (Host.reverse [0] h)⟩] concatenates_S1x4096x64_S1x4096x64_S2x4096x64_d0) transposes_S2x4096x64_S2x64x4096_0_2_1

theorem res_eq : res_main_v41 m c = both (hidden m c) := rfl

theorem both_apply (h : FVec Ideal S4096x64 .f32) (d : Fin 2) (p : Fin 64) (s : Fin 4096) : both h (ix3 d p s) = h (ix2 (Cert.Filter.pos d s) p) := by
  pointwise [both]
  unfold Cert.Filter.pos
  by_cases hd : d.val < 1
  · simp only [hd, dite_true, if_true]
  · simp only [hd, dite_false, if_false]
    refine congrArg h (congrArg₂ ix2 (Fin.ext ?_) rfl)
    simp [Fin.rev]

/-- The plain program's result at an index. -/
theorem res_apply (d : Fin 2) (p : Fin 64) (s : Fin 4096) : res_main_v41 m c (ix3 d p s)
      = Cert.Filter.second (Cert.Filter.first (fun k => features (ix2 (Cert.Filter.pos d s) k)) (fun k n => m ((c.tc : Thread nD τ).loc main_arg0) (ix3 0 k n))
          (fun n => m ((c.tc : Thread nD τ).loc main_arg1) (ix2 0 n)) (fun n => m ((c.tc : Thread nD τ).loc main_arg2) (ix2 0 n)))
          (fun n p => m ((c.tc : Thread nD τ).loc main_arg3) (ix3 0 n p)) (fun n => m ((c.tc : Thread nD τ).loc main_arg4) (ix2 0 n))
          (fun n => m ((c.tc : Thread nD τ).loc main_arg5) (ix2 0 n)) p := by
  rw [res_eq, both_apply]
  exact layers_apply _ _ _ _ _ _ _ _ _

end Cert.Reference4Ideal.Filter

end
-- ==== Proof.FilterHost.lean ====
/-
  The arrays that the filters' network's host code prepares, read at an index.
-/
module

public import proofs.«01_k».proof.Proof.FilterReference
public import proofs.«01_k».proof.Proof.Gen.Kernel4Ideal.Value
public import Idealize.ShloMosaic.Lib.StableHlo.Run

@[expose] public section

set_option maxRecDepth 16384

noncomputable section

namespace Cert.Kernel4Ideal.Filter

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The features, padded to 128 columns. -/
def padded (z : FVec Ideal S4096x33 .f32) : FVec Ideal S4096x128 .f32 :=
  pad S4096x128 ![0, 0] ![0, 95] ![0, 0] z (sitofp (F := Ideal) .f32 (constantI S_ 32 0#32)) pads_S4096x33_S4096x128_000_0950 h_S_

/-- The padded features in order and reversed, the features first. -/
def stacked (z : FVec Ideal S4096x128 .f32) : FVec Ideal S2x128x4096 .f32 :=
  concatenate S2x128x4096 0 [⟨S1x128x4096, broadcastInDim S1x128x4096 ![1, 2] bcast_S128x4096_S1x128x4096_1_2 (transpose S128x4096 [1, 0] z transposes_S4096x128_S128x4096_1_0)⟩,
    ⟨S1x128x4096, broadcastInDim S1x128x4096 ![1, 2] bcast_S128x4096_S1x128x4096_1_2 (transpose S128x4096 [1, 0] (Host.reverse [0] z) transposes_S4096x128_S128x4096_1_0)⟩] concatenates_S1x128x4096_S1x128x4096_S2x128x4096_d0

set_option maxHeartbeats 2000000 in
/-- The host's features are the plain program's. -/
theorem features_eq : V m c main_v24 = stacked (padded Cert.Reference4Ideal.Filter.features) := by
  show StableHlo.after (List.flatten [hostOps0, hostOps0_1, hostOps0_2, hostOps0_3, hostOps0_4, hostOps0_5, hostOps0_6]) (fun b => m (c, b)) main_v24 = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  rfl

theorem stacked_apply (z : FVec Ideal S4096x128 .f32) (d : Fin 2) (k : Fin 128) (s : Fin 4096) : stacked z (ix3 d k s) = z (ix2 (Cert.Filter.pos d s) k) := by
  pointwise [stacked]
  unfold Cert.Filter.pos
  by_cases hd : d.val < 1
  · simp only [hd, dite_true, if_true]
  · simp only [hd, dite_false, if_false]
    refine congrArg z (congrArg₂ ix2 (Fin.ext ?_) rfl)
    simp [Fin.rev]

theorem padded_apply (z : FVec Ideal S4096x33 .f32) (s : Fin 4096) (k : Fin 128) : padded z (ix2 s k) = if h : k.val < 33 then z (ix2 s ⟨k, h⟩) else 0 := by
  pointwise [padded]
  have h0 : (FloatOps.sitofp (F := Ideal) .f32 0#32 : EReal) = 0 := by simp [FloatOps.sitofp]
  rw [h0]

/-- The first layer's weights, with 95 zero rows. -/
theorem w1_apply (n : Fin 64) (k : Fin 128) : V m c main_v25 (ix2 n k) = if h : k.val < 33 then m ((c.tc : Thread nD τ).loc main_arg0) (ix3 0 ⟨k, h⟩ n) else (0 : EReal) := by
  show StableHlo.after (List.flatten [hostOps0, hostOps0_1, hostOps0_2, hostOps0_3, hostOps0_4, hostOps0_5, hostOps0_6]) (fun b => m (c, b)) main_v25 _ = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  pointwise
  after_results_simp
  by_cases h : k.val < 33
  · simp only [h, dite_true]
    pointwise
  · simp only [h, dite_false]
    pointwise

/-- The first layer's biases. -/
theorem b1_apply (n : Fin 64) : V m c main_v27 (ix2 n 0) = m ((c.tc : Thread nD τ).loc main_arg1) (ix2 0 n) := by
  show StableHlo.after (List.flatten [hostOps0, hostOps0_1, hostOps0_2, hostOps0_3, hostOps0_4, hostOps0_5, hostOps0_6]) (fun b => m (c, b)) main_v27 _ = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  pointwise

/-- The first layer's frequencies. -/
theorem f1_apply (n : Fin 64) : V m c main_v29 (ix2 n 0) = m ((c.tc : Thread nD τ).loc main_arg2) (ix2 0 n) := by
  show StableHlo.after (List.flatten [hostOps0, hostOps0_1, hostOps0_2, hostOps0_3, hostOps0_4, hostOps0_5, hostOps0_6]) (fun b => m (c, b)) main_v29 _ = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  pointwise

/-- The second layer's weights. -/
theorem w2_apply (p n : Fin 64) : V m c main_v31 (ix2 p n) = m ((c.tc : Thread nD τ).loc main_arg3) (ix3 0 n p) := by
  show StableHlo.after (List.flatten [hostOps0, hostOps0_1, hostOps0_2, hostOps0_3, hostOps0_4, hostOps0_5, hostOps0_6]) (fun b => m (c, b)) main_v31 _ = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  pointwise

/-- The second layer's biases. -/
theorem b2_apply (n : Fin 64) : V m c main_v33 (ix2 n 0) = m ((c.tc : Thread nD τ).loc main_arg4) (ix2 0 n) := by
  show StableHlo.after (List.flatten [hostOps0, hostOps0_1, hostOps0_2, hostOps0_3, hostOps0_4, hostOps0_5, hostOps0_6]) (fun b => m (c, b)) main_v33 _ = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  pointwise

/-- The second layer's frequencies. -/
theorem f2_apply (n : Fin 64) : V m c main_v35 (ix2 n 0) = m ((c.tc : Thread nD τ).loc main_arg5) (ix2 0 n) := by
  show StableHlo.after (List.flatten [hostOps0, hostOps0_1, hostOps0_2, hostOps0_3, hostOps0_4, hostOps0_5, hostOps0_6]) (fun b => m (c, b)) main_v35 _ = _
  simp only [hostOps0, hostOps0_1, hostOps0_2, hostOps0_3, hostOps0_4, hostOps0_5, hostOps0_6, List.flatten_cons, List.flatten_nil, List.append_nil, List.cons_append, List.nil_append,
    StableHlo.TRef.reshape, StableHlo.TRef.binary, StableHlo.TRef.nullary, StableHlo.TRef.unary, StableHlo.TRef.toBuf, StableHlo.TRef.ofBuf, cast_eq]
  after_results_simp
  pointwise

end Cert.Kernel4Ideal.Filter

end
-- ==== Proof.FilterKernel.lean ====
/-
  The filters' network's kernel read at an index: a grid point's block is the two layers of each position's features
  (`out_eq`), and with the host's arrays in place so is the result's array (`final`).
-/
module

public import proofs.«01_k».proof.Proof.FilterHost

@[expose] public section

set_option maxRecDepth 16384

noncomputable section

namespace Cert.Kernel4Ideal.Filter

open Cert.Kernel4Ideal Cert.Kernel4Ideal.Gen Idealize.ShloMosaic Idealize.ShloMosaic.TcCoe Idealize.SL.Sem

/-- A sum over 128 whose terms vanish from 33 on. -/
theorem sum_pad (x w : Fin 33 → EReal) :
    (∑ k : Fin 128, (if h : k.val < 33 then w ⟨k, h⟩ else 0) * (if h : k.val < 33 then x ⟨k, h⟩ else 0)) = ∑ k, x k * w k := by
  rw [Fin.sum_univ_add (a := 33) (b := 95)]
  have hr : ∀ k : Fin 95, ¬ (Fin.natAdd 33 k : Fin 128).val < 33 := fun k => by simp
  have hl : ∀ k : Fin 33, (Fin.castAdd 95 k : Fin 128).val < 33 := fun k => by simp
  simp only [hr, hl, dite_true, dite_false, mul_zero, Finset.sum_const_zero, add_zero]
  exact Finset.sum_congr rfl fun k _ => mul_comm _ _

/-- The stored block at an index. -/
theorem pay_apply (f1 : Vec Ideal S64x1 .f32) (w1 : Vec Ideal S64x128 .f32) (z : Vec Ideal S1x128x4096 .f32) (b1 f2 : Vec Ideal S64x1 .f32) (w2 : Vec Ideal S64x64 .f32) (b2 : Vec Ideal S64x1 .f32)
    (p : Fin 64) (s : Fin 4096) :
    k0_pay1 f1 w1 z b1 f2 w2 b2 (ix3 0 p s)
      = Ideal.sin (f2 (ix2 p 0) * ((∑ n : Fin 64, w2 (ix2 p n) * Ideal.sin (f1 (ix2 n 0) * ((∑ k : Fin 128, w1 (ix2 n k) * z (ix3 0 k s)) + b1 (ix2 n 0)))) + b2 (ix2 p 0))) := by
  pointwise [k0_pay1]

/-- A grid point's block of results, of its loaded blocks. -/
theorem out_eq (z : Vec Ideal S1x128x4096 .f32) (w1 : Vec Ideal S64x128 .f32) (b1 f1 : Vec Ideal S64x1 .f32) (w2 : Vec Ideal S64x64 .f32) (b2 f2 : Vec Ideal S64x1 .f32)
    (p : Fin 64) (s : Fin 4096) :
    out0_7 z w1 b1 f1 w2 b2 f2 (ix3 0 p s)
      = Ideal.sin (f2 (ix2 p 0) * ((∑ n : Fin 64, w2 (ix2 p n) * Ideal.sin (f1 (ix2 n 0) * ((∑ k : Fin 128, w1 (ix2 n k) * z (ix3 0 k s)) + b1 (ix2 n 0)))) + b2 (ix2 p 0))) := by
  have hG : out0_7 z w1 b1 f1 w2 b2 f2 (ix3 0 p s) = k0_pay1 f1 w1 z b1 f2 w2 b2 (ix3 0 p s) := by
    refine View.canon_apply_of_pieces (Val := Elt Ideal) (k0_pay1 f1 w1 z b1 f2 w2 b2) _ ?_ (ix3 0 p s) (cover0_7 _ (ix3 0 p s))
    intro q hq x
    simp only [List.mem_singleton] at hq
    subst hq
    obtain ⟨a, r, e, rfl⟩ : ∃ (a : Fin 1) (r : Fin 64) (e : Fin 4096), x = ix3 a r e := ⟨x 0, x 1, x 2, by idx_ext⟩
    rw [Subsingleton.elim a 0]
    have he : r0_4.emb (ix3 0 r e) = (ix3 0 r e : S1x64x4096.Idx) := by idx_ext
    rw [he]
    refine (pay_apply _ _ _ _ _ _ _ _ _).trans ((?_ : _ = _).trans (pay_apply _ _ _ _ _ _ _ _ _).symm)
    pointwise
  exact hG.trans (pay_apply _ _ _ _ _ _ _ _ _)

variable (m : (ℓ : Loc nD τ sig) → Buf (Elt Ideal) ℓ) (ρ : Dev nD → PrngReg) (c : Dev nD)

/-- The direction of a grid point. -/
def dir (t : Fin cfg0.N) : Fin 2 := ⟨t.val, t.isLt⟩

/-- The tile of the features. -/
theorem blk0 (t : Fin cfg0.N) (k : Fin 128) (s : Fin 4096) : iblk m c 0 t (ix3 0 k s)
    = (if h : k.val < 33 then Cert.Reference4Ideal.Filter.features (ix2 (Cert.Filter.pos (dir t) s) ⟨k, h⟩) else (0 : EReal)) := by
  have ho : ∀ (t : Fin cfg0.N) (a : Fin 3), win0_0.index t a * win0_0.size a = ![t.val, 0, 0] a :=
    (by decide +kernel : ∀ (t : Fin grid0.N) (a : Fin 3), win0_0.index t a * win0_0.size a = ![t.val, 0, 0] a)
  have he : (win0_0.rect t).emb (ix3 0 k s) = (ix3 (dir t) k s : S2x128x4096.Idx) := by
    refine funext fun a => Fin.ext ((Pipeline.Window.rect_emb_val win0_0 t (ix3 0 k s) a).trans ?_)
    rw [ho t a]
    fin_cases a <;> first | rfl | exact Nat.zero_add _
  show V m c main_v24 ((win0_0.rect t).emb (ix3 0 k s)) = _
  rw [he]
  exact (congrFun (features_eq m c) _).trans ((stacked_apply _ _ _ _).trans (padded_apply _ _ _))

/-- Window 1 holds its whole array. -/
theorem blk1 (t : Fin cfg0.N) (n : Fin 64) (k : Fin 128) : iblk m c 1 t (ix2 n k) = (if h : k.val < 33 then m ((c.tc : Thread nD τ).loc main_arg0) (ix3 0 ⟨k, h⟩ n) else (0 : EReal)) := by
  have h0 : ∀ (t : Fin cfg0.N) (a : Fin 2), win0_1.index t a = 0 := (by decide +kernel : ∀ (t : Fin grid0.N) (a : Fin 2), win0_1.index t a = 0)
  refine Eq.trans ?_ (w1_apply m c n k)
  exact congrArg (V m c main_v25) (funext fun a => Fin.ext (Pipeline.Window.rect_emb_val_of_index_zero win0_1 t a (h0 t a) _))

/-- Window 2 holds its whole array. -/
theorem blk2 (t : Fin cfg0.N) (n : Fin 64) : iblk m c 2 t (ix2 n 0) = m ((c.tc : Thread nD τ).loc main_arg1) (ix2 0 n) := by
  have h0 : ∀ (t : Fin cfg0.N) (a : Fin 2), win0_2.index t a = 0 := (by decide +kernel : ∀ (t : Fin grid0.N) (a : Fin 2), win0_2.index t a = 0)
  refine Eq.trans ?_ (b1_apply m c n)
  exact congrArg (V m c main_v27) (funext fun a => Fin.ext (Pipeline.Window.rect_emb_val_of_index_zero win0_2 t a (h0 t a) _))

/-- Window 3 holds its whole array. -/
theorem blk3 (t : Fin cfg0.N) (n : Fin 64) : iblk m c 3 t (ix2 n 0) = m ((c.tc : Thread nD τ).loc main_arg2) (ix2 0 n) := by
  have h0 : ∀ (t : Fin cfg0.N) (a : Fin 2), win0_3.index t a = 0 := (by decide +kernel : ∀ (t : Fin grid0.N) (a : Fin 2), win0_3.index t a = 0)
  refine Eq.trans ?_ (f1_apply m c n)
  exact congrArg (V m c main_v29) (funext fun a => Fin.ext (Pipeline.Window.rect_emb_val_of_index_zero win0_3 t a (h0 t a) _))

/-- Window 4 holds its whole array. -/
theorem blk4 (t : Fin cfg0.N) (p n : Fin 64) : iblk m c 4 t (ix2 p n) = m ((c.tc : Thread nD τ).loc main_arg3) (ix3 0 n p) := by
  have h0 : ∀ (t : Fin cfg0.N) (a : Fin 2), win0_4.index t a = 0 := (by decide +kernel : ∀ (t : Fin grid0.N) (a : Fin 2), win0_4.index t a = 0)
  refine Eq.trans ?_ (w2_apply m c p n)
  exact congrArg (V m c main_v31) (funext fun a => Fin.ext (Pipeline.Window.rect_emb_val_of_index_zero win0_4 t a (h0 t a) _))

/-- Window 5 holds its whole array. -/
theorem blk5 (t : Fin cfg0.N) (n : Fin 64) : iblk m c 5 t (ix2 n 0) = m ((c.tc : Thread nD τ).loc main_arg4) (ix2 0 n) := by
  have h0 : ∀ (t : Fin cfg0.N) (a : Fin 2), win0_5.index t a = 0 := (by decide +kernel : ∀ (t : Fin grid0.N) (a : Fin 2), win0_5.index t a = 0)
  refine Eq.trans ?_ (b2_apply m c n)
  exact congrArg (V m c main_v33) (funext fun a => Fin.ext (Pipeline.Window.rect_emb_val_of_index_zero win0_5 t a (h0 t a) _))

/-- Window 6 holds its whole array. -/
theorem blk6 (t : Fin cfg0.N) (n : Fin 64) : iblk m c 6 t (ix2 n 0) = m ((c.tc : Thread nD τ).loc main_arg5) (ix2 0 n) := by
  have h0 : ∀ (t : Fin cfg0.N) (a : Fin 2), win0_6.index t a = 0 := (by decide +kernel : ∀ (t : Fin grid0.N) (a : Fin 2), win0_6.index t a = 0)
  refine Eq.trans ?_ (f2_apply m c n)
  exact congrArg (V m c main_v35) (funext fun a => Fin.ext (Pipeline.Window.rect_emb_val_of_index_zero win0_6 t a (h0 t a) _))

/-- The result, from the arguments: the two layers of each position, the positions in order and reversed. -/
def result : Buf (Elt Ideal) ((c : Thread nD τ).loc main_v36) := fun (i : S2x64x4096.Idx) =>
  Cert.Filter.second (Cert.Filter.first (fun k => Cert.Reference4Ideal.Filter.features (ix2 (Cert.Filter.pos (i 0) (i 2)) k))
    (fun k n => m ((c.tc : Thread nD τ).loc main_arg0) (ix3 0 k n)) (fun n => m ((c.tc : Thread nD τ).loc main_arg1) (ix2 0 n)) (fun n => m ((c.tc : Thread nD τ).loc main_arg2) (ix2 0 n)))
    (fun n p => m ((c.tc : Thread nD τ).loc main_arg3) (ix3 0 n p)) (fun n => m ((c.tc : Thread nD τ).loc main_arg4) (ix2 0 n)) (fun n => m ((c.tc : Thread nD τ).loc main_arg5) (ix2 0 n)) (i 1)

/-- A grid point's block at an index is the result there. -/
theorem block_apply (t : Fin cfg0.N) (p : Fin 64) (s : Fin 4096) :
    out0_7 (iblk m c 0 t) (iblk m c 1 t) (iblk m c 2 t) (iblk m c 3 t) (iblk m c 4 t) (iblk m c 5 t) (iblk m c 6 t) (ix3 0 p s) = result m c (ix3 (dir t) p s) := by
  refine (out_eq _ _ _ _ _ _ _ p s).trans ?_
  rw [blk6 m c t p, blk5 m c t p]
  refine congrArg Ideal.sin (congrArg₂ (· * ·) rfl (congrArg₂ (· + ·) (Finset.sum_congr rfl fun n _ => ?_) rfl))
  rw [blk4 m c t p n, blk3 m c t n, blk2 m c t n]
  refine (mul_comm _ _).trans (congrArg₂ (· * ·) (congrArg Ideal.sin (congrArg₂ (· * ·) rfl (congrArg₂ (· + ·) ?_ rfl))) rfl)
  refine Eq.trans (Finset.sum_congr rfl fun k _ => ?_) (sum_pad _ _)
  exact congrArg₂ (· * ·) (blk1 m c t n k) (blk0 m c t k s)

/-- Where a grid point's tile of the result begins. -/
theorem off7 : ∀ (t : Fin cfg0.N) (a : Fin 3), win0_7.index t a * win0_7.size a = ![t.val, 0, 0] a :=
  (by decide +kernel : ∀ (t : Fin grid0.N) (a : Fin 3), win0_7.index t a * win0_7.size a = ![t.val, 0, 0] a)

/-- Where a grid point's tile lies in the result. -/
theorem emb7 (t : Fin cfg0.N) (p : Fin 64) (s : Fin 4096) : (win0_7.rect t).emb (ix3 0 p s) = (ix3 (dir t) p s : S2x64x4096.Idx) := by
  refine funext fun a => Fin.ext ((Pipeline.Window.rect_emb_val win0_7 t (ix3 0 p s) a).trans ?_)
  rw [off7 t a]
  fin_cases a <;> first | rfl | exact Nat.zero_add _

/-- What a grid point writes back is its block of the result. -/
theorem flushed_eq (t : Fin cfg0.N) :
    (dats m 0 c).flushed 7 t = (win0_7.blk t).view.read (Elt Ideal) (result m c) := by
  rw [Value.flushed7]
  funext y
  obtain ⟨a, p, s, rfl⟩ : ∃ (a : Fin 1) (p : Fin 64) (s : Fin 4096), y = ix3 a p s := ⟨y 0, y 1, y 2, by idx_ext⟩
  rw [Subsingleton.elim a 0]
  exact (block_apply m c t p s).trans (congrArg (result m c) (emb7 t p s).symm)

/-- Every index of the result lies in the block of its direction. -/
theorem cover (i : S2x64x4096.Idx) :
    ∃ t : Fin cfg0.N, (cfg0.win 7).flush t = true ∧ i ∈ ((cfg0.win 7).blk t).view.set := by
  have h1 : (i 1 : Nat) < 64 := (i 1).isLt
  have h2 : (i 2 : Nat) < 4096 := (i 2).isLt
  let t : Fin cfg0.N := ⟨(i 0 : Nat), (i 0).isLt⟩
  refine ⟨t, flush0_7 _, ?_⟩
  show i ∈ ((View.whole main_v36).slice (win0_7.rect t)).set
  rw [View.set_slice_whole, Rect.mem_set_unit]
  intro a
  have ho := off7 t a
  match a with
  | ⟨0, _⟩ =>
    show win0_7.index t 0 * win0_7.size 0 ≤ (i 0 : Nat) ∧ (i 0 : Nat) < win0_7.index t 0 * win0_7.size 0 + 1
    rw [show win0_7.index t 0 * win0_7.size 0 = (i 0 : Nat) from ho]; omega
  | ⟨1, _⟩ =>
    show win0_7.index t 1 * win0_7.size 1 ≤ (i 1 : Nat) ∧ (i 1 : Nat) < win0_7.index t 1 * win0_7.size 1 + 64
    rw [show win0_7.index t 1 * win0_7.size 1 = 0 from ho]; omega
  | ⟨2, _⟩ =>
    show win0_7.index t 2 * win0_7.size 2 ≤ (i 2 : Nat) ∧ (i 2 : Nat) < win0_7.index t 2 * win0_7.size 2 + 4096
    rw [show win0_7.index t 2 * win0_7.size 2 = 0 from ho]; omega

/-- The result's array after the run. -/
theorem final : (dats m 0 c).arrAt 7 cfg0.N = result m c :=
  (dats m 0 c).arrAt_eq_of_cover 7 (result m c) (fun t _ => flushed_eq m c t) cover

end Cert.Kernel4Ideal.Filter

end
-- ==== Proof.FilterClaims.lean ====
/-
  The claims about the filters' network: the kernel's result and the plain program's are one function of the arguments.
-/
module

public import proofs.«01_k».proof.Defs
public import proofs.«01_k».proof.Proof.FilterKernel
public import Idealize.ShloMosaic.Lib.Quiescent

@[expose] public section

noncomputable section

namespace Cert.Proof.Filter

open Idealize.ShloMosaic Idealize.ShloMosaic.TcCoe Idealize.SL.Sem

/-- The plain program leaves its arguments as they were and has no semaphore. -/
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- From arguments that agree, both programs end with the same result. -/
theorem algebraic : Cert.algebraic_Kernel4Ideal_Reference4Ideal := by
  intro m ρ m' ρ' _ hagree
  refine ⟨fun c => Cert.Kernel4Ideal.Filter.result m c, ?_, ?_⟩
  · exact (θ_run Cert.Kernel4Ideal.defs _ _).mono (fun _ h c => ⟨((h c).1).trans (Cert.Kernel4Ideal.Filter.final m c), (h c).2⟩) (Cert.Kernel4Ideal.Value.run_blocks m ρ)
  · refine (θ_run Cert.Reference4Ideal.defs _ _).mono (fun _ h c => ⟨(h c).1.trans ?_, (h c).2⟩) (Cert.Reference4Ideal.Value.run (F := Ideal) m' ρ')
    obtain ⟨h0, h1, h2, h3, h4, h5⟩ := hagree c
    funext i
    obtain ⟨d, p, s, rfl⟩ : ∃ (d : Fin 2) (p : Fin 64) (s : Fin 4096), i = ix3 d p s := ⟨i 0, i 1, i 2, by idx_ext⟩
    refine (Cert.Reference4Ideal.Filter.res_apply m' c d p s).trans ?_
    rw [h0, h1, h2, h3, h4, h5]
    rfl

end Cert.Proof.Filter

end
-- ==== Proof.lean ====
/-
  The proof of `Cert.Claim`: the programs' stated facts, then each claim from its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_qk
public import proofs.«01_k».proof.Proof.AttendClaims
public import proofs.«01_k».proof.Proof.MergeClaims
public import proofs.«01_k».proof.Proof.ProjectionFrame
public import proofs.«01_k».proof.Proof.ProjectionClaims
public import proofs.«01_k».proof.Proof.FilterClaims
public import Idealize.ShloMosaic.Adequacy
public import Idealize.ShloMosaic.Init

@[expose] public section

noncomputable section

-- The claims about Kernel, KernelIdeal, ReferenceIdeal, Kernel2, Kernel2Ideal, Reference2Ideal, Kernel3, Kernel3Ideal, Reference3Ideal, Kernel4, Kernel4Ideal, Reference4Ideal also say that every semaphore counter ends at zero; the proof must show that too.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_qk.Gen.facts,
  fun m ρ _ => Cert.Kernel.Gen.frame m ρ,
  fun m ρ _ => Cert.KernelIdeal.Gen.frame m ρ,
  fun m ρ _ => Cert.KernelIdeal.Gen.frame m ρ,
  Cert.Proof.Attend.frame_reference,
  fun m ρ _ => Cert.Proof.Attend.frame_reference m ρ trivial,
  fun m ρ _ => Cert.Kernel2.Gen.frame m ρ,
  fun m ρ _ => Cert.Kernel2Ideal.Gen.frame m ρ,
  Cert.Proof.Merge.frame_reference,
  fun m ρ _ => Cert.Kernel3.Projection.frame m ρ,
  fun m ρ _ => Cert.Kernel3Ideal.Projection.frame m ρ,
  Cert.Proof.Projection.frame_reference,
  fun m ρ _ => Cert.Kernel4.Gen.frame m ρ,
  fun m ρ _ => Cert.Kernel4Ideal.Gen.frame m ρ,
  Cert.Proof.Filter.frame_reference,
  trivial,
  Cert.Proof.Attend.algebraic,
  trivial,
  Cert.Proof.Merge.algebraic,
  Cert.Proof.Projection.preserves,
  Cert.Proof.Projection.algebraic,
  trivial,
  Cert.Proof.Filter.algebraic⟩

end Cert.Proof

end
